-- ==== Defs.lean ====
def Pre_Kernel [hPre_tokens_routed : Cert.Pre_tokens_routed.Facts] (m : (ℓ : Loc Cert.Kernel.nD Cert.Kernel.τ Cert.Kernel.sig) → Buf (Elt Bits) ℓ) : Prop :=
  ∀ c : Dev Cert.Kernel.nD,
    (Cert.Pre_tokens_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tokens_routed : Cert.Pre_tokens_routed.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_routed [hPre_tokens_routed : Cert.Pre_tokens_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tokens_routed : Cert.Pre_tokens_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tokens_routed : Cert.Pre_tokens_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_routed [hReferenceIdeal : Cert.ReferenceIdeal.Facts] [hPre_tokens_routed : Cert.Pre_tokens_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_all_but_new_entry [hKernelIdeal : Cert.KernelIdeal.Facts] [hReferenceIdeal : Cert.ReferenceIdeal.Facts] [hPre_tokens_routed : Cert.Pre_tokens_routed.Facts] [hOn_all_but_new_entry : Cert.On_all_but_new_entry.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![5, 6144, 3072]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨1, ![1]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨1, ![1]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v0_2) i = v2 c i)
          ∧ (∀ i : (⟨1, ![24]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v0_3) i = v3 c i)
          ∧ (∀ i : (⟨1, ![24]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.KernelIdeal.nD Cert.KernelIdeal.τ).loc Cert.KernelIdeal.main_v0_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![5, 6144, 3072]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v36) i = v0 c i)
          ∧ (∀ i : (⟨1, ![1]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v43) i = v1 c i)
          ∧ (∀ i : (⟨1, ![1]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v44) i = v2 c i)
          ∧ (∀ i : (⟨1, ![24]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v39) i = v3 c i)
          ∧ (∀ i : (⟨1, ![24]⟩ : Shape).Idx, (Cert.On_all_but_new_entry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.ReferenceIdeal.nD Cert.ReferenceIdeal.τ).loc Cert.ReferenceIdeal.main_v42) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_routed : Cert.Pre_tokens_routed.Facts) (hOn_all_but_new_entry : Cert.On_all_but_new_entry.Facts),
    quiescent_Kernel (hKernel := hKernel) (hPre_tokens_routed := hPre_tokens_routed)
    ∧ quiescent_KernelIdeal (hKernelIdeal := hKernelIdeal) (hPre_tokens_routed := hPre_tokens_routed)
    ∧ quiescent_ReferenceIdeal (hReferenceIdeal := hReferenceIdeal)
    ∧ quiescent_ReferenceIdeal_pre_tokens_routed (hReferenceIdeal := hReferenceIdeal) (hPre_tokens_routed := hPre_tokens_routed)
    ∧ preserves_Kernel_KernelIdeal
    ∧ algebraic_KernelIdeal_ReferenceIdeal_on_all_but_new_entry (hKernelIdeal := hKernelIdeal) (hReferenceIdeal := hReferenceIdeal) (hPre_tokens_routed := hPre_tokens_routed) (hOn_all_but_new_entry := hOn_all_but_new_entry)
-- ==== On_all_but_new_entry.lean ====
abbrev S5 : Shape := ⟨1, ![5]⟩
abbrev S24 : Shape := ⟨1, ![24]⟩
abbrev S1408x3072 : Shape := ⟨2, ![1408, 3072]⟩
abbrev S12x256x2816 : Shape := ⟨3, ![12, 256, 2816]⟩
abbrev S_ : Shape := ⟨0, ![]⟩
abbrev S5x6144x3072 : Shape := ⟨3, ![5, 6144, 3072]⟩
abbrev S1 : Shape := ⟨1, ![1]⟩

class Facts : Prop where
  bcast_S_S24 : S_.BroadcastsInDim S24 (![] : Fin 0 → Fin S24.rank)
  bcast_S_S5x6144x3072 : S_.BroadcastsInDim S5x6144x3072 (![] : Fin 0 → Fin S5x6144x3072.rank)
  bcast_S_S1 : S_.BroadcastsInDim S1 (![] : Fin 0 → Fin S1.rank)

variable [Facts]

def fn {F : FTy → Type} [FloatOps F] (main_arg0 : IVec S5 32) (main_arg1 : FVec F S24 .f32) (main_arg2 : FVec F S24 .f32) (main_arg3 : IVec S1408x3072 32) (main_arg4 : IVec S12x256x2816 32) : IVec S5x6144x3072 1 × IVec S1 1 × IVec S1 1 × IVec S24 1 × IVec S24 1 :=
  let main_v0 : IVec S24 32 := iotaInDim S24 32 0
  let main_c : IVec S_ 32 := constantI S_ 32 0#32
  let main_v1 : IVec S24 32 := broadcastInDim S24 ![] bcast_S_S24 main_c
  let main_v2 : IVec S24 1 := cmpi .sgt main_v0 main_v1
  let main_c_0 : IVec S_ 1 := constantI S_ 1 1#1
  let main_v3 : IVec S5x6144x3072 1 := broadcastInDim S5x6144x3072 ![] bcast_S_S5x6144x3072 main_c_0
  let main_c_1 : IVec S_ 1 := constantI S_ 1 1#1
  let main_v4 : IVec S1 1 := broadcastInDim S1 ![] bcast_S_S1 main_c_1
  let main_c_2 : IVec S_ 1 := constantI S_ 1 1#1
  let main_v5 : IVec S1 1 := broadcastInDim S1 ![] bcast_S_S1 main_c_2
  (main_v3, main_v4, main_v5, main_v2, main_v2)
-- ==== Pre_tokens_routed.lean ====
abbrev S5 : Shape := ⟨1, ![5]⟩
abbrev S24 : Shape := ⟨1, ![24]⟩
abbrev S1408x3072 : Shape := ⟨2, ![1408, 3072]⟩
abbrev S12x256x2816 : Shape := ⟨3, ![12, 256, 2816]⟩
abbrev S1 : Shape := ⟨1, ![1]⟩
abbrev S_ : Shape := ⟨0, ![]⟩

class Facts : Prop where
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1

variable [Facts]

def fn_part2 {F : FTy → Type} [FloatOps F] (main_v34 : IVec S_ 1) (main_v35 : IVec S_ 1) : IVec S_ 1 :=
  let main_v36 : IVec S_ 1 := andi main_v34 main_v35
  main_v36

def fn_part1 {F : FTy → Type} [FloatOps F] (main_v1 : IVec S_ 32) (main_v3 : IVec S_ 32) (main_v5 : IVec S_ 32) (main_v7 : IVec S_ 32) (main_v9 : IVec S_ 32) (main_v18 : IVec S_ 1) (main_v19 : IVec S_ 1) : IVec S_ 1 :=
  let main_v20 : IVec S_ 1 := andi main_v18 main_v19
  let main_c_3 : IVec S_ 32 := constantI S_ 32 0#32
  let main_v21 : IVec S_ 1 := cmpi .sge main_v5 main_c_3
  let main_v22 : IVec S_ 1 := andi main_v20 main_v21
  let main_c_4 : IVec S_ 32 := constantI S_ 32 0#32
  let main_v23 : IVec S_ 1 := cmpi .sge main_v7 main_c_4
  let main_v24 : IVec S_ 1 := andi main_v22 main_v23
  let main_c_5 : IVec S_ 32 := constantI S_ 32 0#32
  let main_v25 : IVec S_ 1 := cmpi .sge main_v9 main_c_5
  let main_v26 : IVec S_ 1 := andi main_v24 main_v25
  let main_c_6 : IVec S_ 32 := constantI S_ 32 1536#32
  let main_v27 : IVec S_ 1 := cmpi .sle main_v1 main_c_6
  let main_v28 : IVec S_ 1 := andi main_v26 main_v27
  let main_c_7 : IVec S_ 32 := constantI S_ 32 1536#32
  let main_v29 : IVec S_ 1 := cmpi .sle main_v3 main_c_7
  let main_v30 : IVec S_ 1 := andi main_v28 main_v29
  let main_c_8 : IVec S_ 32 := constantI S_ 32 1536#32
  let main_v31 : IVec S_ 1 := cmpi .sle main_v5 main_c_8
  let main_v32 : IVec S_ 1 := andi main_v30 main_v31
  let main_c_9 : IVec S_ 32 := constantI S_ 32 1536#32
  let main_v33 : IVec S_ 1 := cmpi .sle main_v7 main_c_9
  let main_v34 : IVec S_ 1 := andi main_v32 main_v33
  let main_c_10 : IVec S_ 32 := constantI S_ 32 1536#32
  let main_v35 : IVec S_ 1 := cmpi .sle main_v9 main_c_10
  fn_part2 (F := F) main_v34 main_v35

def fn {F : FTy → Type} [FloatOps F] (main_arg0 : IVec S5 32) (main_arg1 : FVec F S24 .f32) (main_arg2 : FVec F S24 .f32) (main_arg3 : IVec S1408x3072 32) (main_arg4 : IVec S12x256x2816 32) : IVec S_ 1 :=
  let main_v0 : IVec S1 32 := (extractStridedSlice S1 ![0] · slices_S5_S1_0) main_arg0
  let main_v1 : IVec S_ 32 := shapeCast S_ main_v0 shapeCasts_S1_S_
  let main_v2 : IVec S1 32 := (extractStridedSlice S1 ![1] · slices_S5_S1_1) main_arg0
  let main_v3 : IVec S_ 32 := shapeCast S_ main_v2 shapeCasts_S1_S_
  let main_v4 : IVec S1 32 := (extractStridedSlice S1 ![2] · slices_S5_S1_2) main_arg0
  let main_v5 : IVec S_ 32 := shapeCast S_ main_v4 shapeCasts_S1_S_
  let main_v6 : IVec S1 32 := (extractStridedSlice S1 ![3] · slices_S5_S1_3) main_arg0
  let main_v7 : IVec S_ 32 := shapeCast S_ main_v6 shapeCasts_S1_S_
  let main_v8 : IVec S1 32 := (extractStridedSlice S1 ![4] · slices_S5_S1_4) main_arg0
  let main_v9 : IVec S_ 32 := shapeCast S_ main_v8 shapeCasts_S1_S_
  let main_v10 : IVec S_ 32 := addi main_v1 main_v3
  let main_v11 : IVec S_ 32 := addi main_v10 main_v5
  let main_v12 : IVec S_ 32 := addi main_v11 main_v7
  let main_v13 : IVec S_ 32 := addi main_v12 main_v9
  let main_c : IVec S_ 32 := constantI S_ 32 1#32
  let main_v14 : IVec S_ 1 := cmpi .sge main_v13 main_c
  let main_c_0 : IVec S_ 32 := constantI S_ 32 1536#32
  let main_v15 : IVec S_ 1 := cmpi .sle main_v13 main_c_0
  let main_v16 : IVec S_ 1 := andi main_v14 main_v15
  let main_c_1 : IVec S_ 32 := constantI S_ 32 0#32
  let main_v17 : IVec S_ 1 := cmpi .sge main_v1 main_c_1
  let main_v18 : IVec S_ 1 := andi main_v16 main_v17
  let main_c_2 : IVec S_ 32 := constantI S_ 32 0#32
  let main_v19 : IVec S_ 1 := cmpi .sge main_v3 main_c_2
  fn_part1 (F := F) main_v1 main_v3 main_v5 main_v7 main_v9 main_v18 main_v19
-- ==== Kernel.lean ====
abbrev S5 : Shape := ⟨1, ![5]⟩
abbrev S24 : Shape := ⟨1, ![24]⟩
abbrev S1408x3072 : Shape := ⟨2, ![1408, 3072]⟩
abbrev S12x256x2816 : Shape := ⟨3, ![12, 256, 2816]⟩
abbrev S5x6144x3072 : Shape := ⟨3, ![5, 6144, 3072]⟩
abbrev S1 : Shape := ⟨1, ![1]⟩
abbrev S256x2816 : Shape := ⟨2, ![256, 2816]⟩
abbrev S4x512x1536 : Shape := ⟨3, ![4, 512, 1536]⟩
abbrev S512x1536 : Shape := ⟨2, ![512, 1536]⟩
abbrev S2x256x2816 : Shape := ⟨3, ![2, 256, 2816]⟩
abbrev S2 : Shape := ⟨1, ![2]⟩
abbrev S4 : Shape := ⟨1, ![4]⟩
abbrev S_ : Shape := ⟨0, ![]⟩
abbrev S1x256x2816 : Shape := ⟨3, ![1, 256, 2816]⟩
abbrev S1x512x1536 : Shape := ⟨3, ![1, 512, 1536]⟩
abbrev S8x128 : Shape := ⟨2, ![8, 128]⟩
abbrev S1x8x128 : Shape := ⟨3, ![1, 8, 128]⟩
abbrev S1x1x1 : Shape := ⟨3, ![1, 1, 1]⟩
abbrev S256x256 : Shape := ⟨2, ![256, 256]⟩
abbrev S512x256 : Shape := ⟨2, ![512, 256]⟩
abbrev S128x1536 : Shape := ⟨2, ![128, 1536]⟩
abbrev S256x1536 : Shape := ⟨2, ![256, 1536]⟩
abbrev S256x512 : Shape := ⟨2, ![256, 512]⟩
abbrev S512x512 : Shape := ⟨2, ![512, 512]⟩
abbrev S256x768 : Shape := ⟨2, ![256, 768]⟩
abbrev S512x768 : Shape := ⟨2, ![512, 768]⟩
abbrev S384x1536 : Shape := ⟨2, ![384, 1536]⟩
abbrev S768x1536 : Shape := ⟨2, ![768, 1536]⟩
abbrev S256x1024 : Shape := ⟨2, ![256, 1024]⟩
abbrev S512x1024 : Shape := ⟨2, ![512, 1024]⟩
abbrev S1024x1536 : Shape := ⟨2, ![1024, 1536]⟩
abbrev S256x1280 : Shape := ⟨2, ![256, 1280]⟩
abbrev S512x1280 : Shape := ⟨2, ![512, 1280]⟩
abbrev S640x1536 : Shape := ⟨2, ![640, 1536]⟩
abbrev S1280x1536 : Shape := ⟨2, ![1280, 1536]⟩
abbrev S1536x1536 : Shape := ⟨2, ![1536, 1536]⟩

abbrev nBuf : Space → Nat
  | .hbm => 10
  | .vmem => 5
  | .smem => 9
  | _ => 0

abbrev bufTy : (tb : Table) → Fin (tcTables nBuf tb) → BufTy
  | .hbm, ⟨0, _⟩ => ⟨S5, .i32⟩
  | .hbm, ⟨1, _⟩ => ⟨S24, .f32⟩
  | .hbm, ⟨2, _⟩ => ⟨S24, .f32⟩
  | .hbm, ⟨3, _⟩ => ⟨S1408x3072, .i32⟩
  | .hbm, ⟨4, _⟩ => ⟨S12x256x2816, .i32⟩
  | .hbm, ⟨5, _⟩ => ⟨S5x6144x3072, .f32⟩
  | .hbm, ⟨6, _⟩ => ⟨S1, .f32⟩
  | .hbm, ⟨7, _⟩ => ⟨S1, .f32⟩
  | .hbm, ⟨8, _⟩ => ⟨S24, .f32⟩
  | .hbm, ⟨9, _⟩ => ⟨S24, .f32⟩
  | .local _ .vmem, ⟨0, _⟩ => ⟨S1408x3072, .i32⟩
  | .local _ .vmem, ⟨1, _⟩ => ⟨S256x2816, .i32⟩
  | .local _ .vmem, ⟨2, _⟩ => ⟨S4x512x1536, .f32⟩
  | .local _ .vmem, ⟨3, _⟩ => ⟨S512x1536, .f32⟩
  | .local _ .vmem, ⟨4, _⟩ => ⟨S2x256x2816, .i32⟩
  | .local _ .smem, ⟨0, _⟩ => ⟨S5, .i32⟩
  | .local _ .smem, ⟨1, _⟩ => ⟨S24, .f32⟩
  | .local _ .smem, ⟨2, _⟩ => ⟨S24, .f32⟩
  | .local _ .smem, ⟨3, _⟩ => ⟨S1, .f32⟩
  | .local _ .smem, ⟨4, _⟩ => ⟨S1, .f32⟩
  | .local _ .smem, ⟨5, _⟩ => ⟨S24, .f32⟩
  | .local _ .smem, ⟨6, _⟩ => ⟨S24, .f32⟩
  | .local _ .smem, ⟨7, _⟩ => ⟨S5, .i32⟩
  | .local _ .smem, ⟨8, _⟩ => ⟨S5, .i32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg3_0 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg4_0 : Ref sig .tc := ⟨.smem, 3, rfl⟩
abbrev cc0_stg5_0 : Ref sig .tc := ⟨.smem, 4, rfl⟩
abbrev cc0_stg6_0 : Ref sig .tc := ⟨.smem, 5, rfl⟩
abbrev cc0_stg7_0 : Ref sig .tc := ⟨.smem, 6, rfl⟩
abbrev cc0_scratch0 : Ref sig .tc := ⟨.smem, 7, rfl⟩
abbrev cc0_scratch1 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_221 : BitVec 32 := 0#32
  let c12_i32_222 : BitVec 32 := 12#32
  let v323 : BitVec 32 := Scalar.addi c0_i32_221 c12_i32_222
  let c1_i32_223 : BitVec 32 := 1#32
  ⟨c0_i32_221, v323, c1_i32_223⟩
def k0_off1 (k0_t1 : Fin k0_t1_loop.trips) : Fin 3 → Nat :=
  let c0_i32_225 : BitVec 32 := 0#32
  let c0_i32_221 : BitVec 32 := 0#32
  let c1_i32_223 : BitVec 32 := 1#32
  let arg19 : BitVec 32 := Scf.iv c0_i32_221 c1_i32_223 k0_t1
  let c512_i32 : BitVec 32 := 512#32
  let v324 : BitVec 32 := Scalar.muli arg19 c512_i32
  let c0_i32_226 : BitVec 32 := 0#32
  ![0, v324.toNat, 0]
def k0_off2 (k0_t1 : Fin k0_t1_loop.trips) : Fin 3 → Nat :=
  let c0_i32_228 : BitVec 32 := 0#32
  let c0_i32_221 : BitVec 32 := 0#32
  let c1_i32_223 : BitVec 32 := 1#32
  let arg19 : BitVec 32 := Scf.iv c0_i32_221 c1_i32_223 k0_t1
  let c512_i32_227 : BitVec 32 := 512#32
  let v327 : BitVec 32 := Scalar.muli arg19 c512_i32_227
  let c1536_i32 : BitVec 32 := 1536#32
  ![0, v327.toNat, 1536]
@[reducible] def k0_t2_loop : Scf.Loop 32 :=
  let c0_i32_221 : BitVec 32 := 0#32
  let c12_i32_222 : BitVec 32 := 12#32
  let v323 : BitVec 32 := Scalar.addi c0_i32_221 c12_i32_222
  let c1_i32_223 : BitVec 32 := 1#32
  ⟨c0_i32_221, v323, c1_i32_223⟩
def k0_off3 (k0_t2 : Fin k0_t2_loop.trips) : Fin 3 → Nat :=
  let c1_i32_225 : BitVec 32 := 1#32
  let c0_i32_221 : BitVec 32 := 0#32
  let c1_i32_223 : BitVec 32 := 1#32
  let arg19 : BitVec 32 := Scf.iv c0_i32_221 c1_i32_223 k0_t2
  let c512_i32 : BitVec 32 := 512#32
  let v324 : BitVec 32 := Scalar.muli arg19 c512_i32
  let c0_i32_226 : BitVec 32 := 0#32
  ![1, v324.toNat, 0]
def k0_off4 (k0_t2 : Fin k0_t2_loop.trips) : Fin 3 → Nat :=
  let c1_i32_228 : BitVec 32 := 1#32
  let c0_i32_221 : BitVec 32 := 0#32
  let c1_i32_223 : BitVec 32 := 1#32
  let arg19 : BitVec 32 := Scf.iv c0_i32_221 c1_i32_223 k0_t2
  let c512_i32_227 : BitVec 32 := 512#32
  let v327 : BitVec 32 := Scalar.muli arg19 c512_i32_227
  let c1536_i32 : BitVec 32 := 1536#32
  ![1, v327.toNat, 1536]
@[reducible] def k0_t3_loop : Scf.Loop 32 :=
  let c0_i32_221 : BitVec 32 := 0#32
  let c12_i32_222 : BitVec 32 := 12#32
  let v323 : BitVec 32 := Scalar.addi c0_i32_221 c12_i32_222
  let c1_i32_223 : BitVec 32 := 1#32
  ⟨c0_i32_221, v323, c1_i32_223⟩
def k0_off5 (k0_t3 : Fin k0_t3_loop.trips) : Fin 3 → Nat :=
  let c2_i32_225 : BitVec 32 := 2#32
  let c0_i32_221 : BitVec 32 := 0#32
  let c1_i32_223 : BitVec 32 := 1#32
  let arg19 : BitVec 32 := Scf.iv c0_i32_221 c1_i32_223 k0_t3
  let c512_i32 : BitVec 32 := 512#32
  let v324 : BitVec 32 := Scalar.muli arg19 c512_i32
  let c0_i32_226 : BitVec 32 := 0#32
  ![2, v324.toNat, 0]
def k0_off6 (k0_t3 : Fin k0_t3_loop.trips) : Fin 3 → Nat :=
  let c2_i32_228 : BitVec 32 := 2#32
  let c0_i32_221 : BitVec 32 := 0#32
  let c1_i32_223 : BitVec 32 := 1#32
  let arg19 : BitVec 32 := Scf.iv c0_i32_221 c1_i32_223 k0_t3
  let c512_i32_227 : BitVec 32 := 512#32
  let v327 : BitVec 32 := Scalar.muli arg19 c512_i32_227
  let c1536_i32 : BitVec 32 := 1536#32
  ![2, v327.toNat, 1536]
@[reducible] def k0_t4_loop : Scf.Loop 32 :=
  let c0_i32_221 : BitVec 32 := 0#32
  let c12_i32_222 : BitVec 32 := 12#32
  let v323 : BitVec 32 := Scalar.addi c0_i32_221 c12_i32_222
  let c1_i32_223 : BitVec 32 := 1#32
  ⟨c0_i32_221, v323, c1_i32_223⟩
def k0_off7 (k0_t4 : Fin k0_t4_loop.trips) : Fin 3 → Nat :=
  let c3_i32_225 : BitVec 32 := 3#32
  let c0_i32_221 : BitVec 32 := 0#32
  let c1_i32_223 : BitVec 32 := 1#32
  let arg19 : BitVec 32 := Scf.iv c0_i32_221 c1_i32_223 k0_t4
  let c512_i32 : BitVec 32 := 512#32
  let v324 : BitVec 32 := Scalar.muli arg19 c512_i32
  let c0_i32_226 : BitVec 32 := 0#32
  ![3, v324.toNat, 0]
def k0_off8 (k0_t4 : Fin k0_t4_loop.trips) : Fin 3 → Nat :=
  let c3_i32_228 : BitVec 32 := 3#32
  let c0_i32_221 : BitVec 32 := 0#32
  let c1_i32_223 : BitVec 32 := 1#32
  let arg19 : BitVec 32 := Scf.iv c0_i32_221 c1_i32_223 k0_t4
  let c512_i32_227 : BitVec 32 := 512#32
  let v327 : BitVec 32 := Scalar.muli arg19 c512_i32_227
  let c1536_i32 : BitVec 32 := 1536#32
  ![3, v327.toNat, 1536]
@[reducible] def k0_t5_loop : Scf.Loop 32 :=
  let c0_i32_221 : BitVec 32 := 0#32
  let c12_i32_222 : BitVec 32 := 12#32
  let v323 : BitVec 32 := Scalar.addi c0_i32_221 c12_i32_222
  let c1_i32_223 : BitVec 32 := 1#32
  ⟨c0_i32_221, v323, c1_i32_223⟩
def k0_off9 (k0_t5 : Fin k0_t5_loop.trips) : Fin 3 → Nat :=
  let c4_i32_225 : BitVec 32 := 4#32
  let c0_i32_221 : BitVec 32 := 0#32
  let c1_i32_223 : BitVec 32 := 1#32
  let arg19 : BitVec 32 := Scf.iv c0_i32_221 c1_i32_223 k0_t5
  let c512_i32 : BitVec 32 := 512#32
  let v324 : BitVec 32 := Scalar.muli arg19 c512_i32
  let c0_i32_226 : BitVec 32 := 0#32
  ![4, v324.toNat, 0]
def k0_off10 (k0_t5 : Fin k0_t5_loop.trips) : Fin 3 → Nat :=
  let c4_i32_228 : BitVec 32 := 4#32
  let c0_i32_221 : BitVec 32 := 0#32
  let c1_i32_223 : BitVec 32 := 1#32
  let arg19 : BitVec 32 := Scf.iv c0_i32_221 c1_i32_223 k0_t5
  let c512_i32_227 : BitVec 32 := 512#32
  let v327 : BitVec 32 := Scalar.muli arg19 c512_i32_227
  let c1536_i32 : BitVec 32 := 1536#32
  ![4, v327.toNat, 1536]
@[reducible] def k0_t6_loop : Scf.Loop 32 :=
  let c0_i32_188 : BitVec 32 := 0#32
  let c12_i32 : BitVec 32 := 12#32
  let v291 : BitVec 32 := Scalar.addi c0_i32_188 c12_i32
  let c1_i32 : BitVec 32 := 1#32
  ⟨c0_i32_188, v291, c1_i32⟩
def k0_off11 (k0_t6 : Fin k0_t6_loop.trips) : Fin 1 → Nat :=
  let c0_i32_188 : BitVec 32 := 0#32
  let c1_i32 : BitVec 32 := 1#32
  let arg19 : BitVec 32 := Scf.iv c0_i32_188 c1_i32 k0_t6
  let c2_i32_221 : BitVec 32 := 2#32
  let v323 : BitVec 32 := Scalar.remsi arg19 c2_i32_221
  ![v323.toNat]
def k0_off12 (k0_t6 : Fin k0_t6_loop.trips) : Fin 3 → Nat :=
  let c0_i32_188 : BitVec 32 := 0#32
  let c1_i32 : BitVec 32 := 1#32
  let arg19 : BitVec 32 := Scf.iv c0_i32_188 c1_i32 k0_t6
  let c2_i32_221 : BitVec 32 := 2#32
  let v323 : BitVec 32 := Scalar.remsi arg19 c2_i32_221
  let c0_i32_222 : BitVec 32 := 0#32
  let c0_i32_223 : BitVec 32 := 0#32
  ![v323.toNat, 0, 0]
def k0_off13 (k0_t6 : Fin k0_t6_loop.trips) : Fin 3 → Nat :=
  let c0_i32_188 : BitVec 32 := 0#32
  let c1_i32 : BitVec 32 := 1#32
  let arg19 : BitVec 32 := Scf.iv c0_i32_188 c1_i32 k0_t6
  let c0_i32_224 : BitVec 32 := 0#32
  let c0_i32_225 : BitVec 32 := 0#32
  ![arg19.toNat, 0, 0]
def k0_cond6 (k0_t6 : Fin k0_t6_loop.trips) : BitVec 1 :=
  let c0_i32_188 : BitVec 32 := 0#32
  let c1_i32 : BitVec 32 := 1#32
  let arg19 : BitVec 32 := Scf.iv c0_i32_188 c1_i32 k0_t6
  let c1_i32_226 : BitVec 32 := 1#32
  let v330 : BitVec 32 := Scalar.addi arg19 c1_i32_226
  let c12_i32_227 : BitVec 32 := 12#32
  let v331 : BitVec 1 := Scalar.cmpi .slt v330 c12_i32_227
  let v332 : BitVec 32 := Scalar.extui v331
  let c0_i32_228 : BitVec 32 := 0#32
  let v333 : BitVec 1 := Scalar.cmpi .ne v332 c0_i32_228
  v333

def k0_off14 (k0_t6 : Fin k0_t6_loop.trips) : Fin 1 → Nat :=
  let c1_i32_237 : BitVec 32 := 1#32
  let c0_i32_188 : BitVec 32 := 0#32
  let c1_i32 : BitVec 32 := 1#32
  let arg19 : BitVec 32 := Scf.iv c0_i32_188 c1_i32 k0_t6
  let c2_i32_221 : BitVec 32 := 2#32
  let v323 : BitVec 32 := Scalar.remsi arg19 c2_i32_221
  let v343 : BitVec 32 := Scalar.subi c1_i32_237 v323
  ![v343.toNat]
def k0_off15 (k0_t6 : Fin k0_t6_loop.trips) : Fin 3 → Nat :=
  let c1_i32_237 : BitVec 32 := 1#32
  let c0_i32_188 : BitVec 32 := 0#32
  let c1_i32 : BitVec 32 := 1#32
  let arg19 : BitVec 32 := Scf.iv c0_i32_188 c1_i32 k0_t6
  let c2_i32_221 : BitVec 32 := 2#32
  let v323 : BitVec 32 := Scalar.remsi arg19 c2_i32_221
  let v343 : BitVec 32 := Scalar.subi c1_i32_237 v323
  let c0_i32_238 : BitVec 32 := 0#32
  let c0_i32_239 : BitVec 32 := 0#32
  ![v343.toNat, 0, 0]
def k0_off16 (k0_t6 : Fin k0_t6_loop.trips) : Fin 3 → Nat :=
  let c0_i32_188 : BitVec 32 := 0#32
  let c1_i32 : BitVec 32 := 1#32
  let arg19 : BitVec 32 := Scf.iv c0_i32_188 c1_i32 k0_t6
  let c1_i32_236 : BitVec 32 := 1#32
  let v342 : BitVec 32 := Scalar.addi arg19 c1_i32_236
  let c0_i32_240 : BitVec 32 := 0#32
  let c0_i32_241 : BitVec 32 := 0#32
  ![v342.toNat, 0, 0]
def k0_off17 (k0_t6 : Fin k0_t6_loop.trips) : Fin 3 → Nat :=
  let c0_i32_188 : BitVec 32 := 0#32
  let c1_i32 : BitVec 32 := 1#32
  let arg19 : BitVec 32 := Scf.iv c0_i32_188 c1_i32 k0_t6
  let c2_i32_221 : BitVec 32 := 2#32
  let v323 : BitVec 32 := Scalar.remsi arg19 c2_i32_221
  let v334 : Index := Scalar.indexCast v323
  let c0_229 : Index := 0#32
  let c0_230 : Index := 0#32
  ![v334.toNat, 0, 0]
@[reducible] def k0_t7_loop : Scf.Loop 32 :=
  let c0_i32_233 : BitVec 32 := 0#32
  let c5_i32 : BitVec 32 := 5#32
  let v340 : BitVec 32 := Scalar.addi c0_i32_233 c5_i32
  let c1_i32_234 : BitVec 32 := 1#32
  ⟨c0_i32_233, v340, c1_i32_234⟩
def k0_off18 (k0_t7 : Fin k0_t7_loop.trips) : Fin 1 → Nat :=
  let c0_i32_233 : BitVec 32 := 0#32
  let c1_i32_234 : BitVec 32 := 1#32
  let arg21 : BitVec 32 := Scf.iv c0_i32_233 c1_i32_234 k0_t7
  let v342 : Index := Scalar.indexCast arg21
  ![v342.toNat]
def k0_off19 (arg22 : BitVec 32) : Fin 1 → Nat :=
  let c0_i32_250 : BitVec 32 := 0#32
  let v367 : BitVec 32 := Scalar.addi arg22 c0_i32_250
  let c3_i32_251 : BitVec 32 := 3#32
  let v368 : BitVec 32 := Scalar.andi v367 c3_i32_251
  ![v368.toNat]
def k0_cond7 (v345 : BitVec 32) : BitVec 1 :=
  let c1_i32_236 : BitVec 32 := 1#32
  let v346 : BitVec 1 := Scalar.cmpi .eq v345 c1_i32_236
  let v347 : BitVec 32 := Scalar.extui v346
  let c0_i32_237 : BitVec 32 := 0#32
  let v348 : BitVec 1 := Scalar.cmpi .ne v347 c0_i32_237
  v348

def k0_cond8 (arg22 : BitVec 32) : BitVec 1 :=
  let c0_i32_252 : BitVec 32 := 0#32
  let v369 : BitVec 32 := Scalar.addi arg22 c0_i32_252
  let c4_i32_253 : BitVec 32 := 4#32
  let v370 : BitVec 1 := Scalar.cmpi .sge v369 c4_i32_253
  let v371 : BitVec 32 := Scalar.extui v370
  let c0_i32_254 : BitVec 32 := 0#32
  let v372 : BitVec 1 := Scalar.cmpi .ne v371 c0_i32_254
  v372

def k0_off20 (arg22 : BitVec 32) : Fin 3 → Nat :=
  let c0_i32_250 : BitVec 32 := 0#32
  let v367 : BitVec 32 := Scalar.addi arg22 c0_i32_250
  let c3_i32_251 : BitVec 32 := 3#32
  let v368 : BitVec 32 := Scalar.andi v367 c3_i32_251
  let c0_i32_280 : BitVec 32 := 0#32
  let c0_i32_281 : BitVec 32 := 0#32
  ![v368.toNat, 0, 0]
def k0_mult1 (v343 : BitVec 32) : BitVec 32 :=
  let c256_i32 : BitVec 32 := 256#32
  let v373 : BitVec 32 := Scalar.muli v343 c256_i32
  v373
def k0_off21 (v343 : BitVec 32) : Fin 2 → Nat :=
  let c0_255 : Index := 0#32
  let c256_i32 : BitVec 32 := 256#32
  let v373 : BitVec 32 := Scalar.muli v343 c256_i32
  let v374 : BitVec 32 := v373
  let v375 : Index := Scalar.indexCast v374
  ![0, v375.toNat]
def k0_mult2 (v343 : BitVec 32) : BitVec 32 :=
  let c128_i32 : BitVec 32 := 128#32
  let v378 : BitVec 32 := Scalar.muli v343 c128_i32
  v378
def k0_off22 (v343 : BitVec 32) : Fin 2 → Nat :=
  let c128_i32 : BitVec 32 := 128#32
  let v378 : BitVec 32 := Scalar.muli v343 c128_i32
  let v379 : BitVec 32 := v378
  let v380 : Index := Scalar.indexCast v379
  let c0_256 : Index := 0#32
  ![v380.toNat, 0]
def k0_off23 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let v386 : Index := Scalar.indexCast v368
  let c0_258 : Index := 0#32
  let c0_259 : Index := 0#32
  ![v386.toNat, 0, 0]
def k0_off24 (arg22 : BitVec 32) (c0_i32_250 : BitVec 32) : Fin 1 → Nat :=
  let v367 : BitVec 32 := Scalar.addi arg22 c0_i32_250
  let c3_i32_251 : BitVec 32 := 3#32
  let v368 : BitVec 32 := Scalar.andi v367 c3_i32_251
  ![v368.toNat]
def k0_off25 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32 : BitVec 32 := 512#32
  let v390 : BitVec 32 := Scalar.muli arg19 c512_i32
  let c0_i32_260 : BitVec 32 := 0#32
  ![arg21.toNat, v390.toNat, 0]
def k0_off26 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let c0_i32_261 : BitVec 32 := 0#32
  let c0_i32_262 : BitVec 32 := 0#32
  ![v368.toNat, 0, 0]
def k0_off27 (arg22 : BitVec 32) : Fin 1 → Nat :=
  let c1_i32_263 : BitVec 32 := 1#32
  let v397 : BitVec 32 := Scalar.addi arg22 c1_i32_263
  let c3_i32_264 : BitVec 32 := 3#32
  let v398 : BitVec 32 := Scalar.andi v397 c3_i32_264
  ![v398.toNat]
def k0_cond9 (arg22 : BitVec 32) : BitVec 1 :=
  let c1_i32_265 : BitVec 32 := 1#32
  let v399 : BitVec 32 := Scalar.addi arg22 c1_i32_265
  let c4_i32_266 : BitVec 32 := 4#32
  let v400 : BitVec 1 := Scalar.cmpi .sge v399 c4_i32_266
  let v401 : BitVec 32 := Scalar.extui v400
  let c0_i32_267 : BitVec 32 := 0#32
  let v402 : BitVec 1 := Scalar.cmpi .ne v401 c0_i32_267
  v402

def k0_off28 (arg22 : BitVec 32) : Fin 3 → Nat :=
  let c1_i32_263 : BitVec 32 := 1#32
  let v397 : BitVec 32 := Scalar.addi arg22 c1_i32_263
  let c3_i32_264 : BitVec 32 := 3#32
  let v398 : BitVec 32 := Scalar.andi v397 c3_i32_264
  let c0_i32_280 : BitVec 32 := 0#32
  let c0_i32_281 : BitVec 32 := 0#32
  ![v398.toNat, 0, 0]
def k0_mult3 (v343 : BitVec 32) : BitVec 32 :=
  let c256_i32_268 : BitVec 32 := 256#32
  let v403 : BitVec 32 := Scalar.muli v343 c256_i32_268
  v403
def k0_mult4 (v343 : BitVec 32) : BitVec 32 :=
  let c128_i32_270 : BitVec 32 := 128#32
  let v408 : BitVec 32 := Scalar.muli v343 c128_i32_270
  v408
def k0_off29 (v343 : BitVec 32) : Fin 2 → Nat :=
  let c128_i32_270 : BitVec 32 := 128#32
  let v408 : BitVec 32 := Scalar.muli v343 c128_i32_270
  let v409 : BitVec 32 := v408
  let v410 : Index := Scalar.indexCast v409
  let c1536 : Index := 1536#32
  ![v410.toNat, 1536]
def k0_off30 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32_274 : BitVec 32 := 512#32
  let v420 : BitVec 32 := Scalar.muli arg19 c512_i32_274
  let c1536_i32 : BitVec 32 := 1536#32
  ![arg21.toNat, v420.toNat, 1536]
def k0_off31 (arg22 : BitVec 32) : Fin 1 → Nat :=
  let c0_i32_250 : BitVec 32 := 0#32
  let v367 : BitVec 32 := Scalar.addi arg22 c0_i32_250
  let c3_i32_251 : BitVec 32 := 3#32
  let v368 : BitVec 32 := Scalar.andi v367 c3_i32_251
  ![v368.toNat]
def k0_cond10 (v345 : BitVec 32) : BitVec 1 :=
  let c2_i32_238 : BitVec 32 := 2#32
  let v349 : BitVec 1 := Scalar.cmpi .eq v345 c2_i32_238
  let v350 : BitVec 32 := Scalar.extui v349
  let c0_i32_239 : BitVec 32 := 0#32
  let v351 : BitVec 1 := Scalar.cmpi .ne v350 c0_i32_239
  v351

def k0_cond11 (arg22 : BitVec 32) : BitVec 1 :=
  let c0_i32_252 : BitVec 32 := 0#32
  let v369 : BitVec 32 := Scalar.addi arg22 c0_i32_252
  let c4_i32_253 : BitVec 32 := 4#32
  let v370 : BitVec 1 := Scalar.cmpi .sge v369 c4_i32_253
  let v371 : BitVec 32 := Scalar.extui v370
  let c0_i32_254 : BitVec 32 := 0#32
  let v372 : BitVec 1 := Scalar.cmpi .ne v371 c0_i32_254
  v372

def k0_off32 (arg22 : BitVec 32) : Fin 3 → Nat :=
  let c0_i32_250 : BitVec 32 := 0#32
  let v367 : BitVec 32 := Scalar.addi arg22 c0_i32_250
  let c3_i32_251 : BitVec 32 := 3#32
  let v368 : BitVec 32 := Scalar.andi v367 c3_i32_251
  let c0_i32_280 : BitVec 32 := 0#32
  let c0_i32_281 : BitVec 32 := 0#32
  ![v368.toNat, 0, 0]
def k0_mult5 (v343 : BitVec 32) : BitVec 32 :=
  let c256_i32 : BitVec 32 := 256#32
  let v373 : BitVec 32 := Scalar.muli v343 c256_i32
  v373
def k0_off33 (v343 : BitVec 32) : Fin 2 → Nat :=
  let c0_255 : Index := 0#32
  let c256_i32 : BitVec 32 := 256#32
  let v373 : BitVec 32 := Scalar.muli v343 c256_i32
  let v374 : BitVec 32 := v373
  let v375 : Index := Scalar.indexCast v374
  ![0, v375.toNat]
def k0_mult6 (v343 : BitVec 32) : BitVec 32 :=
  let c128_i32 : BitVec 32 := 128#32
  let v378 : BitVec 32 := Scalar.muli v343 c128_i32
  v378
def k0_off34 (v343 : BitVec 32) : Fin 2 → Nat :=
  let c128_i32 : BitVec 32 := 128#32
  let v378 : BitVec 32 := Scalar.muli v343 c128_i32
  let v379 : BitVec 32 := v378
  let v380 : Index := Scalar.indexCast v379
  let c0_256 : Index := 0#32
  ![v380.toNat, 0]
def k0_off35 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let v386 : Index := Scalar.indexCast v368
  let c0_258 : Index := 0#32
  let c0_259 : Index := 0#32
  ![v386.toNat, 0, 0]
def k0_off36 (arg22 : BitVec 32) (c0_i32_250 : BitVec 32) : Fin 1 → Nat :=
  let v367 : BitVec 32 := Scalar.addi arg22 c0_i32_250
  let c3_i32_251 : BitVec 32 := 3#32
  let v368 : BitVec 32 := Scalar.andi v367 c3_i32_251
  ![v368.toNat]
def k0_off37 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32 : BitVec 32 := 512#32
  let v390 : BitVec 32 := Scalar.muli arg19 c512_i32
  let c0_i32_260 : BitVec 32 := 0#32
  ![arg21.toNat, v390.toNat, 0]
def k0_off38 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let c0_i32_261 : BitVec 32 := 0#32
  let c0_i32_262 : BitVec 32 := 0#32
  ![v368.toNat, 0, 0]
def k0_off39 (arg22 : BitVec 32) : Fin 1 → Nat :=
  let c1_i32_263 : BitVec 32 := 1#32
  let v397 : BitVec 32 := Scalar.addi arg22 c1_i32_263
  let c3_i32_264 : BitVec 32 := 3#32
  let v398 : BitVec 32 := Scalar.andi v397 c3_i32_264
  ![v398.toNat]
def k0_cond12 (arg22 : BitVec 32) : BitVec 1 :=
  let c1_i32_265 : BitVec 32 := 1#32
  let v399 : BitVec 32 := Scalar.addi arg22 c1_i32_265
  let c4_i32_266 : BitVec 32 := 4#32
  let v400 : BitVec 1 := Scalar.cmpi .sge v399 c4_i32_266
  let v401 : BitVec 32 := Scalar.extui v400
  let c0_i32_267 : BitVec 32 := 0#32
  let v402 : BitVec 1 := Scalar.cmpi .ne v401 c0_i32_267
  v402

def k0_off40 (arg22 : BitVec 32) : Fin 3 → Nat :=
  let c1_i32_263 : BitVec 32 := 1#32
  let v397 : BitVec 32 := Scalar.addi arg22 c1_i32_263
  let c3_i32_264 : BitVec 32 := 3#32
  let v398 : BitVec 32 := Scalar.andi v397 c3_i32_264
  let c0_i32_280 : BitVec 32 := 0#32
  let c0_i32_281 : BitVec 32 := 0#32
  ![v398.toNat, 0, 0]
def k0_mult7 (v343 : BitVec 32) : BitVec 32 :=
  let c256_i32_268 : BitVec 32 := 256#32
  let v403 : BitVec 32 := Scalar.muli v343 c256_i32_268
  v403
def k0_mult8 (v343 : BitVec 32) : BitVec 32 :=
  let c128_i32_270 : BitVec 32 := 128#32
  let v408 : BitVec 32 := Scalar.muli v343 c128_i32_270
  v408
def k0_off41 (v343 : BitVec 32) : Fin 2 → Nat :=
  let c128_i32_270 : BitVec 32 := 128#32
  let v408 : BitVec 32 := Scalar.muli v343 c128_i32_270
  let v409 : BitVec 32 := v408
  let v410 : Index := Scalar.indexCast v409
  let c1536 : Index := 1536#32
  ![v410.toNat, 1536]
def k0_off42 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32_274 : BitVec 32 := 512#32
  let v420 : BitVec 32 := Scalar.muli arg19 c512_i32_274
  let c1536_i32 : BitVec 32 := 1536#32
  ![arg21.toNat, v420.toNat, 1536]
def k0_off43 (arg22 : BitVec 32) : Fin 1 → Nat :=
  let c0_i32_250 : BitVec 32 := 0#32
  let v367 : BitVec 32 := Scalar.addi arg22 c0_i32_250
  let c3_i32_251 : BitVec 32 := 3#32
  let v368 : BitVec 32 := Scalar.andi v367 c3_i32_251
  ![v368.toNat]
def k0_cond13 (v345 : BitVec 32) : BitVec 1 :=
  let c3_i32_240 : BitVec 32 := 3#32
  let v352 : BitVec 1 := Scalar.cmpi .eq v345 c3_i32_240
  let v353 : BitVec 32 := Scalar.extui v352
  let c0_i32_241 : BitVec 32 := 0#32
  let v354 : BitVec 1 := Scalar.cmpi .ne v353 c0_i32_241
  v354

def k0_cond14 (arg22 : BitVec 32) : BitVec 1 :=
  let c0_i32_252 : BitVec 32 := 0#32
  let v369 : BitVec 32 := Scalar.addi arg22 c0_i32_252
  let c4_i32_253 : BitVec 32 := 4#32
  let v370 : BitVec 1 := Scalar.cmpi .sge v369 c4_i32_253
  let v371 : BitVec 32 := Scalar.extui v370
  let c0_i32_254 : BitVec 32 := 0#32
  let v372 : BitVec 1 := Scalar.cmpi .ne v371 c0_i32_254
  v372

def k0_off44 (arg22 : BitVec 32) : Fin 3 → Nat :=
  let c0_i32_250 : BitVec 32 := 0#32
  let v367 : BitVec 32 := Scalar.addi arg22 c0_i32_250
  let c3_i32_251 : BitVec 32 := 3#32
  let v368 : BitVec 32 := Scalar.andi v367 c3_i32_251
  let c0_i32_280 : BitVec 32 := 0#32
  let c0_i32_281 : BitVec 32 := 0#32
  ![v368.toNat, 0, 0]
def k0_mult9 (v343 : BitVec 32) : BitVec 32 :=
  let c256_i32 : BitVec 32 := 256#32
  let v373 : BitVec 32 := Scalar.muli v343 c256_i32
  v373
def k0_off45 (v343 : BitVec 32) : Fin 2 → Nat :=
  let c0_255 : Index := 0#32
  let c256_i32 : BitVec 32 := 256#32
  let v373 : BitVec 32 := Scalar.muli v343 c256_i32
  let v374 : BitVec 32 := v373
  let v375 : Index := Scalar.indexCast v374
  ![0, v375.toNat]
def k0_mult10 (v343 : BitVec 32) : BitVec 32 :=
  let c128_i32 : BitVec 32 := 128#32
  let v378 : BitVec 32 := Scalar.muli v343 c128_i32
  v378
def k0_off46 (v343 : BitVec 32) : Fin 2 → Nat :=
  let c128_i32 : BitVec 32 := 128#32
  let v378 : BitVec 32 := Scalar.muli v343 c128_i32
  let v379 : BitVec 32 := v378
  let v380 : Index := Scalar.indexCast v379
  let c0_256 : Index := 0#32
  ![v380.toNat, 0]
def k0_off47 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let v386 : Index := Scalar.indexCast v368
  let c0_258 : Index := 0#32
  let c0_259 : Index := 0#32
  ![v386.toNat, 0, 0]
def k0_off48 (arg22 : BitVec 32) (c0_i32_250 : BitVec 32) : Fin 1 → Nat :=
  let v367 : BitVec 32 := Scalar.addi arg22 c0_i32_250
  let c3_i32_251 : BitVec 32 := 3#32
  let v368 : BitVec 32 := Scalar.andi v367 c3_i32_251
  ![v368.toNat]
def k0_off49 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32 : BitVec 32 := 512#32
  let v390 : BitVec 32 := Scalar.muli arg19 c512_i32
  let c0_i32_260 : BitVec 32 := 0#32
  ![arg21.toNat, v390.toNat, 0]
def k0_off50 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let c0_i32_261 : BitVec 32 := 0#32
  let c0_i32_262 : BitVec 32 := 0#32
  ![v368.toNat, 0, 0]
def k0_off51 (arg22 : BitVec 32) : Fin 1 → Nat :=
  let c1_i32_263 : BitVec 32 := 1#32
  let v397 : BitVec 32 := Scalar.addi arg22 c1_i32_263
  let c3_i32_264 : BitVec 32 := 3#32
  let v398 : BitVec 32 := Scalar.andi v397 c3_i32_264
  ![v398.toNat]
def k0_cond15 (arg22 : BitVec 32) : BitVec 1 :=
  let c1_i32_265 : BitVec 32 := 1#32
  let v399 : BitVec 32 := Scalar.addi arg22 c1_i32_265
  let c4_i32_266 : BitVec 32 := 4#32
  let v400 : BitVec 1 := Scalar.cmpi .sge v399 c4_i32_266
  let v401 : BitVec 32 := Scalar.extui v400
  let c0_i32_267 : BitVec 32 := 0#32
  let v402 : BitVec 1 := Scalar.cmpi .ne v401 c0_i32_267
  v402

def k0_off52 (arg22 : BitVec 32) : Fin 3 → Nat :=
  let c1_i32_263 : BitVec 32 := 1#32
  let v397 : BitVec 32 := Scalar.addi arg22 c1_i32_263
  let c3_i32_264 : BitVec 32 := 3#32
  let v398 : BitVec 32 := Scalar.andi v397 c3_i32_264
  let c0_i32_280 : BitVec 32 := 0#32
  let c0_i32_281 : BitVec 32 := 0#32
  ![v398.toNat, 0, 0]
def k0_mult11 (v343 : BitVec 32) : BitVec 32 :=
  let c256_i32_268 : BitVec 32 := 256#32
  let v403 : BitVec 32 := Scalar.muli v343 c256_i32_268
  v403
def k0_mult12 (v343 : BitVec 32) : BitVec 32 :=
  let c128_i32_270 : BitVec 32 := 128#32
  let v408 : BitVec 32 := Scalar.muli v343 c128_i32_270
  v408
def k0_off53 (v343 : BitVec 32) : Fin 2 → Nat :=
  let c128_i32_270 : BitVec 32 := 128#32
  let v408 : BitVec 32 := Scalar.muli v343 c128_i32_270
  let v409 : BitVec 32 := v408
  let v410 : Index := Scalar.indexCast v409
  let c1536 : Index := 1536#32
  ![v410.toNat, 1536]
def k0_off54 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32_274 : BitVec 32 := 512#32
  let v420 : BitVec 32 := Scalar.muli arg19 c512_i32_274
  let c1536_i32 : BitVec 32 := 1536#32
  ![arg21.toNat, v420.toNat, 1536]
def k0_off55 (arg22 : BitVec 32) : Fin 1 → Nat :=
  let c0_i32_250 : BitVec 32 := 0#32
  let v367 : BitVec 32 := Scalar.addi arg22 c0_i32_250
  let c3_i32_251 : BitVec 32 := 3#32
  let v368 : BitVec 32 := Scalar.andi v367 c3_i32_251
  ![v368.toNat]
def k0_cond16 (v345 : BitVec 32) : BitVec 1 :=
  let c4_i32_242 : BitVec 32 := 4#32
  let v355 : BitVec 1 := Scalar.cmpi .eq v345 c4_i32_242
  let v356 : BitVec 32 := Scalar.extui v355
  let c0_i32_243 : BitVec 32 := 0#32
  let v357 : BitVec 1 := Scalar.cmpi .ne v356 c0_i32_243
  v357

def k0_cond17 (arg22 : BitVec 32) : BitVec 1 :=
  let c0_i32_252 : BitVec 32 := 0#32
  let v369 : BitVec 32 := Scalar.addi arg22 c0_i32_252
  let c4_i32_253 : BitVec 32 := 4#32
  let v370 : BitVec 1 := Scalar.cmpi .sge v369 c4_i32_253
  let v371 : BitVec 32 := Scalar.extui v370
  let c0_i32_254 : BitVec 32 := 0#32
  let v372 : BitVec 1 := Scalar.cmpi .ne v371 c0_i32_254
  v372

def k0_off56 (arg22 : BitVec 32) : Fin 3 → Nat :=
  let c0_i32_250 : BitVec 32 := 0#32
  let v367 : BitVec 32 := Scalar.addi arg22 c0_i32_250
  let c3_i32_251 : BitVec 32 := 3#32
  let v368 : BitVec 32 := Scalar.andi v367 c3_i32_251
  let c0_i32_280 : BitVec 32 := 0#32
  let c0_i32_281 : BitVec 32 := 0#32
  ![v368.toNat, 0, 0]
def k0_mult13 (v343 : BitVec 32) : BitVec 32 :=
  let c256_i32 : BitVec 32 := 256#32
  let v373 : BitVec 32 := Scalar.muli v343 c256_i32
  v373
def k0_off57 (v343 : BitVec 32) : Fin 2 → Nat :=
  let c0_255 : Index := 0#32
  let c256_i32 : BitVec 32 := 256#32
  let v373 : BitVec 32 := Scalar.muli v343 c256_i32
  let v374 : BitVec 32 := v373
  let v375 : Index := Scalar.indexCast v374
  ![0, v375.toNat]
def k0_mult14 (v343 : BitVec 32) : BitVec 32 :=
  let c128_i32 : BitVec 32 := 128#32
  let v378 : BitVec 32 := Scalar.muli v343 c128_i32
  v378
def k0_off58 (v343 : BitVec 32) : Fin 2 → Nat :=
  let c128_i32 : BitVec 32 := 128#32
  let v378 : BitVec 32 := Scalar.muli v343 c128_i32
  let v379 : BitVec 32 := v378
  let v380 : Index := Scalar.indexCast v379
  let c0_256 : Index := 0#32
  ![v380.toNat, 0]
def k0_off59 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let v386 : Index := Scalar.indexCast v368
  let c0_258 : Index := 0#32
  let c0_259 : Index := 0#32
  ![v386.toNat, 0, 0]
def k0_off60 (arg22 : BitVec 32) (c0_i32_250 : BitVec 32) : Fin 1 → Nat :=
  let v367 : BitVec 32 := Scalar.addi arg22 c0_i32_250
  let c3_i32_251 : BitVec 32 := 3#32
  let v368 : BitVec 32 := Scalar.andi v367 c3_i32_251
  ![v368.toNat]
def k0_off61 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32 : BitVec 32 := 512#32
  let v390 : BitVec 32 := Scalar.muli arg19 c512_i32
  let c0_i32_260 : BitVec 32 := 0#32
  ![arg21.toNat, v390.toNat, 0]
def k0_off62 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let c0_i32_261 : BitVec 32 := 0#32
  let c0_i32_262 : BitVec 32 := 0#32
  ![v368.toNat, 0, 0]
def k0_off63 (arg22 : BitVec 32) : Fin 1 → Nat :=
  let c1_i32_263 : BitVec 32 := 1#32
  let v397 : BitVec 32 := Scalar.addi arg22 c1_i32_263
  let c3_i32_264 : BitVec 32 := 3#32
  let v398 : BitVec 32 := Scalar.andi v397 c3_i32_264
  ![v398.toNat]
def k0_cond18 (arg22 : BitVec 32) : BitVec 1 :=
  let c1_i32_265 : BitVec 32 := 1#32
  let v399 : BitVec 32 := Scalar.addi arg22 c1_i32_265
  let c4_i32_266 : BitVec 32 := 4#32
  let v400 : BitVec 1 := Scalar.cmpi .sge v399 c4_i32_266
  let v401 : BitVec 32 := Scalar.extui v400
  let c0_i32_267 : BitVec 32 := 0#32
  let v402 : BitVec 1 := Scalar.cmpi .ne v401 c0_i32_267
  v402

def k0_off64 (arg22 : BitVec 32) : Fin 3 → Nat :=
  let c1_i32_263 : BitVec 32 := 1#32
  let v397 : BitVec 32 := Scalar.addi arg22 c1_i32_263
  let c3_i32_264 : BitVec 32 := 3#32
  let v398 : BitVec 32 := Scalar.andi v397 c3_i32_264
  let c0_i32_280 : BitVec 32 := 0#32
  let c0_i32_281 : BitVec 32 := 0#32
  ![v398.toNat, 0, 0]
def k0_mult15 (v343 : BitVec 32) : BitVec 32 :=
  let c256_i32_268 : BitVec 32 := 256#32
  let v403 : BitVec 32 := Scalar.muli v343 c256_i32_268
  v403
def k0_mult16 (v343 : BitVec 32) : BitVec 32 :=
  let c128_i32_270 : BitVec 32 := 128#32
  let v408 : BitVec 32 := Scalar.muli v343 c128_i32_270
  v408
def k0_off65 (v343 : BitVec 32) : Fin 2 → Nat :=
  let c128_i32_270 : BitVec 32 := 128#32
  let v408 : BitVec 32 := Scalar.muli v343 c128_i32_270
  let v409 : BitVec 32 := v408
  let v410 : Index := Scalar.indexCast v409
  let c1536 : Index := 1536#32
  ![v410.toNat, 1536]
def k0_off66 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32_274 : BitVec 32 := 512#32
  let v420 : BitVec 32 := Scalar.muli arg19 c512_i32_274
  let c1536_i32 : BitVec 32 := 1536#32
  ![arg21.toNat, v420.toNat, 1536]
def k0_off67 (arg22 : BitVec 32) : Fin 1 → Nat :=
  let c0_i32_250 : BitVec 32 := 0#32
  let v367 : BitVec 32 := Scalar.addi arg22 c0_i32_250
  let c3_i32_251 : BitVec 32 := 3#32
  let v368 : BitVec 32 := Scalar.andi v367 c3_i32_251
  ![v368.toNat]
def k0_cond19 (v345 : BitVec 32) : BitVec 1 :=
  let c5_i32_244 : BitVec 32 := 5#32
  let v358 : BitVec 1 := Scalar.cmpi .eq v345 c5_i32_244
  let v359 : BitVec 32 := Scalar.extui v358
  let c0_i32_245 : BitVec 32 := 0#32
  let v360 : BitVec 1 := Scalar.cmpi .ne v359 c0_i32_245
  v360

def k0_cond20 (arg22 : BitVec 32) : BitVec 1 :=
  let c0_i32_252 : BitVec 32 := 0#32
  let v369 : BitVec 32 := Scalar.addi arg22 c0_i32_252
  let c4_i32_253 : BitVec 32 := 4#32
  let v370 : BitVec 1 := Scalar.cmpi .sge v369 c4_i32_253
  let v371 : BitVec 32 := Scalar.extui v370
  let c0_i32_254 : BitVec 32 := 0#32
  let v372 : BitVec 1 := Scalar.cmpi .ne v371 c0_i32_254
  v372

def k0_off68 (arg22 : BitVec 32) : Fin 3 → Nat :=
  let c0_i32_250 : BitVec 32 := 0#32
  let v367 : BitVec 32 := Scalar.addi arg22 c0_i32_250
  let c3_i32_251 : BitVec 32 := 3#32
  let v368 : BitVec 32 := Scalar.andi v367 c3_i32_251
  let c0_i32_280 : BitVec 32 := 0#32
  let c0_i32_281 : BitVec 32 := 0#32
  ![v368.toNat, 0, 0]
def k0_mult17 (v343 : BitVec 32) : BitVec 32 :=
  let c256_i32 : BitVec 32 := 256#32
  let v373 : BitVec 32 := Scalar.muli v343 c256_i32
  v373
def k0_off69 (v343 : BitVec 32) : Fin 2 → Nat :=
  let c0_255 : Index := 0#32
  let c256_i32 : BitVec 32 := 256#32
  let v373 : BitVec 32 := Scalar.muli v343 c256_i32
  let v374 : BitVec 32 := v373
  let v375 : Index := Scalar.indexCast v374
  ![0, v375.toNat]
def k0_mult18 (v343 : BitVec 32) : BitVec 32 :=
  let c128_i32 : BitVec 32 := 128#32
  let v378 : BitVec 32 := Scalar.muli v343 c128_i32
  v378
def k0_off70 (v343 : BitVec 32) : Fin 2 → Nat :=
  let c128_i32 : BitVec 32 := 128#32
  let v378 : BitVec 32 := Scalar.muli v343 c128_i32
  let v379 : BitVec 32 := v378
  let v380 : Index := Scalar.indexCast v379
  let c0_256 : Index := 0#32
  ![v380.toNat, 0]
def k0_off71 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let v386 : Index := Scalar.indexCast v368
  let c0_258 : Index := 0#32
  let c0_259 : Index := 0#32
  ![v386.toNat, 0, 0]
def k0_off72 (arg22 : BitVec 32) (c0_i32_250 : BitVec 32) : Fin 1 → Nat :=
  let v367 : BitVec 32 := Scalar.addi arg22 c0_i32_250
  let c3_i32_251 : BitVec 32 := 3#32
  let v368 : BitVec 32 := Scalar.andi v367 c3_i32_251
  ![v368.toNat]
def k0_off73 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32 : BitVec 32 := 512#32
  let v390 : BitVec 32 := Scalar.muli arg19 c512_i32
  let c0_i32_260 : BitVec 32 := 0#32
  ![arg21.toNat, v390.toNat, 0]
def k0_off74 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let c0_i32_261 : BitVec 32 := 0#32
  let c0_i32_262 : BitVec 32 := 0#32
  ![v368.toNat, 0, 0]
def k0_off75 (arg22 : BitVec 32) : Fin 1 → Nat :=
  let c1_i32_263 : BitVec 32 := 1#32
  let v397 : BitVec 32 := Scalar.addi arg22 c1_i32_263
  let c3_i32_264 : BitVec 32 := 3#32
  let v398 : BitVec 32 := Scalar.andi v397 c3_i32_264
  ![v398.toNat]
def k0_cond21 (arg22 : BitVec 32) : BitVec 1 :=
  let c1_i32_265 : BitVec 32 := 1#32
  let v399 : BitVec 32 := Scalar.addi arg22 c1_i32_265
  let c4_i32_266 : BitVec 32 := 4#32
  let v400 : BitVec 1 := Scalar.cmpi .sge v399 c4_i32_266
  let v401 : BitVec 32 := Scalar.extui v400
  let c0_i32_267 : BitVec 32 := 0#32
  let v402 : BitVec 1 := Scalar.cmpi .ne v401 c0_i32_267
  v402

def k0_off76 (arg22 : BitVec 32) : Fin 3 → Nat :=
  let c1_i32_263 : BitVec 32 := 1#32
  let v397 : BitVec 32 := Scalar.addi arg22 c1_i32_263
  let c3_i32_264 : BitVec 32 := 3#32
  let v398 : BitVec 32 := Scalar.andi v397 c3_i32_264
  let c0_i32_280 : BitVec 32 := 0#32
  let c0_i32_281 : BitVec 32 := 0#32
  ![v398.toNat, 0, 0]
def k0_mult19 (v343 : BitVec 32) : BitVec 32 :=
  let c256_i32_268 : BitVec 32 := 256#32
  let v403 : BitVec 32 := Scalar.muli v343 c256_i32_268
  v403
def k0_mult20 (v343 : BitVec 32) : BitVec 32 :=
  let c128_i32_270 : BitVec 32 := 128#32
  let v408 : BitVec 32 := Scalar.muli v343 c128_i32_270
  v408
def k0_off77 (v343 : BitVec 32) : Fin 2 → Nat :=
  let c128_i32_270 : BitVec 32 := 128#32
  let v408 : BitVec 32 := Scalar.muli v343 c128_i32_270
  let v409 : BitVec 32 := v408
  let v410 : Index := Scalar.indexCast v409
  let c1536 : Index := 1536#32
  ![v410.toNat, 1536]
def k0_off78 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32_274 : BitVec 32 := 512#32
  let v420 : BitVec 32 := Scalar.muli arg19 c512_i32_274
  let c1536_i32 : BitVec 32 := 1536#32
  ![arg21.toNat, v420.toNat, 1536]
def k0_off79 (arg22 : BitVec 32) : Fin 1 → Nat :=
  let c0_i32_250 : BitVec 32 := 0#32
  let v367 : BitVec 32 := Scalar.addi arg22 c0_i32_250
  let c3_i32_251 : BitVec 32 := 3#32
  let v368 : BitVec 32 := Scalar.andi v367 c3_i32_251
  ![v368.toNat]
def k0_cond22 (v345 : BitVec 32) : BitVec 1 :=
  let c6_i32 : BitVec 32 := 6#32
  let v361 : BitVec 1 := Scalar.cmpi .eq v345 c6_i32
  let v362 : BitVec 32 := Scalar.extui v361
  let c0_i32_246 : BitVec 32 := 0#32
  let v363 : BitVec 1 := Scalar.cmpi .ne v362 c0_i32_246
  v363

def k0_cond23 (arg22 : BitVec 32) : BitVec 1 :=
  let c0_i32_252 : BitVec 32 := 0#32
  let v369 : BitVec 32 := Scalar.addi arg22 c0_i32_252
  let c4_i32_253 : BitVec 32 := 4#32
  let v370 : BitVec 1 := Scalar.cmpi .sge v369 c4_i32_253
  let v371 : BitVec 32 := Scalar.extui v370
  let c0_i32_254 : BitVec 32 := 0#32
  let v372 : BitVec 1 := Scalar.cmpi .ne v371 c0_i32_254
  v372

def k0_off80 (arg22 : BitVec 32) : Fin 3 → Nat :=
  let c0_i32_250 : BitVec 32 := 0#32
  let v367 : BitVec 32 := Scalar.addi arg22 c0_i32_250
  let c3_i32_251 : BitVec 32 := 3#32
  let v368 : BitVec 32 := Scalar.andi v367 c3_i32_251
  let c0_i32_280 : BitVec 32 := 0#32
  let c0_i32_281 : BitVec 32 := 0#32
  ![v368.toNat, 0, 0]
def k0_mult21 (v343 : BitVec 32) : BitVec 32 :=
  let c256_i32 : BitVec 32 := 256#32
  let v373 : BitVec 32 := Scalar.muli v343 c256_i32
  v373
def k0_off81 (v343 : BitVec 32) : Fin 2 → Nat :=
  let c0_255 : Index := 0#32
  let c256_i32 : BitVec 32 := 256#32
  let v373 : BitVec 32 := Scalar.muli v343 c256_i32
  let v374 : BitVec 32 := v373
  let v375 : Index := Scalar.indexCast v374
  ![0, v375.toNat]
def k0_mult22 (v343 : BitVec 32) : BitVec 32 :=
  let c128_i32 : BitVec 32 := 128#32
  let v378 : BitVec 32 := Scalar.muli v343 c128_i32
  v378
def k0_off82 (v343 : BitVec 32) : Fin 2 → Nat :=
  let c128_i32 : BitVec 32 := 128#32
  let v378 : BitVec 32 := Scalar.muli v343 c128_i32
  let v379 : BitVec 32 := v378
  let v380 : Index := Scalar.indexCast v379
  let c0_256 : Index := 0#32
  ![v380.toNat, 0]
def k0_off83 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let v386 : Index := Scalar.indexCast v368
  let c0_258 : Index := 0#32
  let c0_259 : Index := 0#32
  ![v386.toNat, 0, 0]
def k0_off84 (arg22 : BitVec 32) (c0_i32_250 : BitVec 32) : Fin 1 → Nat :=
  let v367 : BitVec 32 := Scalar.addi arg22 c0_i32_250
  let c3_i32_251 : BitVec 32 := 3#32
  let v368 : BitVec 32 := Scalar.andi v367 c3_i32_251
  ![v368.toNat]
def k0_off85 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32 : BitVec 32 := 512#32
  let v390 : BitVec 32 := Scalar.muli arg19 c512_i32
  let c0_i32_260 : BitVec 32 := 0#32
  ![arg21.toNat, v390.toNat, 0]
def k0_off86 (arg22 : BitVec 32) (c0_i32_250 : BitVec 32) : Fin 3 → Nat :=
  let v367 : BitVec 32 := Scalar.addi arg22 c0_i32_250
  let c3_i32_251 : BitVec 32 := 3#32
  let v368 : BitVec 32 := Scalar.andi v367 c3_i32_251
  let c0_i32_261 : BitVec 32 := 0#32
  let c0_i32_262 : BitVec 32 := 0#32
  ![v368.toNat, 0, 0]
def k0_off87 (arg22 : BitVec 32) : Fin 1 → Nat :=
  let c1_i32_263 : BitVec 32 := 1#32
  let v397 : BitVec 32 := Scalar.addi arg22 c1_i32_263
  let c3_i32_264 : BitVec 32 := 3#32
  let v398 : BitVec 32 := Scalar.andi v397 c3_i32_264
  ![v398.toNat]
def k0_cond24 (arg22 : BitVec 32) : BitVec 1 :=
  let c1_i32_265 : BitVec 32 := 1#32
  let v399 : BitVec 32 := Scalar.addi arg22 c1_i32_265
  let c4_i32_266 : BitVec 32 := 4#32
  let v400 : BitVec 1 := Scalar.cmpi .sge v399 c4_i32_266
  let v401 : BitVec 32 := Scalar.extui v400
  let c0_i32_267 : BitVec 32 := 0#32
  let v402 : BitVec 1 := Scalar.cmpi .ne v401 c0_i32_267
  v402

def k0_off88 (arg22 : BitVec 32) : Fin 3 → Nat :=
  let c1_i32_263 : BitVec 32 := 1#32
  let v397 : BitVec 32 := Scalar.addi arg22 c1_i32_263
  let c3_i32_264 : BitVec 32 := 3#32
  let v398 : BitVec 32 := Scalar.andi v397 c3_i32_264
  let c0_i32_280 : BitVec 32 := 0#32
  let c0_i32_281 : BitVec 32 := 0#32
  ![v398.toNat, 0, 0]
def k0_mult23 (v343 : BitVec 32) : BitVec 32 :=
  let c256_i32_268 : BitVec 32 := 256#32
  let v403 : BitVec 32 := Scalar.muli v343 c256_i32_268
  v403
def k0_mult24 (v343 : BitVec 32) : BitVec 32 :=
  let c128_i32_270 : BitVec 32 := 128#32
  let v408 : BitVec 32 := Scalar.muli v343 c128_i32_270
  v408
def k0_off89 (v343 : BitVec 32) : Fin 2 → Nat :=
  let c128_i32_270 : BitVec 32 := 128#32
  let v408 : BitVec 32 := Scalar.muli v343 c128_i32_270
  let v409 : BitVec 32 := v408
  let v410 : Index := Scalar.indexCast v409
  let c1536 : Index := 1536#32
  ![v410.toNat, 1536]

def k0_chk1_0 (arg22 : BitVec 32) (v343 : BitVec 32) (v345 : BitVec 32) : Prop :=
  (∀ (k0_h7 : k0_cond7 v345 = 1#1), ∀ (k0_h8 : k0_cond8 arg22 = 1#1), ∀ a, (k0_off19 arg22) a + S1.size a ≤ S4.size a) ∧
  (∀ (k0_h7 : k0_cond7 v345 = 1#1), ∀ (k0_h8 : k0_cond8 arg22 = 1#1), ∀ a, (k0_off20 arg22) a + S1x512x1536.size a ≤ S4x512x1536.size a) ∧
  (∀ (k0_h7 : k0_cond7 v345 = 1#1), 256 ∣ (k0_mult1 v343).toNat) ∧
  (∀ (k0_h7 : k0_cond7 v345 = 1#1), ∀ a, (k0_off21 v343) a + S256x256.size a ≤ S256x2816.size a) ∧
  (∀ (k0_h7 : k0_cond7 v345 = 1#1), 128 ∣ (k0_mult2 v343).toNat) ∧
  (∀ (k0_h7 : k0_cond7 v345 = 1#1), ∀ a, (k0_off22 v343) a + S128x1536.size a ≤ S1408x3072.size a) ∧
  (∀ (k0_h7 : k0_cond7 v345 = 1#1), ∀ (r : Fin 2), ∀ a, (k0_off23 arg22 (BitVec.ofNat 32 r.val)) a + S1x512x1536.size a ≤ S4x512x1536.size a) ∧
  (∀ (k0_h7 : k0_cond7 v345 = 1#1), ∀ (r : Fin 2), ∀ a, (k0_off24 arg22 (BitVec.ofNat 32 r.val)) a + S1.size a ≤ S4.size a) ∧
  (∀ (k0_h7 : k0_cond7 v345 = 1#1), ∀ (r : Fin 2), ∀ a, (k0_off26 arg22 (BitVec.ofNat 32 r.val)) a + S1x512x1536.size a ≤ S4x512x1536.size a) ∧
  (∀ (k0_h7 : k0_cond7 v345 = 1#1), ∀ (k0_h9 : k0_cond9 arg22 = 1#1), ∀ a, (k0_off27 arg22) a + S1.size a ≤ S4.size a) ∧
  (∀ (k0_h7 : k0_cond7 v345 = 1#1), ∀ (k0_h9 : k0_cond9 arg22 = 1#1), ∀ a, (k0_off28 arg22) a + S1x512x1536.size a ≤ S4x512x1536.size a) ∧
  (∀ (k0_h7 : k0_cond7 v345 = 1#1), 256 ∣ (k0_mult3 v343).toNat) ∧
  (∀ (k0_h7 : k0_cond7 v345 = 1#1), 128 ∣ (k0_mult4 v343).toNat) ∧
  (∀ (k0_h7 : k0_cond7 v345 = 1#1), ∀ a, (k0_off29 v343) a + S128x1536.size a ≤ S1408x3072.size a) ∧
  (∀ (k0_h10 : k0_cond10 v345 = 1#1), ∀ (k0_h11 : k0_cond11 arg22 = 1#1), ∀ a, (k0_off31 arg22) a + S1.size a ≤ S4.size a) ∧
  (∀ (k0_h10 : k0_cond10 v345 = 1#1), ∀ (k0_h11 : k0_cond11 arg22 = 1#1), ∀ a, (k0_off32 arg22) a + S1x512x1536.size a ≤ S4x512x1536.size a) ∧
  (∀ (k0_h10 : k0_cond10 v345 = 1#1), 256 ∣ (k0_mult5 v343).toNat) ∧
  (∀ (k0_h10 : k0_cond10 v345 = 1#1), ∀ a, (k0_off33 v343) a + S256x512.size a ≤ S256x2816.size a) ∧
  (∀ (k0_h10 : k0_cond10 v345 = 1#1), 128 ∣ (k0_mult6 v343).toNat) ∧
  (∀ (k0_h10 : k0_cond10 v345 = 1#1), ∀ a, (k0_off34 v343) a + S256x1536.size a ≤ S1408x3072.size a) ∧
  (∀ (k0_h10 : k0_cond10 v345 = 1#1), ∀ (r : Fin 2), ∀ a, (k0_off35 arg22 (BitVec.ofNat 32 r.val)) a + S1x512x1536.size a ≤ S4x512x1536.size a) ∧
  (∀ (k0_h10 : k0_cond10 v345 = 1#1), ∀ (r : Fin 2), ∀ a, (k0_off36 arg22 (BitVec.ofNat 32 r.val)) a + S1.size a ≤ S4.size a) ∧
  (∀ (k0_h10 : k0_cond10 v345 = 1#1), ∀ (r : Fin 2), ∀ a, (k0_off38 arg22 (BitVec.ofNat 32 r.val)) a + S1x512x1536.size a ≤ S4x512x1536.size a) ∧
  (∀ (k0_h10 : k0_cond10 v345 = 1#1), ∀ (k0_h12 : k0_cond12 arg22 = 1#1), ∀ a, (k0_off39 arg22) a + S1.size a ≤ S4.size a) ∧
  (∀ (k0_h10 : k0_cond10 v345 = 1#1), ∀ (k0_h12 : k0_cond12 arg22 = 1#1), ∀ a, (k0_off40 arg22) a + S1x512x1536.size a ≤ S4x512x1536.size a) ∧
  (∀ (k0_h10 : k0_cond10 v345 = 1#1), 256 ∣ (k0_mult7 v343).toNat) ∧
  (∀ (k0_h10 : k0_cond10 v345 = 1#1), 128 ∣ (k0_mult8 v343).toNat) ∧
  (∀ (k0_h10 : k0_cond10 v345 = 1#1), ∀ a, (k0_off41 v343) a + S256x1536.size a ≤ S1408x3072.size a) ∧
  (∀ (k0_h13 : k0_cond13 v345 = 1#1), ∀ (k0_h14 : k0_cond14 arg22 = 1#1), ∀ a, (k0_off43 arg22) a + S1.size a ≤ S4.size a) ∧
  (∀ (k0_h13 : k0_cond13 v345 = 1#1), ∀ (k0_h14 : k0_cond14 arg22 = 1#1), ∀ a, (k0_off44 arg22) a + S1x512x1536.size a ≤ S4x512x1536.size a) ∧
  (∀ (k0_h13 : k0_cond13 v345 = 1#1), 256 ∣ (k0_mult9 v343).toNat) ∧
  (∀ (k0_h13 : k0_cond13 v345 = 1#1), ∀ a, (k0_off45 v343) a + S256x768.size a ≤ S256x2816.size a)
def k0_chk1_1 (arg22 : BitVec 32) (v343 : BitVec 32) (v345 : BitVec 32) : Prop :=
  (∀ (k0_h13 : k0_cond13 v345 = 1#1), 128 ∣ (k0_mult10 v343).toNat) ∧
  (∀ (k0_h13 : k0_cond13 v345 = 1#1), ∀ a, (k0_off46 v343) a + S384x1536.size a ≤ S1408x3072.size a) ∧
  (∀ (k0_h13 : k0_cond13 v345 = 1#1), ∀ (r : Fin 2), ∀ a, (k0_off47 arg22 (BitVec.ofNat 32 r.val)) a + S1x512x1536.size a ≤ S4x512x1536.size a) ∧
  (∀ (k0_h13 : k0_cond13 v345 = 1#1), ∀ (r : Fin 2), ∀ a, (k0_off48 arg22 (BitVec.ofNat 32 r.val)) a + S1.size a ≤ S4.size a) ∧
  (∀ (k0_h13 : k0_cond13 v345 = 1#1), ∀ (r : Fin 2), ∀ a, (k0_off50 arg22 (BitVec.ofNat 32 r.val)) a + S1x512x1536.size a ≤ S4x512x1536.size a) ∧
  (∀ (k0_h13 : k0_cond13 v345 = 1#1), ∀ (k0_h15 : k0_cond15 arg22 = 1#1), ∀ a, (k0_off51 arg22) a + S1.size a ≤ S4.size a) ∧
  (∀ (k0_h13 : k0_cond13 v345 = 1#1), ∀ (k0_h15 : k0_cond15 arg22 = 1#1), ∀ a, (k0_off52 arg22) a + S1x512x1536.size a ≤ S4x512x1536.size a) ∧
  (∀ (k0_h13 : k0_cond13 v345 = 1#1), 256 ∣ (k0_mult11 v343).toNat) ∧
  (∀ (k0_h13 : k0_cond13 v345 = 1#1), 128 ∣ (k0_mult12 v343).toNat) ∧
  (∀ (k0_h13 : k0_cond13 v345 = 1#1), ∀ a, (k0_off53 v343) a + S384x1536.size a ≤ S1408x3072.size a) ∧
  (∀ (k0_h16 : k0_cond16 v345 = 1#1), ∀ (k0_h17 : k0_cond17 arg22 = 1#1), ∀ a, (k0_off55 arg22) a + S1.size a ≤ S4.size a) ∧
  (∀ (k0_h16 : k0_cond16 v345 = 1#1), ∀ (k0_h17 : k0_cond17 arg22 = 1#1), ∀ a, (k0_off56 arg22) a + S1x512x1536.size a ≤ S4x512x1536.size a) ∧
  (∀ (k0_h16 : k0_cond16 v345 = 1#1), 256 ∣ (k0_mult13 v343).toNat) ∧
  (∀ (k0_h16 : k0_cond16 v345 = 1#1), ∀ a, (k0_off57 v343) a + S256x1024.size a ≤ S256x2816.size a) ∧
  (∀ (k0_h16 : k0_cond16 v345 = 1#1), 128 ∣ (k0_mult14 v343).toNat) ∧
  (∀ (k0_h16 : k0_cond16 v345 = 1#1), ∀ a, (k0_off58 v343) a + S512x1536.size a ≤ S1408x3072.size a) ∧
  (∀ (k0_h16 : k0_cond16 v345 = 1#1), ∀ (r : Fin 2), ∀ a, (k0_off59 arg22 (BitVec.ofNat 32 r.val)) a + S1x512x1536.size a ≤ S4x512x1536.size a) ∧
  (∀ (k0_h16 : k0_cond16 v345 = 1#1), ∀ (r : Fin 2), ∀ a, (k0_off60 arg22 (BitVec.ofNat 32 r.val)) a + S1.size a ≤ S4.size a) ∧
  (∀ (k0_h16 : k0_cond16 v345 = 1#1), ∀ (r : Fin 2), ∀ a, (k0_off62 arg22 (BitVec.ofNat 32 r.val)) a + S1x512x1536.size a ≤ S4x512x1536.size a) ∧
  (∀ (k0_h16 : k0_cond16 v345 = 1#1), ∀ (k0_h18 : k0_cond18 arg22 = 1#1), ∀ a, (k0_off63 arg22) a + S1.size a ≤ S4.size a) ∧
  (∀ (k0_h16 : k0_cond16 v345 = 1#1), ∀ (k0_h18 : k0_cond18 arg22 = 1#1), ∀ a, (k0_off64 arg22) a + S1x512x1536.size a ≤ S4x512x1536.size a) ∧
  (∀ (k0_h16 : k0_cond16 v345 = 1#1), 256 ∣ (k0_mult15 v343).toNat) ∧
  (∀ (k0_h16 : k0_cond16 v345 = 1#1), 128 ∣ (k0_mult16 v343).toNat) ∧
  (∀ (k0_h16 : k0_cond16 v345 = 1#1), ∀ a, (k0_off65 v343) a + S512x1536.size a ≤ S1408x3072.size a) ∧
  (∀ (k0_h19 : k0_cond19 v345 = 1#1), ∀ (k0_h20 : k0_cond20 arg22 = 1#1), ∀ a, (k0_off67 arg22) a + S1.size a ≤ S4.size a) ∧
  (∀ (k0_h19 : k0_cond19 v345 = 1#1), ∀ (k0_h20 : k0_cond20 arg22 = 1#1), ∀ a, (k0_off68 arg22) a + S1x512x1536.size a ≤ S4x512x1536.size a) ∧
  (∀ (k0_h19 : k0_cond19 v345 = 1#1), 256 ∣ (k0_mult17 v343).toNat) ∧
  (∀ (k0_h19 : k0_cond19 v345 = 1#1), ∀ a, (k0_off69 v343) a + S256x1280.size a ≤ S256x2816.size a) ∧
  (∀ (k0_h19 : k0_cond19 v345 = 1#1), 128 ∣ (k0_mult18 v343).toNat) ∧
  (∀ (k0_h19 : k0_cond19 v345 = 1#1), ∀ a, (k0_off70 v343) a + S640x1536.size a ≤ S1408x3072.size a) ∧
  (∀ (k0_h19 : k0_cond19 v345 = 1#1), ∀ (r : Fin 2), ∀ a, (k0_off71 arg22 (BitVec.ofNat 32 r.val)) a + S1x512x1536.size a ≤ S4x512x1536.size a) ∧
  (∀ (k0_h19 : k0_cond19 v345 = 1#1), ∀ (r : Fin 2), ∀ a, (k0_off72 arg22 (BitVec.ofNat 32 r.val)) a + S1.size a ≤ S4.size a)
def k0_chk1_2 (arg22 : BitVec 32) (v343 : BitVec 32) (v345 : BitVec 32) : Prop :=
  (∀ (k0_h19 : k0_cond19 v345 = 1#1), ∀ (r : Fin 2), ∀ a, (k0_off74 arg22 (BitVec.ofNat 32 r.val)) a + S1x512x1536.size a ≤ S4x512x1536.size a) ∧
  (∀ (k0_h19 : k0_cond19 v345 = 1#1), ∀ (k0_h21 : k0_cond21 arg22 = 1#1), ∀ a, (k0_off75 arg22) a + S1.size a ≤ S4.size a) ∧
  (∀ (k0_h19 : k0_cond19 v345 = 1#1), ∀ (k0_h21 : k0_cond21 arg22 = 1#1), ∀ a, (k0_off76 arg22) a + S1x512x1536.size a ≤ S4x512x1536.size a) ∧
  (∀ (k0_h19 : k0_cond19 v345 = 1#1), 256 ∣ (k0_mult19 v343).toNat) ∧
  (∀ (k0_h19 : k0_cond19 v345 = 1#1), 128 ∣ (k0_mult20 v343).toNat) ∧
  (∀ (k0_h19 : k0_cond19 v345 = 1#1), ∀ a, (k0_off77 v343) a + S640x1536.size a ≤ S1408x3072.size a) ∧
  (∀ (k0_h22 : k0_cond22 v345 = 1#1), ∀ (k0_h23 : k0_cond23 arg22 = 1#1), ∀ a, (k0_off79 arg22) a + S1.size a ≤ S4.size a) ∧
  (∀ (k0_h22 : k0_cond22 v345 = 1#1), ∀ (k0_h23 : k0_cond23 arg22 = 1#1), ∀ a, (k0_off80 arg22) a + S1x512x1536.size a ≤ S4x512x1536.size a) ∧
  (∀ (k0_h22 : k0_cond22 v345 = 1#1), 256 ∣ (k0_mult21 v343).toNat) ∧
  (∀ (k0_h22 : k0_cond22 v345 = 1#1), ∀ a, (k0_off81 v343) a + S256x1536.size a ≤ S256x2816.size a) ∧
  (∀ (k0_h22 : k0_cond22 v345 = 1#1), 128 ∣ (k0_mult22 v343).toNat) ∧
  (∀ (k0_h22 : k0_cond22 v345 = 1#1), ∀ a, (k0_off82 v343) a + S768x1536.size a ≤ S1408x3072.size a) ∧
  (∀ (k0_h22 : k0_cond22 v345 = 1#1), ∀ (r : Fin 2), ∀ a, (k0_off83 arg22 (BitVec.ofNat 32 r.val)) a + S1x512x1536.size a ≤ S4x512x1536.size a) ∧
  (∀ (k0_h22 : k0_cond22 v345 = 1#1), ∀ (r : Fin 2), ∀ a, (k0_off84 arg22 (BitVec.ofNat 32 r.val)) a + S1.size a ≤ S4.size a) ∧
  (∀ (k0_h22 : k0_cond22 v345 = 1#1), ∀ (r : Fin 2), ∀ a, (k0_off86 arg22 (BitVec.ofNat 32 r.val)) a + S1x512x1536.size a ≤ S4x512x1536.size a) ∧
  (∀ (k0_h22 : k0_cond22 v345 = 1#1), ∀ (k0_h24 : k0_cond24 arg22 = 1#1), ∀ a, (k0_off87 arg22) a + S1.size a ≤ S4.size a) ∧
  (∀ (k0_h22 : k0_cond22 v345 = 1#1), ∀ (k0_h24 : k0_cond24 arg22 = 1#1), ∀ a, (k0_off88 arg22) a + S1x512x1536.size a ≤ S4x512x1536.size a) ∧
  (∀ (k0_h22 : k0_cond22 v345 = 1#1), 256 ∣ (k0_mult23 v343).toNat) ∧
  (∀ (k0_h22 : k0_cond22 v345 = 1#1), 128 ∣ (k0_mult24 v343).toNat) ∧
  (∀ (k0_h22 : k0_cond22 v345 = 1#1), ∀ a, (k0_off89 v343) a + S768x1536.size a ≤ S1408x3072.size a)
def k0_chk1 (arg22 : BitVec 32) (v343 : BitVec 32) (v345 : BitVec 32) : Prop :=
  k0_chk1_0 arg22 v343 v345 ∧
  k0_chk1_1 arg22 v343 v345 ∧
  k0_chk1_2 arg22 v343 v345
theorem k0_off19_inb : ∀ (arg22 : BitVec 32) (v343 : BitVec 32) (v345 : BitVec 32) (k0_hw1 : k0_chk1 arg22 v343 v345), ∀ (k0_h7 : k0_cond7 v345 = 1#1), ∀ (k0_h8 : k0_cond8 arg22 = 1#1), ∀ a, (k0_off19 arg22) a + S1.size a ≤ S4.size a := fun arg22 v343 v345 k0_hw1 k0_h7 k0_h8 => k0_hw1.1.1 k0_h7 k0_h8
theorem k0_off20_inb : ∀ (arg22 : BitVec 32) (v343 : BitVec 32) (v345 : BitVec 32) (k0_hw1 : k0_chk1 arg22 v343 v345), ∀ (k0_h7 : k0_cond7 v345 = 1#1), ∀ (k0_h8 : k0_cond8 arg22 = 1#1), ∀ a, (k0_off20 arg22) a + S1x512x1536.size a ≤ S4x512x1536.size a := fun arg22 v343 v345 k0_hw1 k0_h7 k0_h8 => k0_hw1.1.2.1 k0_h7 k0_h8
theorem k0_mult1_dvd : ∀ (arg22 : BitVec 32) (v343 : BitVec 32) (v345 : BitVec 32) (k0_hw1 : k0_chk1 arg22 v343 v345), ∀ (k0_h7 : k0_cond7 v345 = 1#1), 256 ∣ (k0_mult1 v343).toNat := fun arg22 v343 v345 k0_hw1 k0_h7 => k0_hw1.1.2.2.1 k0_h7
theorem k0_off21_inb : ∀ (arg22 : BitVec 32) (v343 : BitVec 32) (v345 : BitVec 32) (k0_hw1 : k0_chk1 arg22 v343 v345), ∀ (k0_h7 : k0_cond7 v345 = 1#1), ∀ a, (k0_off21 v343) a + S256x256.size a ≤ S256x2816.size a := fun arg22 v343 v345 k0_hw1 k0_h7 => k0_hw1.1.2.2.2.1 k0_h7
theorem k0_mult2_dvd : ∀ (arg22 : BitVec 32) (v343 : BitVec 32) (v345 : BitVec 32) (k0_hw1 : k0_chk1 arg22 v343 v345), ∀ (k0_h7 : k0_cond7 v345 = 1#1), 128 ∣ (k0_mult2 v343).toNat := fun arg22 v343 v345 k0_hw1 k0_h7 => k0_hw1.1.2.2.2.2.1 k0_h7
theorem k0_off22_inb : ∀ (arg22 : BitVec 32) (v343 : BitVec 32) (v345 : BitVec 32) (k0_hw1 : k0_chk1 arg22 v343 v345), ∀ (k0_h7 : k0_cond7 v345 = 1#1), ∀ a, (k0_off22 v343) a + S128x1536.size a ≤ S1408x3072.size a := fun arg22 v343 v345 k0_hw1 k0_h7 => k0_hw1.1.2.2.2.2.2.1 k0_h7
theorem k0_off23_inb : ∀ (arg22 : BitVec 32) (v343 : BitVec 32) (v345 : BitVec 32) (k0_hw1 : k0_chk1 arg22 v343 v345), ∀ (k0_h7 : k0_cond7 v345 = 1#1), ∀ (r : Fin 2), ∀ a, (k0_off23 arg22 (BitVec.ofNat 32 r.val)) a + S1x512x1536.size a ≤ S4x512x1536.size a := fun arg22 v343 v345 k0_hw1 k0_h7 r => k0_hw1.1.2.2.2.2.2.2.1 k0_h7 r
theorem k0_off24_inb : ∀ (arg22 : BitVec 32) (v343 : BitVec 32) (v345 : BitVec 32) (k0_hw1 : k0_chk1 arg22 v343 v345), ∀ (k0_h7 : k0_cond7 v345 = 1#1), ∀ (r : Fin 2), ∀ a, (k0_off24 arg22 (BitVec.ofNat 32 r.val)) a + S1.size a ≤ S4.size a := fun arg22 v343 v345 k0_hw1 k0_h7 r => k0_hw1.1.2.2.2.2.2.2.2.1 k0_h7 r
theorem k0_off26_inb : ∀ (arg22 : BitVec 32) (v343 : BitVec 32) (v345 : BitVec 32) (k0_hw1 : k0_chk1 arg22 v343 v345), ∀ (k0_h7 : k0_cond7 v345 = 1#1), ∀ (r : Fin 2), ∀ a, (k0_off26 arg22 (BitVec.ofNat 32 r.val)) a + S1x512x1536.size a ≤ S4x512x1536.size a := fun arg22 v343 v345 k0_hw1 k0_h7 r => k0_hw1.1.2.2.2.2.2.2.2.2.1 k0_h7 r
theorem k0_off27_inb : ∀ (arg22 : BitVec 32) (v343 : BitVec 32) (v345 : BitVec 32) (k0_hw1 : k0_chk1 arg22 v343 v345), ∀ (k0_h7 : k0_cond7 v345 = 1#1), ∀ (k0_h9 : k0_cond9 arg22 = 1#1), ∀ a, (k0_off27 arg22) a + S1.size a ≤ S4.size a := fun arg22 v343 v345 k0_hw1 k0_h7 k0_h9 => k0_hw1.1.2.2.2.2.2.2.2.2.2.1 k0_h7 k0_h9
theorem k0_off28_inb : ∀ (arg22 : BitVec 32) (v343 : BitVec 32) (v345 : BitVec 32) (k0_hw1 : k0_chk1 arg22 v343 v345), ∀ (k0_h7 : k0_cond7 v345 = 1#1), ∀ (k0_h9 : k0_cond9 arg22 = 1#1), ∀ a, (k0_off28 arg22) a + S1x512x1536.size a ≤ S4x512x1536.size a := fun arg22 v343 v345 k0_hw1 k0_h7 k0_h9 => k0_hw1.1.2.2.2.2.2.2.2.2.2.2.1 k0_h7 k0_h9
theorem k0_mult3_dvd : ∀ (arg22 : BitVec 32) (v343 : BitVec 32) (v345 : BitVec 32) (k0_hw1 : k0_chk1 arg22 v343 v345), ∀ (k0_h7 : k0_cond7 v345 = 1#1), 256 ∣ (k0_mult3 v343).toNat := fun arg22 v343 v345 k0_hw1 k0_h7 => k0_hw1.1.2.2.2.2.2.2.2.2.2.2.2.1 k0_h7
theorem k0_mult4_dvd : ∀ (arg22 : BitVec 32) (v343 : BitVec 32) (v345 : BitVec 32) (k0_hw1 : k0_chk1 arg22 v343 v345), ∀ (k0_h7 : k0_cond7 v345 = 1#1), 128 ∣ (k0_mult4 v343).toNat := fun arg22 v343 v345 k0_hw1 k0_h7 => k0_hw1.1.2.2.2.2.2.2.2.2.2.2.2.2.1 k0_h7
theorem k0_off29_inb : ∀ (arg22 : BitVec 32) (v343 : BitVec 32) (v345 : BitVec 32) (k0_hw1 : k0_chk1 arg22 v343 v345), ∀ (k0_h7 : k0_cond7 v345 = 1#1), ∀ a, (k0_off29 v343) a + S128x1536.size a ≤ S1408x3072.size a := fun arg22 v343 v345 k0_hw1 k0_h7 => k0_hw1.1.2.2.2.2.2.2.2.2.2.2.2.2.2.1 k0_h7
theorem k0_off31_inb : ∀ (arg22 : BitVec 32) (v343 : BitVec 32) (v345 : BitVec 32) (k0_hw1 : k0_chk1 arg22 v343 v345), ∀ (k0_h10 : k0_cond10 v345 = 1#1), ∀ (k0_h11 : k0_cond11 arg22 = 1#1), ∀ a, (k0_off31 arg22) a + S1.size a ≤ S4.size a := fun arg22 v343 v345 k0_hw1 k0_h10 k0_h11 => k0_hw1.1.2.2.2.2.2.2.2.2.2.2.2.2.2.2.1 k0_h10 k0_h11
theorem k0_off32_inb : ∀ (arg22 : BitVec 32) (v343 : BitVec 32) (v345 : BitVec 32) (k0_hw1 : k0_chk1 arg22 v343 v345), ∀ (k0_h10 : k0_cond10 v345 = 1#1), ∀ (k0_h11 : k0_cond11 arg22 = 1#1), ∀ a, (k0_off32 arg22) a + S1x512x1536.size a ≤ S4x512x1536.size a := fun arg22 v343 v345 k0_hw1 k0_h10 k0_h11 => k0_hw1.1.2.2.2.2.2.2.2.2.2.2.2.2.2.2.2.1 k0_h10 k0_h11
theorem k0_mult5_dvd : ∀ (arg22 : BitVec 32) (v343 : BitVec 32) (v345 : BitVec 32) (k0_hw1 : k0_chk1 arg22 v343 v345), ∀ (k0_h10 : k0_cond10 v345 = 1#1), 256 ∣ (k0_mult5 v343).toNat := fun arg22 v343 v345 k0_hw1 k0_h10 => k0_hw1.1.2.2.2.2.2.2.2.2.2.2.2.2.2.2.2.2.1 k0_h10
theorem k0_off33_inb : ∀ (arg22 : BitVec 32) (v343 : BitVec 32) (v345 : BitVec 32) (k0_hw1 : k0_chk1 arg22 v343 v345), ∀ (k0_h10 : k0_cond10 v345 = 1#1), ∀ a, (k0_off33 v343) a + S256x512.size a ≤ S256x2816.size a := fun arg22 v343 v345 k0_hw1 k0_h10 => k0_hw1.1.2.2.2.2.2.2.2.2.2.2.2.2.2.2.2.2.2.1 k0_h10
theorem k0_mult6_dvd : ∀ (arg22 : BitVec 32) (v343 : BitVec 32) (v345 : BitVec 32) (k0_hw1 : k0_chk1 arg22 v343 v345), ∀ (k0_h10 : k0_cond10 v345 = 1#1), 128 ∣ (k0_mult6 v343).toNat := fun arg22 v343 v345 k0_hw1 k0_h10 => k0_hw1.1.2.2.2.2.2.2.2.2.2.2.2.2.2.2.2.2.2.2.1 k0_h10
theorem k0_off34_inb : ∀ (arg22 : BitVec 32) (v343 : BitVec 32) (v345 : BitVec 32) (k0_hw1 : k0_chk1 arg22 v343 v345), ∀ (k0_h10 : k0_cond10 v345 = 1#1), ∀ a, (k0_off34 v343) a + S256x1536.size a ≤ S1408x3072.size a := fun arg22 v343 v345 k0_hw1 k0_h10 => k0_hw1.1.2.2.2.2.2.2.2.2.2.2.2.2.2.2.2.2.2.2.2.1 k0_h10
theorem k0_off35_inb : ∀ (arg22 : BitVec 32) (v343 : BitVec 32) (v345 : BitVec 32) (k0_hw1 : k0_chk1 arg22 v343 v345), ∀ (k0_h10 : k0_cond10 v345 = 1#1), ∀ (r : Fin 2), ∀ a, (k0_off35 arg22 (BitVec.ofNat 32 r.val)) a + S1x512x1536.size a ≤ S4x512x1536.size a := fun arg22 v343 v345 k0_hw1 k0_h10 r => k0_hw1.1.2.2.2.2.2.2.2.2.2.2.2.2.2.2.2.2.2.2.2.2.1 k0_h10 r
theorem k0_off36_inb : ∀ (arg22 : BitVec 32) (v343 : BitVec 32) (v345 : BitVec 32) (k0_hw1 : k0_chk1 arg22 v343 v345), ∀ (k0_h10 : k0_cond10 v345 = 1#1), ∀ (r : Fin 2), ∀ a, (k0_off36 arg22 (BitVec.ofNat 32 r.val)) a + S1.size a ≤ S4.size a := fun arg22 v343 v345 k0_hw1 k0_h10 r => k0_hw1.1.2.2.2.2.2.2.2.2.2.2.2.2.2.2.2.2.2.2.2.2.2.1 k0_h10 r
theorem k0_off38_inb : ∀ (arg22 : BitVec 32) (v343 : BitVec 32) (v345 : BitVec 32) (k0_hw1 : k0_chk1 arg22 v343 v345), ∀ (k0_h10 : k0_cond10 v345 = 1#1), ∀ (r : Fin 2), ∀ a, (k0_off38 arg22 (BitVec.ofNat 32 r.val)) a + S1x512x1536.size a ≤ S4x512x1536.size a := fun arg22 v343 v345 k0_hw1 k0_h10 r => k0_hw1.1.2.2.2.2.2.2.2.2.2.2.2.2.2.2.2.2.2.2.2.2.2.2.1 k0_h10 r
theorem k0_off39_inb : ∀ (arg22 : BitVec 32) (v343 : BitVec 32) (v345 : BitVec 32) (k0_hw1 : k0_chk1 arg22 v343 v345), ∀ (k0_h10 : k0_cond10 v345 = 1#1), ∀ (k0_h12 : k0_cond12 arg22 = 1#1), ∀ a, (k0_off39 arg22) a + S1.size a ≤ S4.size a := fun arg22 v343 v345 k0_hw1 k0_h10 k0_h12 => k0_hw1.1.2.2.2.2.2.2.2.2.2.2.2.2.2.2.2.2.2.2.2.2.2.2.2.1 k0_h10 k0_h12
theorem k0_off40_inb : ∀ (arg22 : BitVec 32) (v343 : BitVec 32) (v345 : BitVec 32) (k0_hw1 : k0_chk1 arg22 v343 v345), ∀ (k0_h10 : k0_cond10 v345 = 1#1), ∀ (k0_h12 : k0_cond12 arg22 = 1#1), ∀ a, (k0_off40 arg22) a + S1x512x1536.size a ≤ S4x512x1536.size a := fun arg22 v343 v345 k0_hw1 k0_h10 k0_h12 => k0_hw1.1.2.2.2.2.2.2.2.2.2.2.2.2.2.2.2.2.2.2.2.2.2.2.2.2.1 k0_h10 k0_h12
theorem k0_mult7_dvd : ∀ (arg22 : BitVec 32) (v343 : BitVec 32) (v345 : BitVec 32) (k0_hw1 : k0_chk1 arg22 v343 v345), ∀ (k0_h10 : k0_cond10 v345 = 1#1), 256 ∣ (k0_mult7 v343).toNat := fun arg22 v343 v345 k0_hw1 k0_h10 => k0_hw1.1.2.2.2.2.2.2.2.2.2.2.2.2.2.2.2.2.2.2.2.2.2.2.2.2.2.1 k0_h10
theorem k0_mult8_dvd : ∀ (arg22 : BitVec 32) (v343 : BitVec 32) (v345 : BitVec 32) (k0_hw1 : k0_chk1 arg22 v343 v345), ∀ (k0_h10 : k0_cond10 v345 = 1#1), 128 ∣ (k0_mult8 v343).toNat := fun arg22 v343 v345 k0_hw1 k0_h10 => k0_hw1.1.2.2.2.2.2.2.2.2.2.2.2.2.2.2.2.2.2.2.2.2.2.2.2.2.2.2.1 k0_h10
theorem k0_off41_inb : ∀ (arg22 : BitVec 32) (v343 : BitVec 32) (v345 : BitVec 32) (k0_hw1 : k0_chk1 arg22 v343 v345), ∀ (k0_h10 : k0_cond10 v345 = 1#1), ∀ a, (k0_off41 v343) a + S256x1536.size a ≤ S1408x3072.size a := fun arg22 v343 v345 k0_hw1 k0_h10 => k0_hw1.1.2.2.2.2.2.2.2.2.2.2.2.2.2.2.2.2.2.2.2.2.2.2.2.2.2.2.2.1 k0_h10
theorem k0_off43_inb : ∀ (arg22 : BitVec 32) (v343 : BitVec 32) (v345 : BitVec 32) (k0_hw1 : k0_chk1 arg22 v343 v345), ∀ (k0_h13 : k0_cond13 v345 = 1#1), ∀ (k0_h14 : k0_cond14 arg22 = 1#1), ∀ a, (k0_off43 arg22) a + S1.size a ≤ S4.size a := fun arg22 v343 v345 k0_hw1 k0_h13 k0_h14 => k0_hw1.1.2.2.2.2.2.2.2.2.2.2.2.2.2.2.2.2.2.2.2.2.2.2.2.2.2.2.2.2.1 k0_h13 k0_h14
theorem k0_off44_inb : ∀ (arg22 : BitVec 32) (v343 : BitVec 32) (v345 : BitVec 32) (k0_hw1 : k0_chk1 arg22 v343 v345), ∀ (k0_h13 : k0_cond13 v345 = 1#1), ∀ (k0_h14 : k0_cond14 arg22 = 1#1), ∀ a, (k0_off44 arg22) a + S1x512x1536.size a ≤ S4x512x1536.size a := fun arg22 v343 v345 k0_hw1 k0_h13 k0_h14 => k0_hw1.1.2.2.2.2.2.2.2.2.2.2.2.2.2.2.2.2.2.2.2.2.2.2.2.2.2.2.2.2.2.1 k0_h13 k0_h14
theorem k0_mult9_dvd : ∀ (arg22 : BitVec 32) (v343 : BitVec 32) (v345 : BitVec 32) (k0_hw1 : k0_chk1 arg22 v343 v345), ∀ (k0_h13 : k0_cond13 v345 = 1#1), 256 ∣ (k0_mult9 v343).toNat := fun arg22 v343 v345 k0_hw1 k0_h13 => k0_hw1.1.2.2.2.2.2.2.2.2.2.2.2.2.2.2.2.2.2.2.2.2.2.2.2.2.2.2.2.2.2.2.1 k0_h13
theorem k0_off45_inb : ∀ (arg22 : BitVec 32) (v343 : BitVec 32) (v345 : BitVec 32) (k0_hw1 : k0_chk1 arg22 v343 v345), ∀ (k0_h13 : k0_cond13 v345 = 1#1), ∀ a, (k0_off45 v343) a + S256x768.size a ≤ S256x2816.size a := fun arg22 v343 v345 k0_hw1 k0_h13 => k0_hw1.1.2.2.2.2.2.2.2.2.2.2.2.2.2.2.2.2.2.2.2.2.2.2.2.2.2.2.2.2.2.2.2 k0_h13
theorem k0_mult10_dvd : ∀ (arg22 : BitVec 32) (v343 : BitVec 32) (v345 : BitVec 32) (k0_hw1 : k0_chk1 arg22 v343 v345), ∀ (k0_h13 : k0_cond13 v345 = 1#1), 128 ∣ (k0_mult10 v343).toNat := fun arg22 v343 v345 k0_hw1 k0_h13 => k0_hw1.2.1.1 k0_h13
theorem k0_off46_inb : ∀ (arg22 : BitVec 32) (v343 : BitVec 32) (v345 : BitVec 32) (k0_hw1 : k0_chk1 arg22 v343 v345), ∀ (k0_h13 : k0_cond13 v345 = 1#1), ∀ a, (k0_off46 v343) a + S384x1536.size a ≤ S1408x3072.size a := fun arg22 v343 v345 k0_hw1 k0_h13 => k0_hw1.2.1.2.1 k0_h13
theorem k0_off47_inb : ∀ (arg22 : BitVec 32) (v343 : BitVec 32) (v345 : BitVec 32) (k0_hw1 : k0_chk1 arg22 v343 v345), ∀ (k0_h13 : k0_cond13 v345 = 1#1), ∀ (r : Fin 2), ∀ a, (k0_off47 arg22 (BitVec.ofNat 32 r.val)) a + S1x512x1536.size a ≤ S4x512x1536.size a := fun arg22 v343 v345 k0_hw1 k0_h13 r => k0_hw1.2.1.2.2.1 k0_h13 r
theorem k0_off48_inb : ∀ (arg22 : BitVec 32) (v343 : BitVec 32) (v345 : BitVec 32) (k0_hw1 : k0_chk1 arg22 v343 v345), ∀ (k0_h13 : k0_cond13 v345 = 1#1), ∀ (r : Fin 2), ∀ a, (k0_off48 arg22 (BitVec.ofNat 32 r.val)) a + S1.size a ≤ S4.size a := fun arg22 v343 v345 k0_hw1 k0_h13 r => k0_hw1.2.1.2.2.2.1 k0_h13 r
theorem k0_off50_inb : ∀ (arg22 : BitVec 32) (v343 : BitVec 32) (v345 : BitVec 32) (k0_hw1 : k0_chk1 arg22 v343 v345), ∀ (k0_h13 : k0_cond13 v345 = 1#1), ∀ (r : Fin 2), ∀ a, (k0_off50 arg22 (BitVec.ofNat 32 r.val)) a + S1x512x1536.size a ≤ S4x512x1536.size a := fun arg22 v343 v345 k0_hw1 k0_h13 r => k0_hw1.2.1.2.2.2.2.1 k0_h13 r
theorem k0_off51_inb : ∀ (arg22 : BitVec 32) (v343 : BitVec 32) (v345 : BitVec 32) (k0_hw1 : k0_chk1 arg22 v343 v345), ∀ (k0_h13 : k0_cond13 v345 = 1#1), ∀ (k0_h15 : k0_cond15 arg22 = 1#1), ∀ a, (k0_off51 arg22) a + S1.size a ≤ S4.size a := fun arg22 v343 v345 k0_hw1 k0_h13 k0_h15 => k0_hw1.2.1.2.2.2.2.2.1 k0_h13 k0_h15
theorem k0_off52_inb : ∀ (arg22 : BitVec 32) (v343 : BitVec 32) (v345 : BitVec 32) (k0_hw1 : k0_chk1 arg22 v343 v345), ∀ (k0_h13 : k0_cond13 v345 = 1#1), ∀ (k0_h15 : k0_cond15 arg22 = 1#1), ∀ a, (k0_off52 arg22) a + S1x512x1536.size a ≤ S4x512x1536.size a := fun arg22 v343 v345 k0_hw1 k0_h13 k0_h15 => k0_hw1.2.1.2.2.2.2.2.2.1 k0_h13 k0_h15
theorem k0_mult11_dvd : ∀ (arg22 : BitVec 32) (v343 : BitVec 32) (v345 : BitVec 32) (k0_hw1 : k0_chk1 arg22 v343 v345), ∀ (k0_h13 : k0_cond13 v345 = 1#1), 256 ∣ (k0_mult11 v343).toNat := fun arg22 v343 v345 k0_hw1 k0_h13 => k0_hw1.2.1.2.2.2.2.2.2.2.1 k0_h13
theorem k0_mult12_dvd : ∀ (arg22 : BitVec 32) (v343 : BitVec 32) (v345 : BitVec 32) (k0_hw1 : k0_chk1 arg22 v343 v345), ∀ (k0_h13 : k0_cond13 v345 = 1#1), 128 ∣ (k0_mult12 v343).toNat := fun arg22 v343 v345 k0_hw1 k0_h13 => k0_hw1.2.1.2.2.2.2.2.2.2.2.1 k0_h13
theorem k0_off53_inb : ∀ (arg22 : BitVec 32) (v343 : BitVec 32) (v345 : BitVec 32) (k0_hw1 : k0_chk1 arg22 v343 v345), ∀ (k0_h13 : k0_cond13 v345 = 1#1), ∀ a, (k0_off53 v343) a + S384x1536.size a ≤ S1408x3072.size a := fun arg22 v343 v345 k0_hw1 k0_h13 => k0_hw1.2.1.2.2.2.2.2.2.2.2.2.1 k0_h13
theorem k0_off55_inb : ∀ (arg22 : BitVec 32) (v343 : BitVec 32) (v345 : BitVec 32) (k0_hw1 : k0_chk1 arg22 v343 v345), ∀ (k0_h16 : k0_cond16 v345 = 1#1), ∀ (k0_h17 : k0_cond17 arg22 = 1#1), ∀ a, (k0_off55 arg22) a + S1.size a ≤ S4.size a := fun arg22 v343 v345 k0_hw1 k0_h16 k0_h17 => k0_hw1.2.1.2.2.2.2.2.2.2.2.2.2.1 k0_h16 k0_h17
theorem k0_off56_inb : ∀ (arg22 : BitVec 32) (v343 : BitVec 32) (v345 : BitVec 32) (k0_hw1 : k0_chk1 arg22 v343 v345), ∀ (k0_h16 : k0_cond16 v345 = 1#1), ∀ (k0_h17 : k0_cond17 arg22 = 1#1), ∀ a, (k0_off56 arg22) a + S1x512x1536.size a ≤ S4x512x1536.size a := fun arg22 v343 v345 k0_hw1 k0_h16 k0_h17 => k0_hw1.2.1.2.2.2.2.2.2.2.2.2.2.2.1 k0_h16 k0_h17
theorem k0_mult13_dvd : ∀ (arg22 : BitVec 32) (v343 : BitVec 32) (v345 : BitVec 32) (k0_hw1 : k0_chk1 arg22 v343 v345), ∀ (k0_h16 : k0_cond16 v345 = 1#1), 256 ∣ (k0_mult13 v343).toNat := fun arg22 v343 v345 k0_hw1 k0_h16 => k0_hw1.2.1.2.2.2.2.2.2.2.2.2.2.2.2.1 k0_h16
theorem k0_off57_inb : ∀ (arg22 : BitVec 32) (v343 : BitVec 32) (v345 : BitVec 32) (k0_hw1 : k0_chk1 arg22 v343 v345), ∀ (k0_h16 : k0_cond16 v345 = 1#1), ∀ a, (k0_off57 v343) a + S256x1024.size a ≤ S256x2816.size a := fun arg22 v343 v345 k0_hw1 k0_h16 => k0_hw1.2.1.2.2.2.2.2.2.2.2.2.2.2.2.2.1 k0_h16
theorem k0_mult14_dvd : ∀ (arg22 : BitVec 32) (v343 : BitVec 32) (v345 : BitVec 32) (k0_hw1 : k0_chk1 arg22 v343 v345), ∀ (k0_h16 : k0_cond16 v345 = 1#1), 128 ∣ (k0_mult14 v343).toNat := fun arg22 v343 v345 k0_hw1 k0_h16 => k0_hw1.2.1.2.2.2.2.2.2.2.2.2.2.2.2.2.2.1 k0_h16
theorem k0_off58_inb : ∀ (arg22 : BitVec 32) (v343 : BitVec 32) (v345 : BitVec 32) (k0_hw1 : k0_chk1 arg22 v343 v345), ∀ (k0_h16 : k0_cond16 v345 = 1#1), ∀ a, (k0_off58 v343) a + S512x1536.size a ≤ S1408x3072.size a := fun arg22 v343 v345 k0_hw1 k0_h16 => k0_hw1.2.1.2.2.2.2.2.2.2.2.2.2.2.2.2.2.2.1 k0_h16
theorem k0_off59_inb : ∀ (arg22 : BitVec 32) (v343 : BitVec 32) (v345 : BitVec 32) (k0_hw1 : k0_chk1 arg22 v343 v345), ∀ (k0_h16 : k0_cond16 v345 = 1#1), ∀ (r : Fin 2), ∀ a, (k0_off59 arg22 (BitVec.ofNat 32 r.val)) a + S1x512x1536.size a ≤ S4x512x1536.size a := fun arg22 v343 v345 k0_hw1 k0_h16 r => k0_hw1.2.1.2.2.2.2.2.2.2.2.2.2.2.2.2.2.2.2.1 k0_h16 r
theorem k0_off60_inb : ∀ (arg22 : BitVec 32) (v343 : BitVec 32) (v345 : BitVec 32) (k0_hw1 : k0_chk1 arg22 v343 v345), ∀ (k0_h16 : k0_cond16 v345 = 1#1), ∀ (r : Fin 2), ∀ a, (k0_off60 arg22 (BitVec.ofNat 32 r.val)) a + S1.size a ≤ S4.size a := fun arg22 v343 v345 k0_hw1 k0_h16 r => k0_hw1.2.1.2.2.2.2.2.2.2.2.2.2.2.2.2.2.2.2.2.1 k0_h16 r
theorem k0_off62_inb : ∀ (arg22 : BitVec 32) (v343 : BitVec 32) (v345 : BitVec 32) (k0_hw1 : k0_chk1 arg22 v343 v345), ∀ (k0_h16 : k0_cond16 v345 = 1#1), ∀ (r : Fin 2), ∀ a, (k0_off62 arg22 (BitVec.ofNat 32 r.val)) a + S1x512x1536.size a ≤ S4x512x1536.size a := fun arg22 v343 v345 k0_hw1 k0_h16 r => k0_hw1.2.1.2.2.2.2.2.2.2.2.2.2.2.2.2.2.2.2.2.2.1 k0_h16 r
theorem k0_off63_inb : ∀ (arg22 : BitVec 32) (v343 : BitVec 32) (v345 : BitVec 32) (k0_hw1 : k0_chk1 arg22 v343 v345), ∀ (k0_h16 : k0_cond16 v345 = 1#1), ∀ (k0_h18 : k0_cond18 arg22 = 1#1), ∀ a, (k0_off63 arg22) a + S1.size a ≤ S4.size a := fun arg22 v343 v345 k0_hw1 k0_h16 k0_h18 => k0_hw1.2.1.2.2.2.2.2.2.2.2.2.2.2.2.2.2.2.2.2.2.2.1 k0_h16 k0_h18
theorem k0_off64_inb : ∀ (arg22 : BitVec 32) (v343 : BitVec 32) (v345 : BitVec 32) (k0_hw1 : k0_chk1 arg22 v343 v345), ∀ (k0_h16 : k0_cond16 v345 = 1#1), ∀ (k0_h18 : k0_cond18 arg22 = 1#1), ∀ a, (k0_off64 arg22) a + S1x512x1536.size a ≤ S4x512x1536.size a := fun arg22 v343 v345 k0_hw1 k0_h16 k0_h18 => k0_hw1.2.1.2.2.2.2.2.2.2.2.2.2.2.2.2.2.2.2.2.2.2.2.1 k0_h16 k0_h18
theorem k0_mult15_dvd : ∀ (arg22 : BitVec 32) (v343 : BitVec 32) (v345 : BitVec 32) (k0_hw1 : k0_chk1 arg22 v343 v345), ∀ (k0_h16 : k0_cond16 v345 = 1#1), 256 ∣ (k0_mult15 v343).toNat := fun arg22 v343 v345 k0_hw1 k0_h16 => k0_hw1.2.1.2.2.2.2.2.2.2.2.2.2.2.2.2.2.2.2.2.2.2.2.2.1 k0_h16
theorem k0_mult16_dvd : ∀ (arg22 : BitVec 32) (v343 : BitVec 32) (v345 : BitVec 32) (k0_hw1 : k0_chk1 arg22 v343 v345), ∀ (k0_h16 : k0_cond16 v345 = 1#1), 128 ∣ (k0_mult16 v343).toNat := fun arg22 v343 v345 k0_hw1 k0_h16 => k0_hw1.2.1.2.2.2.2.2.2.2.2.2.2.2.2.2.2.2.2.2.2.2.2.2.2.1 k0_h16
theorem k0_off65_inb : ∀ (arg22 : BitVec 32) (v343 : BitVec 32) (v345 : BitVec 32) (k0_hw1 : k0_chk1 arg22 v343 v345), ∀ (k0_h16 : k0_cond16 v345 = 1#1), ∀ a, (k0_off65 v343) a + S512x1536.size a ≤ S1408x3072.size a := fun arg22 v343 v345 k0_hw1 k0_h16 => k0_hw1.2.1.2.2.2.2.2.2.2.2.2.2.2.2.2.2.2.2.2.2.2.2.2.2.2.1 k0_h16
theorem k0_off67_inb : ∀ (arg22 : BitVec 32) (v343 : BitVec 32) (v345 : BitVec 32) (k0_hw1 : k0_chk1 arg22 v343 v345), ∀ (k0_h19 : k0_cond19 v345 = 1#1), ∀ (k0_h20 : k0_cond20 arg22 = 1#1), ∀ a, (k0_off67 arg22) a + S1.size a ≤ S4.size a := fun arg22 v343 v345 k0_hw1 k0_h19 k0_h20 => k0_hw1.2.1.2.2.2.2.2.2.2.2.2.2.2.2.2.2.2.2.2.2.2.2.2.2.2.2.1 k0_h19 k0_h20
theorem k0_off68_inb : ∀ (arg22 : BitVec 32) (v343 : BitVec 32) (v345 : BitVec 32) (k0_hw1 : k0_chk1 arg22 v343 v345), ∀ (k0_h19 : k0_cond19 v345 = 1#1), ∀ (k0_h20 : k0_cond20 arg22 = 1#1), ∀ a, (k0_off68 arg22) a + S1x512x1536.size a ≤ S4x512x1536.size a := fun arg22 v343 v345 k0_hw1 k0_h19 k0_h20 => k0_hw1.2.1.2.2.2.2.2.2.2.2.2.2.2.2.2.2.2.2.2.2.2.2.2.2.2.2.2.1 k0_h19 k0_h20
theorem k0_mult17_dvd : ∀ (arg22 : BitVec 32) (v343 : BitVec 32) (v345 : BitVec 32) (k0_hw1 : k0_chk1 arg22 v343 v345), ∀ (k0_h19 : k0_cond19 v345 = 1#1), 256 ∣ (k0_mult17 v343).toNat := fun arg22 v343 v345 k0_hw1 k0_h19 => k0_hw1.2.1.2.2.2.2.2.2.2.2.2.2.2.2.2.2.2.2.2.2.2.2.2.2.2.2.2.2.1 k0_h19
theorem k0_off69_inb : ∀ (arg22 : BitVec 32) (v343 : BitVec 32) (v345 : BitVec 32) (k0_hw1 : k0_chk1 arg22 v343 v345), ∀ (k0_h19 : k0_cond19 v345 = 1#1), ∀ a, (k0_off69 v343) a + S256x1280.size a ≤ S256x2816.size a := fun arg22 v343 v345 k0_hw1 k0_h19 => k0_hw1.2.1.2.2.2.2.2.2.2.2.2.2.2.2.2.2.2.2.2.2.2.2.2.2.2.2.2.2.2.1 k0_h19
theorem k0_mult18_dvd : ∀ (arg22 : BitVec 32) (v343 : BitVec 32) (v345 : BitVec 32) (k0_hw1 : k0_chk1 arg22 v343 v345), ∀ (k0_h19 : k0_cond19 v345 = 1#1), 128 ∣ (k0_mult18 v343).toNat := fun arg22 v343 v345 k0_hw1 k0_h19 => k0_hw1.2.1.2.2.2.2.2.2.2.2.2.2.2.2.2.2.2.2.2.2.2.2.2.2.2.2.2.2.2.2.1 k0_h19
theorem k0_off70_inb : ∀ (arg22 : BitVec 32) (v343 : BitVec 32) (v345 : BitVec 32) (k0_hw1 : k0_chk1 arg22 v343 v345), ∀ (k0_h19 : k0_cond19 v345 = 1#1), ∀ a, (k0_off70 v343) a + S640x1536.size a ≤ S1408x3072.size a := fun arg22 v343 v345 k0_hw1 k0_h19 => k0_hw1.2.1.2.2.2.2.2.2.2.2.2.2.2.2.2.2.2.2.2.2.2.2.2.2.2.2.2.2.2.2.2.1 k0_h19
theorem k0_off71_inb : ∀ (arg22 : BitVec 32) (v343 : BitVec 32) (v345 : BitVec 32) (k0_hw1 : k0_chk1 arg22 v343 v345), ∀ (k0_h19 : k0_cond19 v345 = 1#1), ∀ (r : Fin 2), ∀ a, (k0_off71 arg22 (BitVec.ofNat 32 r.val)) a + S1x512x1536.size a ≤ S4x512x1536.size a := fun arg22 v343 v345 k0_hw1 k0_h19 r => k0_hw1.2.1.2.2.2.2.2.2.2.2.2.2.2.2.2.2.2.2.2.2.2.2.2.2.2.2.2.2.2.2.2.2.1 k0_h19 r
theorem k0_off72_inb : ∀ (arg22 : BitVec 32) (v343 : BitVec 32) (v345 : BitVec 32) (k0_hw1 : k0_chk1 arg22 v343 v345), ∀ (k0_h19 : k0_cond19 v345 = 1#1), ∀ (r : Fin 2), ∀ a, (k0_off72 arg22 (BitVec.ofNat 32 r.val)) a + S1.size a ≤ S4.size a := fun arg22 v343 v345 k0_hw1 k0_h19 r => k0_hw1.2.1.2.2.2.2.2.2.2.2.2.2.2.2.2.2.2.2.2.2.2.2.2.2.2.2.2.2.2.2.2.2.2 k0_h19 r
theorem k0_off74_inb : ∀ (arg22 : BitVec 32) (v343 : BitVec 32) (v345 : BitVec 32) (k0_hw1 : k0_chk1 arg22 v343 v345), ∀ (k0_h19 : k0_cond19 v345 = 1#1), ∀ (r : Fin 2), ∀ a, (k0_off74 arg22 (BitVec.ofNat 32 r.val)) a + S1x512x1536.size a ≤ S4x512x1536.size a := fun arg22 v343 v345 k0_hw1 k0_h19 r => k0_hw1.2.2.1 k0_h19 r
theorem k0_off75_inb : ∀ (arg22 : BitVec 32) (v343 : BitVec 32) (v345 : BitVec 32) (k0_hw1 : k0_chk1 arg22 v343 v345), ∀ (k0_h19 : k0_cond19 v345 = 1#1), ∀ (k0_h21 : k0_cond21 arg22 = 1#1), ∀ a, (k0_off75 arg22) a + S1.size a ≤ S4.size a := fun arg22 v343 v345 k0_hw1 k0_h19 k0_h21 => k0_hw1.2.2.2.1 k0_h19 k0_h21
theorem k0_off76_inb : ∀ (arg22 : BitVec 32) (v343 : BitVec 32) (v345 : BitVec 32) (k0_hw1 : k0_chk1 arg22 v343 v345), ∀ (k0_h19 : k0_cond19 v345 = 1#1), ∀ (k0_h21 : k0_cond21 arg22 = 1#1), ∀ a, (k0_off76 arg22) a + S1x512x1536.size a ≤ S4x512x1536.size a := fun arg22 v343 v345 k0_hw1 k0_h19 k0_h21 => k0_hw1.2.2.2.2.1 k0_h19 k0_h21
theorem k0_mult19_dvd : ∀ (arg22 : BitVec 32) (v343 : BitVec 32) (v345 : BitVec 32) (k0_hw1 : k0_chk1 arg22 v343 v345), ∀ (k0_h19 : k0_cond19 v345 = 1#1), 256 ∣ (k0_mult19 v343).toNat := fun arg22 v343 v345 k0_hw1 k0_h19 => k0_hw1.2.2.2.2.2.1 k0_h19
theorem k0_mult20_dvd : ∀ (arg22 : BitVec 32) (v343 : BitVec 32) (v345 : BitVec 32) (k0_hw1 : k0_chk1 arg22 v343 v345), ∀ (k0_h19 : k0_cond19 v345 = 1#1), 128 ∣ (k0_mult20 v343).toNat := fun arg22 v343 v345 k0_hw1 k0_h19 => k0_hw1.2.2.2.2.2.2.1 k0_h19
theorem k0_off77_inb : ∀ (arg22 : BitVec 32) (v343 : BitVec 32) (v345 : BitVec 32) (k0_hw1 : k0_chk1 arg22 v343 v345), ∀ (k0_h19 : k0_cond19 v345 = 1#1), ∀ a, (k0_off77 v343) a + S640x1536.size a ≤ S1408x3072.size a := fun arg22 v343 v345 k0_hw1 k0_h19 => k0_hw1.2.2.2.2.2.2.2.1 k0_h19
theorem k0_off79_inb : ∀ (arg22 : BitVec 32) (v343 : BitVec 32) (v345 : BitVec 32) (k0_hw1 : k0_chk1 arg22 v343 v345), ∀ (k0_h22 : k0_cond22 v345 = 1#1), ∀ (k0_h23 : k0_cond23 arg22 = 1#1), ∀ a, (k0_off79 arg22) a + S1.size a ≤ S4.size a := fun arg22 v343 v345 k0_hw1 k0_h22 k0_h23 => k0_hw1.2.2.2.2.2.2.2.2.1 k0_h22 k0_h23
theorem k0_off80_inb : ∀ (arg22 : BitVec 32) (v343 : BitVec 32) (v345 : BitVec 32) (k0_hw1 : k0_chk1 arg22 v343 v345), ∀ (k0_h22 : k0_cond22 v345 = 1#1), ∀ (k0_h23 : k0_cond23 arg22 = 1#1), ∀ a, (k0_off80 arg22) a + S1x512x1536.size a ≤ S4x512x1536.size a := fun arg22 v343 v345 k0_hw1 k0_h22 k0_h23 => k0_hw1.2.2.2.2.2.2.2.2.2.1 k0_h22 k0_h23
theorem k0_mult21_dvd : ∀ (arg22 : BitVec 32) (v343 : BitVec 32) (v345 : BitVec 32) (k0_hw1 : k0_chk1 arg22 v343 v345), ∀ (k0_h22 : k0_cond22 v345 = 1#1), 256 ∣ (k0_mult21 v343).toNat := fun arg22 v343 v345 k0_hw1 k0_h22 => k0_hw1.2.2.2.2.2.2.2.2.2.2.1 k0_h22
theorem k0_off81_inb : ∀ (arg22 : BitVec 32) (v343 : BitVec 32) (v345 : BitVec 32) (k0_hw1 : k0_chk1 arg22 v343 v345), ∀ (k0_h22 : k0_cond22 v345 = 1#1), ∀ a, (k0_off81 v343) a + S256x1536.size a ≤ S256x2816.size a := fun arg22 v343 v345 k0_hw1 k0_h22 => k0_hw1.2.2.2.2.2.2.2.2.2.2.2.1 k0_h22
theorem k0_mult22_dvd : ∀ (arg22 : BitVec 32) (v343 : BitVec 32) (v345 : BitVec 32) (k0_hw1 : k0_chk1 arg22 v343 v345), ∀ (k0_h22 : k0_cond22 v345 = 1#1), 128 ∣ (k0_mult22 v343).toNat := fun arg22 v343 v345 k0_hw1 k0_h22 => k0_hw1.2.2.2.2.2.2.2.2.2.2.2.2.1 k0_h22
theorem k0_off82_inb : ∀ (arg22 : BitVec 32) (v343 : BitVec 32) (v345 : BitVec 32) (k0_hw1 : k0_chk1 arg22 v343 v345), ∀ (k0_h22 : k0_cond22 v345 = 1#1), ∀ a, (k0_off82 v343) a + S768x1536.size a ≤ S1408x3072.size a := fun arg22 v343 v345 k0_hw1 k0_h22 => k0_hw1.2.2.2.2.2.2.2.2.2.2.2.2.2.1 k0_h22
theorem k0_off83_inb : ∀ (arg22 : BitVec 32) (v343 : BitVec 32) (v345 : BitVec 32) (k0_hw1 : k0_chk1 arg22 v343 v345), ∀ (k0_h22 : k0_cond22 v345 = 1#1), ∀ (r : Fin 2), ∀ a, (k0_off83 arg22 (BitVec.ofNat 32 r.val)) a + S1x512x1536.size a ≤ S4x512x1536.size a := fun arg22 v343 v345 k0_hw1 k0_h22 r => k0_hw1.2.2.2.2.2.2.2.2.2.2.2.2.2.2.1 k0_h22 r
theorem k0_off84_inb : ∀ (arg22 : BitVec 32) (v343 : BitVec 32) (v345 : BitVec 32) (k0_hw1 : k0_chk1 arg22 v343 v345), ∀ (k0_h22 : k0_cond22 v345 = 1#1), ∀ (r : Fin 2), ∀ a, (k0_off84 arg22 (BitVec.ofNat 32 r.val)) a + S1.size a ≤ S4.size a := fun arg22 v343 v345 k0_hw1 k0_h22 r => k0_hw1.2.2.2.2.2.2.2.2.2.2.2.2.2.2.2.1 k0_h22 r
theorem k0_off86_inb : ∀ (arg22 : BitVec 32) (v343 : BitVec 32) (v345 : BitVec 32) (k0_hw1 : k0_chk1 arg22 v343 v345), ∀ (k0_h22 : k0_cond22 v345 = 1#1), ∀ (r : Fin 2), ∀ a, (k0_off86 arg22 (BitVec.ofNat 32 r.val)) a + S1x512x1536.size a ≤ S4x512x1536.size a := fun arg22 v343 v345 k0_hw1 k0_h22 r => k0_hw1.2.2.2.2.2.2.2.2.2.2.2.2.2.2.2.2.1 k0_h22 r
theorem k0_off87_inb : ∀ (arg22 : BitVec 32) (v343 : BitVec 32) (v345 : BitVec 32) (k0_hw1 : k0_chk1 arg22 v343 v345), ∀ (k0_h22 : k0_cond22 v345 = 1#1), ∀ (k0_h24 : k0_cond24 arg22 = 1#1), ∀ a, (k0_off87 arg22) a + S1.size a ≤ S4.size a := fun arg22 v343 v345 k0_hw1 k0_h22 k0_h24 => k0_hw1.2.2.2.2.2.2.2.2.2.2.2.2.2.2.2.2.2.1 k0_h22 k0_h24
theorem k0_off88_inb : ∀ (arg22 : BitVec 32) (v343 : BitVec 32) (v345 : BitVec 32) (k0_hw1 : k0_chk1 arg22 v343 v345), ∀ (k0_h22 : k0_cond22 v345 = 1#1), ∀ (k0_h24 : k0_cond24 arg22 = 1#1), ∀ a, (k0_off88 arg22) a + S1x512x1536.size a ≤ S4x512x1536.size a := fun arg22 v343 v345 k0_hw1 k0_h22 k0_h24 => k0_hw1.2.2.2.2.2.2.2.2.2.2.2.2.2.2.2.2.2.2.1 k0_h22 k0_h24
theorem k0_mult23_dvd : ∀ (arg22 : BitVec 32) (v343 : BitVec 32) (v345 : BitVec 32) (k0_hw1 : k0_chk1 arg22 v343 v345), ∀ (k0_h22 : k0_cond22 v345 = 1#1), 256 ∣ (k0_mult23 v343).toNat := fun arg22 v343 v345 k0_hw1 k0_h22 => k0_hw1.2.2.2.2.2.2.2.2.2.2.2.2.2.2.2.2.2.2.2.1 k0_h22
theorem k0_mult24_dvd : ∀ (arg22 : BitVec 32) (v343 : BitVec 32) (v345 : BitVec 32) (k0_hw1 : k0_chk1 arg22 v343 v345), ∀ (k0_h22 : k0_cond22 v345 = 1#1), 128 ∣ (k0_mult24 v343).toNat := fun arg22 v343 v345 k0_hw1 k0_h22 => k0_hw1.2.2.2.2.2.2.2.2.2.2.2.2.2.2.2.2.2.2.2.2.1 k0_h22
theorem k0_off89_inb : ∀ (arg22 : BitVec 32) (v343 : BitVec 32) (v345 : BitVec 32) (k0_hw1 : k0_chk1 arg22 v343 v345), ∀ (k0_h22 : k0_cond22 v345 = 1#1), ∀ a, (k0_off89 v343) a + S768x1536.size a ≤ S1408x3072.size a := fun arg22 v343 v345 k0_hw1 k0_h22 => k0_hw1.2.2.2.2.2.2.2.2.2.2.2.2.2.2.2.2.2.2.2.2.2 k0_h22

def k0_off90 (k0_t6 : Fin k0_t6_loop.trips) (k0_t7 : Fin k0_t7_loop.trips) : Fin 3 → Nat :=
  let c0_i32_233 : BitVec 32 := 0#32
  let c1_i32_234 : BitVec 32 := 1#32
  let arg21 : BitVec 32 := Scf.iv c0_i32_233 c1_i32_234 k0_t7
  let c0_i32_188 : BitVec 32 := 0#32
  let c1_i32 : BitVec 32 := 1#32
  let arg19 : BitVec 32 := Scf.iv c0_i32_188 c1_i32 k0_t6
  let c512_i32_274 : BitVec 32 := 512#32
  let v420 : BitVec 32 := Scalar.muli arg19 c512_i32_274
  let c1536_i32 : BitVec 32 := 1536#32
  ![arg21.toNat, v420.toNat, 1536]
@[reducible] def k0_t8_loop (v6 : BitVec 32) (v17 : BitVec 32) (v28 : BitVec 32) (v39 : BitVec 32) (v50 : BitVec 32) : Scf.Loop 32 :=
  let c0_i32_217 : BitVec 32 := 0#32
  let c0_i32_13 : BitVec 32 := 0#32
  let c0_i32_12 : BitVec 32 := 0#32
  let v14 : BitVec 1 := Scalar.cmpi .eq v6 c0_i32_12
  let v15 : BitVec 32 := Scalar.extui v14
  let v16 : BitVec 32 := Scalar.addi c0_i32_13 v15
  let c0_i32_20 : BitVec 32 := 0#32
  let v25 : BitVec 1 := Scalar.cmpi .eq v17 c0_i32_20
  let v26 : BitVec 32 := Scalar.extui v25
  let v27 : BitVec 32 := Scalar.addi v16 v26
  let c0_i32_27 : BitVec 32 := 0#32
  let v36 : BitVec 1 := Scalar.cmpi .eq v28 c0_i32_27
  let v37 : BitVec 32 := Scalar.extui v36
  let v38 : BitVec 32 := Scalar.addi v27 v37
  let c0_i32_34 : BitVec 32 := 0#32
  let v47 : BitVec 1 := Scalar.cmpi .eq v39 c0_i32_34
  let v48 : BitVec 32 := Scalar.extui v47
  let v49 : BitVec 32 := Scalar.addi v38 v48
  let c0_i32_41 : BitVec 32 := 0#32
  let v57 : BitVec 1 := Scalar.cmpi .eq v50 c0_i32_41
  let v58 : BitVec 32 := Scalar.extui v57
  let v59 : BitVec 32 := Scalar.addi v49 v58
  let c24_i32 : BitVec 32 := 24#32
  let v317 : BitVec 32 := Scalar.muli v59 c24_i32
  let v318 : BitVec 32 := Scalar.subi v317 c0_i32_217
  let c1_i32_218 : BitVec 32 := 1#32
  let v320 : BitVec 32 := Scalar.divsi v318 c1_i32_218
  let v321 : BitVec 32 := Scalar.muli v320 c1_i32_218
  let v322 : BitVec 32 := Scalar.addi c0_i32_217 v321
  let c1_i32_219 : BitVec 32 := 1#32
  ⟨c0_i32_217, v322, c1_i32_219⟩

@[reducible] def k0_t9_loop (v6 : BitVec 32) (v17 : BitVec 32) (v28 : BitVec 32) (v39 : BitVec 32) (v50 : BitVec 32) : Scf.Loop 32 :=
  let c0_i32_217 : BitVec 32 := 0#32
  let c0_i32_13 : BitVec 32 := 0#32
  let c0_i32_12 : BitVec 32 := 0#32
  let v14 : BitVec 1 := Scalar.cmpi .eq v6 c0_i32_12
  let v15 : BitVec 32 := Scalar.extui v14
  let v16 : BitVec 32 := Scalar.addi c0_i32_13 v15
  let c0_i32_20 : BitVec 32 := 0#32
  let v25 : BitVec 1 := Scalar.cmpi .eq v17 c0_i32_20
  let v26 : BitVec 32 := Scalar.extui v25
  let v27 : BitVec 32 := Scalar.addi v16 v26
  let c0_i32_27 : BitVec 32 := 0#32
  let v36 : BitVec 1 := Scalar.cmpi .eq v28 c0_i32_27
  let v37 : BitVec 32 := Scalar.extui v36
  let v38 : BitVec 32 := Scalar.addi v27 v37
  let c0_i32_34 : BitVec 32 := 0#32
  let v47 : BitVec 1 := Scalar.cmpi .eq v39 c0_i32_34
  let v48 : BitVec 32 := Scalar.extui v47
  let v49 : BitVec 32 := Scalar.addi v38 v48
  let c0_i32_41 : BitVec 32 := 0#32
  let v57 : BitVec 1 := Scalar.cmpi .eq v50 c0_i32_41
  let v58 : BitVec 32 := Scalar.extui v57
  let v59 : BitVec 32 := Scalar.addi v49 v58
  let c24_i32 : BitVec 32 := 24#32
  let v317 : BitVec 32 := Scalar.muli v59 c24_i32
  let v318 : BitVec 32 := Scalar.subi v317 c0_i32_217
  let c1_i32_218 : BitVec 32 := 1#32
  let v320 : BitVec 32 := Scalar.divsi v318 c1_i32_218
  let v321 : BitVec 32 := Scalar.muli v320 c1_i32_218
  let v322 : BitVec 32 := Scalar.addi c0_i32_217 v321
  let v319 : BitVec 32 := Scalar.addi c0_i32_217 v318
  let c1_i32_220 : BitVec 32 := 1#32
  ⟨v322, v319, c1_i32_220⟩

def k0_chk2 (v6 : BitVec 32) (v17 : BitVec 32) (v28 : BitVec 32) (v39 : BitVec 32) (v50 : BitVec 32) : Prop :=
  ((k0_t8_loop v6 v17 v28 v39 v50).OK) ∧
  ((k0_t9_loop v6 v17 v28 v39 v50).OK)
theorem k0_t8_ok : ∀ (v6 : BitVec 32) (v17 : BitVec 32) (v28 : BitVec 32) (v39 : BitVec 32) (v50 : BitVec 32) (k0_hw2 : k0_chk2 v6 v17 v28 v39 v50), (k0_t8_loop v6 v17 v28 v39 v50).OK := fun v6 v17 v28 v39 v50 k0_hw2 => k0_hw2.1
theorem k0_t9_ok : ∀ (v6 : BitVec 32) (v17 : BitVec 32) (v28 : BitVec 32) (v39 : BitVec 32) (v50 : BitVec 32) (k0_hw2 : k0_chk2 v6 v17 v28 v39 v50), (k0_t9_loop v6 v17 v28 v39 v50).OK := fun v6 v17 v28 v39 v50 k0_hw2 => k0_hw2.2

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1408x3072 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S5 : Shape := ⟨1, ![5]⟩
abbrev S24 : Shape := ⟨1, ![24]⟩
abbrev S1408x3072 : Shape := ⟨2, ![1408, 3072]⟩
abbrev S12x256x2816 : Shape := ⟨3, ![12, 256, 2816]⟩
abbrev S1408x3072x2 : Shape := ⟨3, ![1408, 3072, 2]⟩
abbrev S1408x2x3072 : Shape := ⟨3, ![1408, 2, 3072]⟩
abbrev S2816x3072 : Shape := ⟨2, ![2816, 3072]⟩
abbrev S12x256x2816x2 : Shape := ⟨4, ![12, 256, 2816, 2]⟩
abbrev S2816x12x256x2 : Shape := ⟨4, ![2816, 12, 256, 2]⟩
abbrev S2816x6144 : Shape := ⟨2, ![2816, 6144]⟩
abbrev S_ : Shape := ⟨0, ![]⟩
abbrev S2816 : Shape := ⟨1, ![2816]⟩
abbrev S1x2816 : Shape := ⟨2, ![1, 2816]⟩
abbrev S5x1 : Shape := ⟨2, ![5, 1]⟩
abbrev S5x2816 : Shape := ⟨2, ![5, 2816]⟩
abbrev S5x2816x1 : Shape := ⟨3, ![5, 2816, 1]⟩
abbrev S1x2816x6144 : Shape := ⟨3, ![1, 2816, 6144]⟩
abbrev S5x2816x6144 : Shape := ⟨3, ![5, 2816, 6144]⟩
abbrev S5x6144x3072 : Shape := ⟨3, ![5, 6144, 3072]⟩
abbrev S1 : Shape := ⟨1, ![1]⟩
abbrev S23 : Shape := ⟨1, ![23]⟩

abbrev nBuf : Space → Nat
  | .hbm => 82
  | .vmem => 0
  | .smem => 0
  | _ => 0

abbrev bufTy : (tb : Table) → Fin (tcTables nBuf tb) → BufTy
  | .hbm, ⟨0, _⟩ => ⟨S5, .i32⟩
  | .hbm, ⟨1, _⟩ => ⟨S24, .f32⟩
  | .hbm, ⟨2, _⟩ => ⟨S24, .f32⟩
  | .hbm, ⟨3, _⟩ => ⟨S1408x3072, .i32⟩
  | .hbm, ⟨4, _⟩ => ⟨S12x256x2816, .i32⟩
  | .hbm, ⟨5, _⟩ => ⟨S1408x3072x2, .bf16⟩
  | .hbm, ⟨6, _⟩ => ⟨S1408x2x3072, .bf16⟩
  | .hbm, ⟨7, _⟩ => ⟨S2816x3072, .bf16⟩
  | .hbm, ⟨8, _⟩ => ⟨S12x256x2816x2, .bf16⟩
  | .hbm, ⟨9, _⟩ => ⟨S2816x12x256x2, .bf16⟩
  | .hbm, ⟨10, _⟩ => ⟨S2816x6144, .bf16⟩
  | .hbm, ⟨11, _⟩ => ⟨S_, .i32⟩
  | .hbm, ⟨12, _⟩ => ⟨S5, .i32⟩
  | .hbm, ⟨13, _⟩ => ⟨S5, .i32⟩
  | .hbm, ⟨14, _⟩ => ⟨S_, .i32⟩
  | .hbm, ⟨15, _⟩ => ⟨S_, .i32⟩
  | .hbm, ⟨16, _⟩ => ⟨S5, .i32⟩
  | .hbm, ⟨17, _⟩ => ⟨S5, .i32⟩
  | .hbm, ⟨18, _⟩ => ⟨S5, .i32⟩
  | .hbm, ⟨19, _⟩ => ⟨S_, .i32⟩
  | .hbm, ⟨20, _⟩ => ⟨S5, .i32⟩
  | .hbm, ⟨21, _⟩ => ⟨S5, .i1⟩
  | .hbm, ⟨22, _⟩ => ⟨S5, .i32⟩
  | .hbm, ⟨23, _⟩ => ⟨S5, .i32⟩
  | .hbm, ⟨24, _⟩ => ⟨S_, .i32⟩
  | .hbm, ⟨25, _⟩ => ⟨S5, .i32⟩
  | .hbm, ⟨26, _⟩ => ⟨S5, .i1⟩
  | .hbm, ⟨27, _⟩ => ⟨S5, .i1⟩
  | .hbm, ⟨28, _⟩ => ⟨S_, .i32⟩
  | .hbm, ⟨29, _⟩ => ⟨S5, .i32⟩
  | .hbm, ⟨30, _⟩ => ⟨S5, .i32⟩
  | .hbm, ⟨31, _⟩ => ⟨S5, .i32⟩
  | .hbm, ⟨32, _⟩ => ⟨S_, .i32⟩
  | .hbm, ⟨33, _⟩ => ⟨S5, .i32⟩
  | .hbm, ⟨34, _⟩ => ⟨S5, .i32⟩
  | .hbm, ⟨35, _⟩ => ⟨S_, .i32⟩
  | .hbm, ⟨36, _⟩ => ⟨S_, .i32⟩
  | .hbm, ⟨37, _⟩ => ⟨S5, .i32⟩
  | .hbm, ⟨38, _⟩ => ⟨S2816, .i32⟩
  | .hbm, ⟨39, _⟩ => ⟨S1x2816, .i32⟩
  | .hbm, ⟨40, _⟩ => ⟨S5, .i32⟩
  | .hbm, ⟨41, _⟩ => ⟨S5x1, .i32⟩
  | .hbm, ⟨42, _⟩ => ⟨S5x2816, .i32⟩
  | .hbm, ⟨43, _⟩ => ⟨S5x2816, .i32⟩
  | .hbm, ⟨44, _⟩ => ⟨S5x2816, .i1⟩
  | .hbm, ⟨45, _⟩ => ⟨S5x1, .i32⟩
  | .hbm, ⟨46, _⟩ => ⟨S5x2816, .i32⟩
  | .hbm, ⟨47, _⟩ => ⟨S5x2816, .i32⟩
  | .hbm, ⟨48, _⟩ => ⟨S5x2816, .i1⟩
  | .hbm, ⟨49, _⟩ => ⟨S5x2816, .i1⟩
  | .hbm, ⟨50, _⟩ => ⟨S5x2816x1, .i1⟩
  | .hbm, ⟨51, _⟩ => ⟨S1x2816x6144, .bf16⟩
  | .hbm, ⟨52, _⟩ => ⟨S1x2816x6144, .f32⟩
  | .hbm, ⟨53, _⟩ => ⟨S_, .f32⟩
  | .hbm, ⟨54, _⟩ => ⟨S_, .f32⟩
  | .hbm, ⟨55, _⟩ => ⟨S5x2816x6144, .i1⟩
  | .hbm, ⟨56, _⟩ => ⟨S5x2816x6144, .f32⟩
  | .hbm, ⟨57, _⟩ => ⟨S5x2816x6144, .f32⟩
  | .hbm, ⟨58, _⟩ => ⟨S5x2816x6144, .f32⟩
  | .hbm, ⟨59, _⟩ => ⟨S2816x3072, .f32⟩
  | .hbm, ⟨60, _⟩ => ⟨S5x6144x3072, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S5x6144x3072, .f32⟩
  | .hbm, ⟨71, _⟩ => ⟨S5x6144x3072, .f32⟩
  | .hbm, ⟨72, _⟩ => ⟨S_, .f32⟩
  | .hbm, ⟨73, _⟩ => ⟨S1, .f32⟩
  | .hbm, ⟨74, _⟩ => ⟨S23, .f32⟩
  | .hbm, ⟨75, _⟩ => ⟨S24, .f32⟩
  | .hbm, ⟨76, _⟩ => ⟨S_, .f32⟩
  | .hbm, ⟨77, _⟩ => ⟨S1, .f32⟩
  | .hbm, ⟨78, _⟩ => ⟨S23, .f32⟩
  | .hbm, ⟨79, _⟩ => ⟨S24, .f32⟩
  | .hbm, ⟨80, _⟩ => ⟨S1, .f32⟩
  | .hbm, ⟨81, _⟩ => ⟨S1, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_call1_call0_c : Ref sig .tc := ⟨.hbm, 35, rfl⟩
abbrev main_call1_call0_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_2 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩

abbrev nD : Nat := 1
abbrev τ : Topo := Topo.v7x

variable {F : FTy → Type} [FloatOps F]
-- ==== Proof.Common.lean ====
/- The kernel's buffers, the pieces it copies, and one half of an expert's work in a chunk. -/
module

public import proofs.«01_k».proof.Proof.Gen.Kernel.Frame
public import proofs.«01_k».proof.Proof.Gen.Kernel.Loops
public import Idealize.ShloMosaic.Lib.Exec
public import Idealize.ShloMosaic.Lib.Tactic
public import Idealize.ShloMosaic.Lib.Pipeline.FrameBody
public import Idealize.ShloMosaic.Lib.Pipeline.FrameValue
public import Idealize.ShloMosaic.Lib.Ring

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

abbrev EC : UEmb Counters (MT nD τ sig Unit (Elt F) ℕ (Pipeline.UD sig nD τ) ℕ) := countersEmb (U := Pipeline.UD sig nD τ)

/-! ## The buffers -/

abbrev ltM : Memref sig .tc .vmem S256x2816 .i32 := Memref.whole cc0_scratch2
abbrev stM : Memref sig .tc .vmem S4x512x1536 .f32 := Memref.whole cc0_scratch3
abbrev zM : Memref sig .tc .vmem S512x1536 .f32 := Memref.whole cc0_scratch4
abbrev xbM : Memref sig .tc .vmem S2x256x2816 .i32 := Memref.whole cc0_scratch5
abbrev etM : Memref sig .tc .smem S5 .i32 := Memref.whole cc0_scratch0
abbrev ntM : Memref sig .tc .smem S5 .i32 := Memref.whole cc0_scratch1
abbrev xM : Memref sig .tc .hbm S12x256x2816 .i32 := Memref.whole main_arg4
abbrev dwM : Memref sig .tc .hbm S5x6144x3072 .f32 := Memref.whole main_v0_0

/-- A memref's location's contents. -/
abbrev BufOf (c : Dev nD) {sp : Space} {S : Shape} {e : EltTy} (M : Memref sig .tc sp S e) : Type := Buf (Elt F) (M.view.loc (c : Thread nD τ))
/-- A memref's own elements at contents `f`. -/
abbrev own (c : Dev nD) {sp : Space} {S : Shape} {e : EltTy} (M : Memref sig .tc sp S e) (f : BufOf (F := F) c M) : sProp 𝕄 :=
  M.view.loc (c : Thread nD τ) ↦[M.view.set]{fullShare} f
/-- Its buffer whole at contents `f`. -/
abbrev pt (c : Dev nD) {sp : Space} {S : Shape} {e : EltTy} (M : Memref sig .tc sp S e) (f : BufOf (F := F) c M) : sProp 𝕄 :=
  M.view.loc (c : Thread nD τ) ↦{fullShare} f

theorem inbSt (s : Fin 4) : ∀ a, (![s.val, 0, 0] : Fin 3 → Nat) a + S1x512x1536.size a ≤ S4x512x1536.size a := by
  have := s.isLt; intro a; fin_cases a
  · show s.val + 1 ≤ 4; omega
  · show 0 + 512 ≤ 512; omega
  · show 0 + 1536 ≤ 1536; omega
/-- Slot `s` of the output ring. -/
abbrev slotK (s : Fin 4) : Memref sig .tc .vmem S512x1536 .f32 :=
  (stM.slice (Rect.unit (s := S4x512x1536) ![s.val, 0, 0] S1x512x1536.size (inbSt s)) (fun _ => rfl)).squeeze S512x1536 squeezes_S1x512x1536_S512x1536
theorem inbSem (s : Fin 4) : ∀ a, (![s.val] : Fin 1 → Nat) a + S1.size a ≤ S4.size a := by
  have := s.isLt; intro a; fin_cases a
  show s.val + 1 ≤ 4; omega
/-- Its semaphore. -/
abbrev osemK (s : Fin 4) : DmaSem sig :=
  ((cc0_scratch7.slice (Rect.unit (s := S4) ![s.val] S1.size (inbSem s))).squeeze S_ squeezes_S1_S_).sem

theorem inbDw {o : Fin 3 → ℕ} (e c h : ℕ) (he : e < 5) (hc : c < 12) (hh : h < 2) (ho : o = ![e, 512 * c, 1536 * h]) :
    ∀ a, o a + S1x512x1536.size a ≤ S5x6144x3072.size a := by
  subst ho; intro a; fin_cases a
  · show e + 1 ≤ 5; omega
  · show 512 * c + 512 ≤ 6144; omega
  · show 1536 * h + 1536 ≤ 3072; omega
/-- A block of the result: an expert, a chunk of 512 rows, a half of the columns. -/
abbrev Blk : Type := Fin 5 × Fin 12 × Fin 2
abbrev blkOff (b : Blk) : Fin 3 → ℕ := ![b.1.val, 512 * b.2.1.val, 1536 * b.2.2.val]
theorem inbBlk (b : Blk) : ∀ a, blkOff b a + S1x512x1536.size a ≤ S5x6144x3072.size a :=
  inbDw b.1.val b.2.1.val b.2.2.val b.1.isLt b.2.1.isLt b.2.2.isLt rfl
abbrev dwK (b : Blk) : Memref sig .tc .hbm S512x1536 .f32 :=
  (dwM.slice (Rect.unit (s := S5x6144x3072) (blkOff b) S1x512x1536.size (inbBlk b)) (fun _ => rfl)).squeeze S512x1536 squeezes_S1x512x1536_S512x1536

/-- One half of an expert's work in a chunk, as the kernel spells it: where the ring has gone round, wait for the
    slot; load the two operands' words; store the product in the slot; start its copy out. -/
def halfK {w r : ℕ} (rM : Memref sig .tc .vmem S1408x3072 .i32) (cond : BitVec 1)
    (oW oM : Fin 1 → ℕ) (oS oV oN : Fin 3 → ℕ) (oL oR : Fin 2 → ℕ) (oD : Fin 3 → ℕ)
    (iW : cond = 1#1 → ∀ a, oW a + S1.size a ≤ S4.size a) (iM : ∀ a, oM a + S1.size a ≤ S4.size a)
    (iS : cond = 1#1 → ∀ a, oS a + S1x512x1536.size a ≤ S4x512x1536.size a) (iV : ∀ a, oV a + S1x512x1536.size a ≤ S4x512x1536.size a)
    (iN : ∀ a, oN a + S1x512x1536.size a ≤ S4x512x1536.size a)
    (iL : ∀ a, oL a + (⟨2, ![256, w]⟩ : Shape).size a ≤ S256x2816.size a) (iR : ∀ a, oR a + (⟨2, ![r, 1536]⟩ : Shape).size a ≤ S1408x3072.size a)
    (iD : ∀ a, oD a + S1x512x1536.size a ≤ S5x6144x3072.size a)
    (nL : 0 < (⟨2, ![256, w]⟩ : Shape).numel) (nR : 0 < (⟨2, ![r, 1536]⟩ : Shape).numel)
    (pay : Vec F ⟨2, ![256, w]⟩ .i32 → Vec F ⟨2, ![r, 1536]⟩ .i32 → FVec F S1x512x1536 .f32)
    {α : Type} (k : Prog (TpuEff nD τ sig (Elt F) Λ₀ .tc) α) : Prog (TpuEff nD τ sig (Elt F) Λ₀ .tc) α := do
  if k0_h8 : cond = 1#1 then do
    let v427 : DmaSems sig S1 := cc0_scratch7.slice (Rect.unit (s := S4) oW S1.size (iW k0_h8))
    let v428 : DmaSems sig S_ := v427.squeeze S_ squeezes_S1_S_
    let v429 : Memref sig .tc .hbm S1x512x1536 .f32 := dwM.slice (Rect.unit (s := S5x6144x3072) ![0, 0, 0] S1x512x1536.size inb_S5x6144x3072_S1x512x1536_0_0_0) (fun _ => rfl)
    let v430 : Memref sig .tc .hbm S512x1536 .f32 := v429.squeeze S512x1536 squeezes_S1x512x1536_S512x1536
    let v431 : Memref sig .tc .vmem S1x512x1536 .f32 := stM.slice (Rect.unit (s := S4x512x1536) oS S1x512x1536.size (iS k0_h8)) (fun _ => rfl)
    let v432 : Memref sig .tc .vmem S512x1536 .f32 := v431.squeeze S512x1536 squeezes_S1x512x1536_S512x1536
    Prog.lift (.waitDma2 v428.sem v432 v430 ((View.wordExact_bits rfl).reshape _ _) ((View.wordExact_bits rfl).reshape _ _))
    pure ⟨⟩
  else do
    pure ⟨⟩
  let v376 : Vec F ⟨2, ![256, w]⟩ .i32 ← Prog.lift (.load ltM (Rect.unit (s := S256x2816) oL (⟨2, ![256, w]⟩ : Shape).size iL).toLoadRect (View.loadsAt_vmem nL))
  let v381 : Vec F ⟨2, ![r, 1536]⟩ .i32 ← Prog.lift (.load rM (Rect.unit (s := S1408x3072) oR (⟨2, ![r, 1536]⟩ : Shape).size iR).toLoadRect (View.loadsAt_vmem nR))
  let v387 : Vec F S1x512x1536 .f32 ← Prog.lift (.load stM (Rect.unit (s := S4x512x1536) oV S1x512x1536.size iV).toLoadRect (View.loadsAt_vmem h_S1x512x1536))
  Prog.lift (.store stM (Rect.unit (s := S4x512x1536) oV S1x512x1536.size iV) (pay v376 v381) Finset.univ (View.stores_vmem_bits_univ h_S1x512x1536 rfl) (.inl rfl))
  let v391 : DmaSems sig S1 := cc0_scratch7.slice (Rect.unit (s := S4) oM S1.size iM)
  let v392 : DmaSems sig S_ := v391.squeeze S_ squeezes_S1_S_
  let v393 : Memref sig .tc .hbm S1x512x1536 .f32 := dwM.slice (Rect.unit (s := S5x6144x3072) oD S1x512x1536.size iD) (fun _ => rfl)
  let v394 : Memref sig .tc .hbm S512x1536 .f32 := v393.squeeze S512x1536 squeezes_S1x512x1536_S512x1536
  let v395 : Memref sig .tc .vmem S1x512x1536 .f32 := stM.slice (Rect.unit (s := S4x512x1536) oN S1x512x1536.size iN) (fun _ => rfl)
  let v396 : Memref sig .tc .vmem S512x1536 .f32 := v395.squeeze S512x1536 squeezes_S1x512x1536_S512x1536
  Prog.lift (.enqueueDma v396 (.here v394) (.dma v392.sem) ((View.wordExact_bits rfl).reshape _ _) ((View.wordExact_bits rfl).reshape _ _) ⟨Or.inl rfl, trivial⟩)
  k

end Cert.Kernel.Pf

end
-- ==== Proof.Half.lean ====
/- One half of an expert's work in a chunk, run. -/
module

public import proofs.«01_k».proof.Proof.Common
public import Idealize.ShloMosaic.Lib.ViewIndex

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev NB : ℕ := 98304

/-- Contents that read alike through a view agree on its elements. -/
theorem eq_on_of_read_eq {sp : Space} {S : Shape} {e : EltTy} (v : View sig .tc sp S e) (f g : v.ty.Contents (Elt F))
    (h : v.read (Elt F) f = v.read (Elt F) g) : ∀ i ∈ v.set, f i = g i := by
  intro i hi
  obtain ⟨x, hx⟩ := (show ∃ x, v.emb x = i by simpa [View.set] using hi)
  subst hx
  exact Idealize.ShloMosaic.View.eq_of_read_eq (congrFun h x)

/-- What a store of a whole slot leaves to read through the slot. -/
theorem slot_read (s : Fin 4) (iV iN : ∀ a, (![s.val, 0, 0] : Fin 3 → ℕ) a + S1x512x1536.size a ≤ S4x512x1536.size a)
    (f : (stM.view).ty.Contents (Elt F)) (p : S1x512x1536.Idx → Elt F .f32) :
    ((stM.slice (Rect.unit (s := S4x512x1536) ![s.val, 0, 0] S1x512x1536.size iN) (fun _ => rfl)).squeeze S512x1536 squeezes_S1x512x1536_S512x1536).view.read (Elt F)
        ((stM.access (Rect.unit (s := S4x512x1536) ![s.val, 0, 0] S1x512x1536.size iV)).write (Elt F) f p Finset.univ)
      = shapeCast S512x1536 p shapeCasts_S1x512x1536_S512x1536 := by
  funext i
  exact congrFun (View.read_write_univ (v := stM.access (Rect.unit (s := S4x512x1536) ![s.val, 0, 0] S1x512x1536.size iV)) f p)
    (Shape.reshapeEquiv (shapeCasts_S1x512x1536_S512x1536 : S1x512x1536.ShapeCasts S512x1536) i)

/-- What the ring's slot `s` holds: a copy out in flight that will give back `X` and the slot, or all three at hand. -/
def SlotSt (c : Dev nD) (s : Fin 4) (busy : Prop) [Decidable busy] (X : sProp 𝕄) : sProp 𝕄 :=
  if busy then Transfers.Flight EC (c : Thread nD τ) (.dma (osemK s)) () NB iprop(X ∗ ∃ f, own (F := F) c (slotK s) f)
  else iprop(semVal ((c : Thread nD τ), SemLoc.dma (osemK s)) 0 ∗ (∃ f, own (F := F) c (slotK s) f) ∗ X)

theorem half_wp {w r : ℕ} (c : Dev nD) (s : Fin 4) (b : Blk) (rM : Memref sig .tc .vmem S1408x3072 .i32) (cond : BitVec 1)
    (busy : Prop) [Decidable busy] (hc : cond = 1#1 ↔ busy)
    (oW oM : Fin 1 → ℕ) (oS oV oN : Fin 3 → ℕ) (oL oR : Fin 2 → ℕ) (oD : Fin 3 → ℕ)
    (iW : cond = 1#1 → ∀ a, oW a + S1.size a ≤ S4.size a) (iM : ∀ a, oM a + S1.size a ≤ S4.size a)
    (iS : cond = 1#1 → ∀ a, oS a + S1x512x1536.size a ≤ S4x512x1536.size a) (iV : ∀ a, oV a + S1x512x1536.size a ≤ S4x512x1536.size a)
    (iN : ∀ a, oN a + S1x512x1536.size a ≤ S4x512x1536.size a)
    (iL : ∀ a, oL a + (⟨2, ![256, w]⟩ : Shape).size a ≤ S256x2816.size a) (iR : ∀ a, oR a + (⟨2, ![r, 1536]⟩ : Shape).size a ≤ S1408x3072.size a)
    (iD : ∀ a, oD a + S1x512x1536.size a ≤ S5x6144x3072.size a)
    (nL : 0 < (⟨2, ![256, w]⟩ : Shape).numel) (nR : 0 < (⟨2, ![r, 1536]⟩ : Shape).numel)
    (pay : Vec F ⟨2, ![256, w]⟩ .i32 → Vec F ⟨2, ![r, 1536]⟩ .i32 → FVec F S1x512x1536 .f32)
    (hW : oW = ![s.val]) (hM : oM = ![s.val]) (hS : oS = ![s.val, 0, 0]) (hV : oV = ![s.val, 0, 0]) (hN : oN = ![s.val, 0, 0])
    (hD : oD = blkOff b)
    (X : sProp 𝕄) (fl : BufOf (F := F) c ltM) (fr : BufOf (F := F) c rM) (fd G : BufOf (F := F) c dwM)
    (hG : (dwK b).view.read (Elt F) G = shapeCast S512x1536
      (pay (View.readAt (Elt F) ltM.view (Rect.unit (s := S256x2816) oL (⟨2, ![256, w]⟩ : Shape).size iL).toLoadRect fl)
           (View.readAt (Elt F) rM.view (Rect.unit (s := S1408x3072) oR (⟨2, ![r, 1536]⟩ : Shape).size iR).toLoadRect fr)) shapeCasts_S1x512x1536_S512x1536)
    {α : Type} (k : Prog (TpuEff nD τ sig (Elt F) Λ₀ .tc) α) (Q : α → sProp 𝕄) :
    iprop(SlotSt c s busy X ∗ own c ltM fl ∗ own c rM fr ∗ own c (dwK b) fd ∗ (∃ W, owes (c : Thread nD τ) 0 W)
        ∗ (iprop(SlotSt c s True (own c (dwK b) G) ∗ own c ltM fl ∗ own c rM fr ∗ X
            ∗ (∃ W, owes (c : Thread nD τ) 0 W)) -∗ wp frame (wpE (defs₀ (F := F)) Variants.none c none) Set.univ k Q))
      ⊢ wp frame (wpE (defs₀ (F := F)) Variants.none c none) Set.univ
          (halfK rM cond oW oM oS oV oN oL oR oD iW iM iS iV iN iL iR iD nL nR pay k) Q := by
  subst hW hM hS hV hN hD
  have hfin : ∀ f, (iprop((View.loc c.tc (dwK b).view ↦[(dwK b).view.set]{fullShare}
          (dwK b).view.writes (Elt F) fd [⟨Rect.whole S512x1536, ReadAs.same.apply ((slotK s).view.read (Elt F)
             ((stM.access (Rect.unit (s := S4x512x1536) ![s.val, 0, 0] S1x512x1536.size iV)).write (Elt F) f
          (pay (View.readAt (Elt F) ltM.view (Rect.unit (s := S256x2816) oL (⟨2, ![256, w]⟩ : Shape).size iL).toLoadRect fl)
           (View.readAt (Elt F) rM.view (Rect.unit (s := S1408x3072) oR (⟨2, ![r, 1536]⟩ : Shape).size iR).toLoadRect fr)) Finset.univ))⟩]) ∗
        (View.loc c.tc (slotK s).view ↦[(slotK s).view.set]{fullShare}
             ((stM.access (Rect.unit (s := S4x512x1536) ![s.val, 0, 0] S1x512x1536.size iV)).write (Elt F) f
          (pay (View.readAt (Elt F) ltM.view (Rect.unit (s := S256x2816) oL (⟨2, ![256, w]⟩ : Shape).size iL).toLoadRect fl)
           (View.readAt (Elt F) rM.view (Rect.unit (s := S1408x3072) oR (⟨2, ![r, 1536]⟩ : Shape).size iR).toLoadRect fr)) Finset.univ))) : sProp 𝕄)
       ⊢ iprop(own c (dwK b) G ∗ ∃ f, own (F := F) c (slotK s) f) := by
    intro f
    iintro ⟨H1, H2⟩
    isplitl [H1]
    · rw [show (own c (dwK b) G : sProp 𝕄) = _ from (pointsTo_congr (eq_on_of_read_eq (dwK b).view _ G ?_)).symm]
      · iexact H1
      · rw [View.read_writes_whole, hG]
        exact slot_read s iV iN f _
    · iexists _; iexact H2
  by_cases hb : busy
  · have hc := hc.mpr hb
    unfold SlotSt halfK
    rw [if_pos hb, if_pos trivial]
    iintro ⟨HF, Hl, Hr, Hd, ⟨%W, HO⟩, Hk⟩
    sl_exec
    iapply (Transfers.wp_waitLocal EC Variants.none (c : Thread nD τ) none () (N := NB) rfl) $$ [HF HO]
    · isplitl [HF] <;> iassumption
    iintro ⟨⟨HX, ⟨%f, Hs⟩⟩, HF, HO⟩
    sl_exec
    iapply Hk
    isplitl [HF]
    · exact (Transfers.Flight_mono EC (c : Thread nD τ) (hfin f))
    isplitl [Hl]; · iexact Hl
    isplitl [Hr]; · iexact Hr
    isplitl [HX]; · iexact HX
    iexists _; iexact HO
  · have hc := mt hc.mp hb
    unfold SlotSt halfK
    rw [if_neg hb, if_pos trivial]
    iintro ⟨⟨HF, ⟨%f, Hs⟩, HX⟩, Hl, Hr, Hd, ⟨%W, HO⟩, Hk⟩
    sl_exec
    iapply Hk
    isplitl [HF]
    · exact (Transfers.Flight_mono EC (c : Thread nD τ) (hfin f))
    isplitl [Hl]; · iexact Hl
    isplitl [Hr]; · iexact Hr
    isplitl [HX]; · iexact HX
    iexists _; iexact HO

end Cert.Kernel.Pf

end
-- ==== Proof.T6.lean ====
/- The head of a chunk: the chunk's words arrive, the next chunk's copy is started, and the words are put in the layout the
   products read. -/
module

public import proofs.«01_k».proof.Proof.Half
public import Idealize.ShloMosaic.Lib.WritesUnit

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev NX : ℕ := 90112

theorem inbXb (s : Fin 2) : ∀ a, (![s.val, 0, 0] : Fin 3 → Nat) a + S1x256x2816.size a ≤ S2x256x2816.size a := by
  have := s.isLt; intro a; fin_cases a
  · show s.val + 1 ≤ 2; omega
  · show 0 + 256 ≤ 256; omega
  · show 0 + 2816 ≤ 2816; omega
theorem inbXh (q : Fin 12) : ∀ a, (![q.val, 0, 0] : Fin 3 → Nat) a + S1x256x2816.size a ≤ S12x256x2816.size a := by
  have := q.isLt; intro a; fin_cases a
  · show q.val + 1 ≤ 12; omega
  · show 0 + 256 ≤ 256; omega
  · show 0 + 2816 ≤ 2816; omega
theorem inbXs (s : Fin 2) : ∀ a, (![s.val] : Fin 1 → Nat) a + S1.size a ≤ S2.size a := by
  have := s.isLt; intro a; fin_cases a
  show s.val + 1 ≤ 2; omega
/-- Slot `s` of the double buffer that receives chunks. -/
abbrev xbs (s : Fin 2) : Memref sig .tc .vmem S256x2816 .i32 :=
  (xbM.slice (Rect.unit (s := S2x256x2816) ![s.val, 0, 0] S1x256x2816.size (inbXb s)) (fun _ => rfl)).squeeze S256x2816 squeezes_S1x256x2816_S256x2816
/-- Chunk `q` of the words. -/
abbrev xsl (q : Fin 12) : Memref sig .tc .hbm S256x2816 .i32 :=
  (xM.slice (Rect.unit (s := S12x256x2816) ![q.val, 0, 0] S1x256x2816.size (inbXh q)) (fun _ => rfl)).squeeze S256x2816 squeezes_S1x256x2816_S256x2816
/-- Its semaphore. -/
abbrev xsem (s : Fin 2) : DmaSem sig :=
  ((cc0_scratch6.slice (Rect.unit (s := S2) ![s.val] S1.size (inbXs s))).squeeze S_ squeezes_S1_S_).sem

/-- Chunk `q` under way to slot `s`. -/
def XFly (c : Dev nD) (s : Fin 2) (q : Fin 12) (fx : BufOf (F := F) c xM) : sProp 𝕄 :=
  Transfers.Flight EC (c : Thread nD τ) (.dma (xsem s)) () NX
    iprop(own c (xsl q) fx ∗ ∃ f, own (F := F) c (xbs s) f ∗ ⌜(xbs s).view.read (Elt F) f = (xsl q).view.read (Elt F) fx⌝)
/-- Slot `s` at rest. -/
def XFree (c : Dev nD) (s : Fin 2) : sProp 𝕄 :=
  iprop(semVal ((c : Thread nD τ), SemLoc.dma (xsem s)) 0 ∗ ∃ f, own (F := F) c (xbs s) f)

/-- Chunk `q`'s words in the layout the products read. -/
def ltq (c : Dev nD) (fx : BufOf (F := F) c xM) (q : Fin 12) : BufOf (F := F) c ltM :=
  k0_pay18 (F := F) (View.readAt (Elt F) xM.view (Rect.unit (s := S12x256x2816) ![q.val, 0, 0] S1x256x2816.size (inbXh q)).toLoadRect fx)

/-- The head of a chunk, as the kernel spells it. -/
def head6 (cond : BitVec 1) (o1 : Fin 1 → ℕ) (o2 o3 : Fin 3 → ℕ) (o4 : Fin 1 → ℕ) (o5 o6 o7 : Fin 3 → ℕ)
    (i1 : ∀ a, o1 a + S1.size a ≤ S2.size a) (i2 : ∀ a, o2 a + S1x256x2816.size a ≤ S2x256x2816.size a) (i3 : ∀ a, o3 a + S1x256x2816.size a ≤ S12x256x2816.size a)
    (i4 : cond = 1#1 → ∀ a, o4 a + S1.size a ≤ S2.size a) (i5 : cond = 1#1 → ∀ a, o5 a + S1x256x2816.size a ≤ S2x256x2816.size a) (i6 : cond = 1#1 → ∀ a, o6 a + S1x256x2816.size a ≤ S12x256x2816.size a)
    (i7 : ∀ a, o7 a + S1x256x2816.size a ≤ S2x256x2816.size a)
    {α : Type} (k : Prog (TpuEff nD τ sig (Elt F) Λ₀ .tc) α) : Prog (TpuEff nD τ sig (Elt F) Λ₀ .tc) α := do
    let v324 : DmaSems sig S1 := cc0_scratch6.slice (Rect.unit (s := S2) o1 S1.size i1)
    let v325 : DmaSems sig S_ := v324.squeeze S_ squeezes_S1_S_
    let v326 : Memref sig .tc .vmem S1x256x2816 .i32 := xbM.slice (Rect.unit (s := S2x256x2816) o2 S1x256x2816.size i2) (fun _ => rfl)
    let v327 : Memref sig .tc .vmem S256x2816 .i32 := v326.squeeze S256x2816 squeezes_S1x256x2816_S256x2816
    let v328 : Memref sig .tc .hbm S1x256x2816 .i32 := xM.slice (Rect.unit (s := S12x256x2816) o3 S1x256x2816.size i3) (fun _ => rfl)
    let v329 : Memref sig .tc .hbm S256x2816 .i32 := v328.squeeze S256x2816 squeezes_S1x256x2816_S256x2816
    Prog.lift (.waitDma2 v325.sem v329 v327 ((View.wordExact_bits rfl).reshape _ _) ((View.wordExact_bits rfl).reshape _ _))
    if k0_h6 : cond = 1#1 then do
      let v344 : DmaSems sig S1 := cc0_scratch6.slice (Rect.unit (s := S2) o4 S1.size (i4 k0_h6))
      let v345 : DmaSems sig S_ := v344.squeeze S_ squeezes_S1_S_
      let v346 : Memref sig .tc .vmem S1x256x2816 .i32 := xbM.slice (Rect.unit (s := S2x256x2816) o5 S1x256x2816.size (i5 k0_h6)) (fun _ => rfl)
      let v347 : Memref sig .tc .vmem S256x2816 .i32 := v346.squeeze S256x2816 squeezes_S1x256x2816_S256x2816
      let v348 : Memref sig .tc .hbm S1x256x2816 .i32 := xM.slice (Rect.unit (s := S12x256x2816) o6 S1x256x2816.size (i6 k0_h6)) (fun _ => rfl)
      let v349 : Memref sig .tc .hbm S256x2816 .i32 := v348.squeeze S256x2816 squeezes_S1x256x2816_S256x2816
      Prog.lift (.enqueueDma v349 (.here v347) (.dma v345.sem) ((View.wordExact_bits rfl).reshape _ _) ((View.wordExact_bits rfl).reshape _ _) ⟨Or.inl rfl, trivial⟩)
      pure ⟨⟩
    else do
      pure ⟨⟩
    let v335 : Vec F S1x256x2816 .i32 ← Prog.lift (.load xbM (Rect.unit (s := S2x256x2816) o7 S1x256x2816.size i7).toLoadRect (View.loadsAt_vmem h_S1x256x2816))
    let v337 : Vec F S256x2816 .i32 ← Prog.lift (.load ltM (Rect.unit (s := S256x2816) ![0, 0] S256x2816.size inb_S256x2816_S256x2816_0_0).toLoadRect (View.loadsAt_vmem h_S256x2816))
    Prog.lift (.store ltM (Rect.unit (s := S256x2816) ![0, 0] S256x2816.size inb_S256x2816_S256x2816_0_0) (k0_pay18 v335) Finset.univ (View.stores_vmem_bits_univ h_S256x2816 rfl) (.inl rfl))
    k

/-- The words loaded from a slot are the chunk's. -/
theorem chunk_read (c : Dev nD) (s : Fin 2) (q : Fin 12) (i7 : ∀ a, (![s.val, 0, 0] : Fin 3 → ℕ) a + S1x256x2816.size a ≤ S2x256x2816.size a)
    (f : BufOf (F := F) c (xbs s)) (fx : BufOf (F := F) c xM) (hf : (xbs s).view.read (Elt F) f = (xsl q).view.read (Elt F) fx) :
    View.readAt (Elt F) xbM.view (Rect.unit (s := S2x256x2816) ![s.val, 0, 0] S1x256x2816.size i7).toLoadRect f
      = View.readAt (Elt F) xM.view (Rect.unit (s := S12x256x2816) ![q.val, 0, 0] S1x256x2816.size (inbXh q)).toLoadRect fx := by
  funext x
  have h := congrFun hf ((Shape.reshapeEquiv (shapeCasts_S1x256x2816_S256x2816 : S1x256x2816.ShapeCasts S256x2816)).symm x)
  change View.readAt (Elt F) xbM.view (Rect.unit (s := S2x256x2816) ![s.val, 0, 0] S1x256x2816.size i7).toLoadRect f
      (Shape.reshapeEquiv (shapeCasts_S1x256x2816_S256x2816 : S1x256x2816.ShapeCasts S256x2816) ((Shape.reshapeEquiv (shapeCasts_S1x256x2816_S256x2816 : S1x256x2816.ShapeCasts S256x2816)).symm x))
    = View.readAt (Elt F) xM.view (Rect.unit (s := S12x256x2816) ![q.val, 0, 0] S1x256x2816.size (inbXh q)).toLoadRect fx
      (Shape.reshapeEquiv (shapeCasts_S1x256x2816_S256x2816 : S1x256x2816.ShapeCasts S256x2816) ((Shape.reshapeEquiv (shapeCasts_S1x256x2816_S256x2816 : S1x256x2816.ShapeCasts S256x2816)).symm x)) at h
  rw [Equiv.apply_symm_apply] at h
  exact h

theorem head6_wp (c : Dev nD) (s s' : Fin 2) (hs : s ≠ s') (q q' : Fin 12) (cond : BitVec 1) (o1 : Fin 1 → ℕ) (o2 o3 : Fin 3 → ℕ) (o4 : Fin 1 → ℕ) (o5 o6 o7 : Fin 3 → ℕ)
    (i1 : ∀ a, o1 a + S1.size a ≤ S2.size a) (i2 : ∀ a, o2 a + S1x256x2816.size a ≤ S2x256x2816.size a) (i3 : ∀ a, o3 a + S1x256x2816.size a ≤ S12x256x2816.size a)
    (i4 : cond = 1#1 → ∀ a, o4 a + S1.size a ≤ S2.size a) (i5 : cond = 1#1 → ∀ a, o5 a + S1x256x2816.size a ≤ S2x256x2816.size a) (i6 : cond = 1#1 → ∀ a, o6 a + S1x256x2816.size a ≤ S12x256x2816.size a)
    (i7 : ∀ a, o7 a + S1x256x2816.size a ≤ S2x256x2816.size a)
    (h1 : o1 = ![s.val]) (h2 : o2 = ![s.val, 0, 0]) (h3 : o3 = ![q.val, 0, 0]) (h4 : o4 = ![s'.val]) (h5 : o5 = ![s'.val, 0, 0]) (h6 : cond = 1#1 → o6 = ![q'.val, 0, 0]) (h7 : o7 = ![s.val, 0, 0])
    (fx : BufOf (F := F) c xM) {α : Type} (k : Prog (TpuEff nD τ sig (Elt F) Λ₀ .tc) α) (Q : α → sProp 𝕄) :
    iprop(XFly c s q fx ∗ XFree c s' ∗ (if cond = 1#1 then own c (xsl q') fx else iprop(emp)) ∗ (∃ f, own (F := F) c ltM f) ∗ (∃ W, owes (c : Thread nD τ) 0 W)
      ∗ (iprop(own c (xsl q) fx ∗ XFree c s ∗ (if cond = 1#1 then XFly c s' q' fx else XFree c s') ∗ own c ltM (ltq c fx q) ∗ (∃ W, owes (c : Thread nD τ) 0 W)) -∗ wp frame (wpE (defs₀ (F := F)) Variants.none c none) Set.univ k Q))
      ⊢ wp frame (wpE (defs₀ (F := F)) Variants.none c none) Set.univ (head6 cond o1 o2 o3 o4 o5 o6 o7 i1 i2 i3 i4 i5 i6 i7 k) Q := by
  subst h1 h2 h3 h4 h5 h7
  have hlt : ∀ (f : BufOf (F := F) c (xbs s)) (i7 : ∀ a, (![s.val, 0, 0] : Fin 3 → ℕ) a + S1x256x2816.size a ≤ S2x256x2816.size a) (fl : BufOf (F := F) c ltM),
      (xbs s).view.read (Elt F) f = (xsl q).view.read (Elt F) fx →
      (own c ltM (ltq c fx q) : sProp 𝕄) = own c ltM (ltM.view.writes (Elt F) fl
        [⟨Rect.unit (s := S256x2816) ![0, 0] S256x2816.size inb_S256x2816_S256x2816_0_0, k0_pay18 (View.readAt (Elt F) xbM.view (Rect.unit (s := S2x256x2816) ![s.val, 0, 0] S1x256x2816.size i7).toLoadRect f)⟩]) := by
    intro f i7 fl hf
    refine (pointsTo_congr (eq_on_of_read_eq ltM.view _ _ ?_)).symm
    rw [chunk_read c s q i7 f fx hf]
    funext y
    exact View.read_writes_cons_unit_of_mem ltM.view fl _ _ [] y y rfl (fun a => by fin_cases a <;> exact (Nat.zero_add _).symm)
  have hfly : ∀ f', (iprop((View.loc c.tc (xbs s').view ↦[(xbs s').view.set]{fullShare}
          (xbs s').view.writes (Elt F) f' [⟨Rect.whole S256x2816, ReadAs.same.apply ((xsl q').view.read (Elt F) fx)⟩]) ∗
        (View.loc c.tc (xsl q').view ↦[(xsl q').view.set]{fullShare} fx)) : sProp 𝕄)
      ⊢ iprop(own c (xsl q') fx ∗ ∃ f, own (F := F) c (xbs s') f ∗ ⌜(xbs s').view.read (Elt F) f = (xsl q').view.read (Elt F) fx⌝) := by
    intro f'
    iintro ⟨H1, H2⟩
    isplitl [H2]; · iexact H2
    iexists _
    isplitl [H1]; · iexact H1
    ipureintro
    rw [View.read_writes_whole]
  by_cases hc : cond = 1#1
  · rw [if_pos hc, if_pos hc]
    have h6 := h6 hc
    subst h6
    unfold XFly XFree head6
    iintro ⟨HF, ⟨Hv, ⟨%f', Hb⟩⟩, Hx, ⟨%fl, Hl⟩, ⟨%W, HO⟩, Hk⟩
    sl_exec
    iapply (Transfers.wp_waitLocal EC Variants.none (c : Thread nD τ) none () (N := NX) rfl) $$ [HF HO]
    · isplitl [HF] <;> iassumption
    iintro ⟨⟨HX, ⟨%f, Hs, %hf⟩⟩, HF, HO⟩
    sl_exec
    iapply Hk
    isplitl [HX]; · iexact HX
    isplitl [HF Hs]
    · isplitl [HF]; · iexact HF
      iexists _; iexact Hs
    isplitl [Hv]
    · exact (Transfers.Flight_mono EC (c : Thread nD τ) (hfly f'))
    isplitl [Hl]
    · rw [hlt f i7 fl hf]; iexact Hl
    iexists _; iexact HO
  · rw [if_neg hc, if_neg hc]
    unfold XFly XFree head6
    iintro ⟨HF, ⟨Hv, ⟨%f', Hb⟩⟩, Hx, ⟨%fl, Hl⟩, ⟨%W, HO⟩, Hk⟩
    sl_exec
    iapply (Transfers.wp_waitLocal EC Variants.none (c : Thread nD τ) none () (N := NX) rfl) $$ [HF HO]
    · isplitl [HF] <;> iassumption
    iintro ⟨⟨HX, ⟨%f, Hs, %hf⟩⟩, HF, HO⟩
    sl_exec
    iapply Hk
    isplitl [HX]; · iexact HX
    isplitl [HF Hs]
    · isplitl [HF]; · iexact HF
      iexists _; iexact Hs
    isplitl [Hv Hb]
    · isplitl [Hv]; · iexact Hv
      iexists _; iexact Hb
    isplitl [Hl]
    · rw [hlt f i7 fl hf]; iexact Hl
    iexists _; iexact HO

end Cert.Kernel.Pf

end
-- ==== Proof.Ring.lean ====
/- The four slots of the output ring together: the copies in flight owe what they deliver to one running total. -/
module

public import proofs.«01_k».proof.Proof.Half

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem etrans {P Q R : sProp 𝕄} (h1 : P ⊢ Q) (h2 : Q ⊢ R) : P ⊢ R := BI.Entails.trans h1 h2

theorem slotSt_congr (c : Dev nD) (s : Fin 4) (p q : Prop) [Decidable p] [Decidable q] (h : p ↔ q) (X : sProp 𝕄) :
    (SlotSt c s p X : sProp 𝕄) = SlotSt c s q X := by
  unfold SlotSt; by_cases hp : p
  · rw [if_pos hp, if_pos (h.mp hp)]
  · rw [if_neg hp, if_neg (mt h.mpr hp)]

/-- The ring after `u` copies out were started: slot `s` is in flight once `s < u`; what the four slots deliver, together,
    gives `P`. -/
def Ring (c : Dev nD) (u : ℕ) (P : sProp 𝕄) : sProp 𝕄 :=
  iprop(∃ X0 X1 X2 X3 : sProp 𝕄, SlotSt c 0 (0 < u) X0 ∗ SlotSt c 1 (1 < u) X1 ∗ SlotSt c 2 (2 < u) X2 ∗ SlotSt c 3 (3 < u) X3
    ∗ (iprop(X0 ∗ X1 ∗ X2 ∗ X3) -∗ P))

theorem ring_half {w r : ℕ} (c : Dev nD) (u : ℕ) (s : Fin 4) (hs : s.val = u % 4) (b : Blk) (a3 : Memref sig .tc .vmem S1408x3072 .i32) (cond : BitVec 1)
    (hc : cond = 1#1 ↔ 4 ≤ u)
    (oW oM : Fin 1 → ℕ) (oS oV oN : Fin 3 → ℕ) (oL oR : Fin 2 → ℕ) (oD : Fin 3 → ℕ)
    (iW : cond = 1#1 → ∀ a, oW a + S1.size a ≤ S4.size a) (iM : ∀ a, oM a + S1.size a ≤ S4.size a)
    (iS : cond = 1#1 → ∀ a, oS a + S1x512x1536.size a ≤ S4x512x1536.size a) (iV : ∀ a, oV a + S1x512x1536.size a ≤ S4x512x1536.size a)
    (iN : ∀ a, oN a + S1x512x1536.size a ≤ S4x512x1536.size a)
    (iL : ∀ a, oL a + (⟨2, ![256, w]⟩ : Shape).size a ≤ S256x2816.size a) (iR : ∀ a, oR a + (⟨2, ![r, 1536]⟩ : Shape).size a ≤ S1408x3072.size a)
    (iD : ∀ a, oD a + S1x512x1536.size a ≤ S5x6144x3072.size a)
    (nL : 0 < (⟨2, ![256, w]⟩ : Shape).numel) (nR : 0 < (⟨2, ![r, 1536]⟩ : Shape).numel)
    (pay : Vec F ⟨2, ![256, w]⟩ .i32 → Vec F ⟨2, ![r, 1536]⟩ .i32 → FVec F S1x512x1536 .f32)
    (hW : oW = ![s.val]) (hM : oM = ![s.val]) (hS : oS = ![s.val, 0, 0]) (hV : oV = ![s.val, 0, 0]) (hN : oN = ![s.val, 0, 0])
    (hD : oD = blkOff b)
    (P : sProp 𝕄) (fl : BufOf (F := F) c ltM) (fr : BufOf (F := F) c a3) (fd G : BufOf (F := F) c dwM)
    (hG : (dwK b).view.read (Elt F) G = shapeCast S512x1536
      (pay (View.readAt (Elt F) ltM.view (Rect.unit (s := S256x2816) oL (⟨2, ![256, w]⟩ : Shape).size iL).toLoadRect fl)
           (View.readAt (Elt F) a3.view (Rect.unit (s := S1408x3072) oR (⟨2, ![r, 1536]⟩ : Shape).size iR).toLoadRect fr)) shapeCasts_S1x512x1536_S512x1536)
    {α : Type} (k : Prog (TpuEff nD τ sig (Elt F) Λ₀ .tc) α) (Q : α → sProp 𝕄) :
    iprop(Ring c u P ∗ own c ltM fl ∗ own c a3 fr ∗ own c (dwK b) fd ∗ (∃ W, owes (c : Thread nD τ) 0 W)
        ∗ (iprop(Ring c (u + 1) iprop(own c (dwK b) G ∗ P) ∗ own c ltM fl ∗ own c a3 fr
            ∗ (∃ W, owes (c : Thread nD τ) 0 W)) -∗ wp frame (wpE (defs₀ (F := F)) Variants.none c none) Set.univ k Q))
      ⊢ wp frame (wpE (defs₀ (F := F)) Variants.none c none) Set.univ
          (halfK a3 cond oW oM oS oV oN oL oR oD iW iM iS iV iN iL iR iD nL nR pay k) Q := by
  have hb : s.val < u ↔ 4 ≤ u := by omega
  unfold Ring
  iintro ⟨⟨%X0, %X1, %X2, %X3, H0, H1, H2, H3, HP⟩, Hl, Hr, Hd, HO, Hk⟩
  rcases (show s = 0 ∨ s = 1 ∨ s = 2 ∨ s = 3 by omega) with h | h | h | h
  · subst h
    have hu : u % 4 = 0 := by rw [← hs]; rfl
    iapply (half_wp c 0 b a3 cond (0 < u) (hc.trans (by omega)) oW oM oS oV oN oL oR oD iW iM iS iV iN iL iR iD nL nR pay hW hM hS hV hN hD X0 fl fr fd G hG k Q)
    isplitl [H0]; · iexact H0
    isplitl [Hl]; · iexact Hl
    isplitl [Hr]; · iexact Hr
    isplitl [Hd]; · iexact Hd
    isplitl [HO]; · iexact HO
    iintro ⟨H0, Hl, Hr, HX, HO⟩
    iapply Hk
    isplitr [Hl Hr HO]
    · iexists iprop(own c (dwK b) G), X1, X2, X3
      isplitl [H0]
      · rw [slotSt_congr c 0 (0 < u + 1) (True) (by simp only [iff_true]; omega)]; iexact H0
      isplitl [H1]
      · rw [slotSt_congr c 1 (1 < u + 1) (1 < u) (by omega)]; iexact H1
      isplitl [H2]
      · rw [slotSt_congr c 2 (2 < u + 1) (2 < u) (by omega)]; iexact H2
      isplitl [H3]
      · rw [slotSt_congr c 3 (3 < u + 1) (3 < u) (by omega)]; iexact H3
      iintro ⟨Hb, Y1, Y2, Y3⟩
      isplitl [Hb]; · iexact Hb
      iapply HP
      isplitl [HX]; · iexact HX
      isplitl [Y1]; · iexact Y1
      isplitl [Y2]; · iexact Y2
      iexact Y3
    · isplitl [Hl]; · iexact Hl
      isplitl [Hr]; · iexact Hr
      iexact HO
  · subst h
    have hu : u % 4 = 1 := by rw [← hs]; rfl
    iapply (half_wp c 1 b a3 cond (1 < u) (hc.trans (by omega)) oW oM oS oV oN oL oR oD iW iM iS iV iN iL iR iD nL nR pay hW hM hS hV hN hD X1 fl fr fd G hG k Q)
    isplitl [H1]; · iexact H1
    isplitl [Hl]; · iexact Hl
    isplitl [Hr]; · iexact Hr
    isplitl [Hd]; · iexact Hd
    isplitl [HO]; · iexact HO
    iintro ⟨H1, Hl, Hr, HX, HO⟩
    iapply Hk
    isplitr [Hl Hr HO]
    · iexists X0, iprop(own c (dwK b) G), X2, X3
      isplitl [H0]
      · rw [slotSt_congr c 0 (0 < u + 1) (0 < u) (by omega)]; iexact H0
      isplitl [H1]
      · rw [slotSt_congr c 1 (1 < u + 1) (True) (by simp only [iff_true]; omega)]; iexact H1
      isplitl [H2]
      · rw [slotSt_congr c 2 (2 < u + 1) (2 < u) (by omega)]; iexact H2
      isplitl [H3]
      · rw [slotSt_congr c 3 (3 < u + 1) (3 < u) (by omega)]; iexact H3
      iintro ⟨Y0, Hb, Y2, Y3⟩
      isplitl [Hb]; · iexact Hb
      iapply HP
      isplitl [Y0]; · iexact Y0
      isplitl [HX]; · iexact HX
      isplitl [Y2]; · iexact Y2
      iexact Y3
    · isplitl [Hl]; · iexact Hl
      isplitl [Hr]; · iexact Hr
      iexact HO
  · subst h
    have hu : u % 4 = 2 := by rw [← hs]; rfl
    iapply (half_wp c 2 b a3 cond (2 < u) (hc.trans (by omega)) oW oM oS oV oN oL oR oD iW iM iS iV iN iL iR iD nL nR pay hW hM hS hV hN hD X2 fl fr fd G hG k Q)
    isplitl [H2]; · iexact H2
    isplitl [Hl]; · iexact Hl
    isplitl [Hr]; · iexact Hr
    isplitl [Hd]; · iexact Hd
    isplitl [HO]; · iexact HO
    iintro ⟨H2, Hl, Hr, HX, HO⟩
    iapply Hk
    isplitr [Hl Hr HO]
    · iexists X0, X1, iprop(own c (dwK b) G), X3
      isplitl [H0]
      · rw [slotSt_congr c 0 (0 < u + 1) (0 < u) (by omega)]; iexact H0
      isplitl [H1]
      · rw [slotSt_congr c 1 (1 < u + 1) (1 < u) (by omega)]; iexact H1
      isplitl [H2]
      · rw [slotSt_congr c 2 (2 < u + 1) (True) (by simp only [iff_true]; omega)]; iexact H2
      isplitl [H3]
      · rw [slotSt_congr c 3 (3 < u + 1) (3 < u) (by omega)]; iexact H3
      iintro ⟨Y0, Y1, Hb, Y3⟩
      isplitl [Hb]; · iexact Hb
      iapply HP
      isplitl [Y0]; · iexact Y0
      isplitl [Y1]; · iexact Y1
      isplitl [HX]; · iexact HX
      iexact Y3
    · isplitl [Hl]; · iexact Hl
      isplitl [Hr]; · iexact Hr
      iexact HO
  · subst h
    have hu : u % 4 = 3 := by rw [← hs]; rfl
    iapply (half_wp c 3 b a3 cond (3 < u) (hc.trans (by omega)) oW oM oS oV oN oL oR oD iW iM iS iV iN iL iR iD nL nR pay hW hM hS hV hN hD X3 fl fr fd G hG k Q)
    isplitl [H3]; · iexact H3
    isplitl [Hl]; · iexact Hl
    isplitl [Hr]; · iexact Hr
    isplitl [Hd]; · iexact Hd
    isplitl [HO]; · iexact HO
    iintro ⟨H3, Hl, Hr, HX, HO⟩
    iapply Hk
    isplitr [Hl Hr HO]
    · iexists X0, X1, X2, iprop(own c (dwK b) G)
      isplitl [H0]
      · rw [slotSt_congr c 0 (0 < u + 1) (0 < u) (by omega)]; iexact H0
      isplitl [H1]
      · rw [slotSt_congr c 1 (1 < u + 1) (1 < u) (by omega)]; iexact H1
      isplitl [H2]
      · rw [slotSt_congr c 2 (2 < u + 1) (2 < u) (by omega)]; iexact H2
      isplitl [H3]
      · rw [slotSt_congr c 3 (3 < u + 1) (True) (by simp only [iff_true]; omega)]; iexact H3
      iintro ⟨Y0, Y1, Y2, Hb⟩
      isplitl [Hb]; · iexact Hb
      iapply HP
      isplitl [Y0]; · iexact Y0
      isplitl [Y1]; · iexact Y1
      isplitl [Y2]; · iexact Y2
      iexact HX
    · isplitl [Hl]; · iexact Hl
      isplitl [Hr]; · iexact Hr
      iexact HO

end Cert.Kernel.Pf

end
-- ==== Proof.Pair.lean ====
/- Both halves of an expert's work in a chunk, for each number of its tiles. -/
module

public import proofs.«01_k».proof.Proof.Ring

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem halfK_bind {w r : ℕ} {a3 : Memref sig .tc .vmem S1408x3072 .i32} {cond oW oM oS oV oN oL oR oD iW iM iS iV iN iL iR iD nL nR}
    {pay : Vec F ⟨2, ![256, w]⟩ .i32 → Vec F ⟨2, ![r, 1536]⟩ .i32 → FVec F S1x512x1536 .f32} {α β : Type}
    (k : Prog (TpuEff nD τ sig (Elt F) Λ₀ .tc) α) (f : α → Prog (TpuEff nD τ sig (Elt F) Λ₀ .tc) β) :
    (halfK a3 cond oW oM oS oV oN oL oR oD iW iM iS iV iN iL iR iD nL nR pay k >>= f)
      = halfK a3 cond oW oM oS oV oN oL oR oD iW iM iS iV iN iL iR iD nL nR pay (k >>= f) := by
  unfold halfK
  by_cases h : cond = 1#1
  · rw [dif_pos h, dif_pos h]; rfl
  · rw [dif_neg h, dif_neg h]; rfl

theorem offs1 : ∀ j : Fin 60,
    (k0_cond8 (BitVec.ofNat 32 (2 * j.val)) = 1#1 ↔ 4 ≤ 2 * j.val)
    ∧ (k0_cond9 (BitVec.ofNat 32 (2 * j.val)) = 1#1 ↔ 4 ≤ 2 * j.val + 1)
    ∧ k0_off19 (BitVec.ofNat 32 (2 * j.val)) = ![2 * j.val % 4]
    ∧ k0_off20 (BitVec.ofNat 32 (2 * j.val)) = ![2 * j.val % 4, 0, 0]
    ∧ k0_off23 (BitVec.ofNat 32 (2 * j.val)) 0#32 = ![2 * j.val % 4, 0, 0]
    ∧ k0_off24 (BitVec.ofNat 32 (2 * j.val)) 0#32 = ![2 * j.val % 4]
    ∧ k0_off26 (BitVec.ofNat 32 (2 * j.val)) 0#32 = ![2 * j.val % 4, 0, 0]
    ∧ k0_off27 (BitVec.ofNat 32 (2 * j.val)) = ![(2 * j.val + 1) % 4]
    ∧ k0_off28 (BitVec.ofNat 32 (2 * j.val)) = ![(2 * j.val + 1) % 4, 0, 0]
    ∧ k0_off23 (BitVec.ofNat 32 (2 * j.val)) 1#32 = ![(2 * j.val + 1) % 4, 0, 0]
    ∧ k0_off24 (BitVec.ofNat 32 (2 * j.val)) 1#32 = ![(2 * j.val + 1) % 4]
    ∧ k0_off26 (BitVec.ofNat 32 (2 * j.val)) 1#32 = ![(2 * j.val + 1) % 4, 0, 0] := by decide +kernel

theorem part1_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345)
    (hh : k0_cond7 v345 = 1#1) :
    k0_part1 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh
      = halfK (w := 256) (r := 128) a3 (k0_cond8 arg22) (k0_off19 arg22) (k0_off24 arg22 0#32) (k0_off20 arg22) (k0_off23 arg22 0#32) (k0_off26 arg22 0#32) (k0_off21 v343) (k0_off22 v343) (k0_off25 t6 t7) (fun h8 => k0_off19_inb arg22 v343 v345 hw1 hh h8) (k0_off24_inb arg22 v343 v345 hw1 hh 0) (fun h8 => k0_off20_inb arg22 v343 v345 hw1 hh h8) (k0_off23_inb arg22 v343 v345 hw1 hh 0) (k0_off26_inb arg22 v343 v345 hw1 hh 0) (k0_off21_inb arg22 v343 v345 hw1 hh) (k0_off22_inb arg22 v343 v345 hw1 hh) (k0_off25_inb t6 t7) h_S256x256 h_S128x1536 (k0_pay1 (k0_pay17 v133 v183)) (pure (Scalar.andi (Scalar.addi arg22 1#32) 3#32)) := by
  rw [k0_part1_eq_skeleton]; rfl

theorem pair1 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60)
    (arg22 : BitVec 32) (ha : arg22 = BitVec.ofNat 32 (2 * j.val)) (v343 v345 : Elt F .i32) (hw1 : k0_chk1 arg22 v343 v345)
    (hh : k0_cond7 v345 = 1#1) (b0 b1 : Blk) (hb0 : k0_off25 t6 t7 = blkOff b0) (hb1 : k0_off30 t6 t7 = blkOff b1)
    (P : sProp 𝕄) (fl : BufOf (F := F) c ltM) (fr : BufOf (F := F) c a3) (fd G : BufOf (F := F) c dwM)
    (hG0 : (dwK b0).view.read (Elt F) G = shapeCast S512x1536
      (k0_pay1 (k0_pay17 v133 v183) (View.readAt (Elt F) ltM.view (Rect.unit (s := S256x2816) (k0_off21 v343) (S256x256).size (k0_off21_inb arg22 v343 v345 hw1 hh)).toLoadRect fl)
           (View.readAt (Elt F) a3.view (Rect.unit (s := S1408x3072) (k0_off22 v343) (S128x1536).size (k0_off22_inb arg22 v343 v345 hw1 hh)).toLoadRect fr)) shapeCasts_S1x512x1536_S512x1536)
    (hG1 : (dwK b1).view.read (Elt F) G = shapeCast S512x1536
      (k0_pay19 v133 v183 (View.readAt (Elt F) ltM.view (Rect.unit (s := S256x2816) (k0_off21 v343) (S256x256).size (k0_off21_inb arg22 v343 v345 hw1 hh)).toLoadRect fl)
           (View.readAt (Elt F) a3.view (Rect.unit (s := S1408x3072) (k0_off29 v343) (S128x1536).size (k0_off29_inb arg22 v343 v345 hw1 hh)).toLoadRect fr)) shapeCasts_S1x512x1536_S512x1536)
    {α : Type} (k : Prog (TpuEff nD τ sig (Elt F) Λ₀ .tc) α) (Q : α → sProp 𝕄) :
    iprop(Ring c (2 * j.val) P ∗ own c ltM fl ∗ own c a3 fr ∗ own c (dwK b0) fd ∗ own c (dwK b1) fd ∗ (∃ W, owes (c : Thread nD τ) 0 W)
        ∗ (iprop(Ring c (2 * j.val + 2) iprop(own c (dwK b1) G ∗ own c (dwK b0) G ∗ P) ∗ own c ltM fl ∗ own c a3 fr
            ∗ (∃ W, owes (c : Thread nD τ) 0 W)) -∗ wp frame (wpE (defs₀ (F := F)) Variants.none c none) Set.univ k Q))
      ⊢ wp frame (wpE (defs₀ (F := F)) Variants.none c none) Set.univ
          (k0_part1 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
            halfK (w := 256) (r := 128) a3 (k0_cond9 arg22) (k0_off27 arg22) (k0_off24 arg22 1#32) (k0_off28 arg22) (k0_off23 arg22 1#32) (k0_off26 arg22 1#32) (k0_off21 v343) (k0_off29 v343) (k0_off30 t6 t7) (fun h8 => k0_off27_inb arg22 v343 v345 hw1 hh h8) (k0_off24_inb arg22 v343 v345 hw1 hh 1) (fun h8 => k0_off28_inb arg22 v343 v345 hw1 hh h8) (k0_off23_inb arg22 v343 v345 hw1 hh 1) (k0_off26_inb arg22 v343 v345 hw1 hh 1) (k0_off21_inb arg22 v343 v345 hw1 hh) (k0_off29_inb arg22 v343 v345 hw1 hh) (k0_off30_inb t6 t7) h_S256x256 h_S128x1536 (k0_pay19 v133 v183) k) Q := by
  subst ha
  obtain ⟨c0, c1, q1, q2, q3, q4, q5, q6, q7, q8, q9, q10⟩ := offs1 j
  rw [part1_eq, halfK_bind]
  iintro ⟨HR, Hl, Hr, Hd0, Hd1, HO, Hk⟩
  iapply (ring_half c (2 * j.val) ⟨2 * j.val % 4, by omega⟩ rfl b0 a3 _ c0 _ _ _ _ _ _ _ _ _ _ _ _ _ _ _ _ h_S256x256 h_S128x1536 _ q1 q4 q2 q3 q5 hb0 P fl fr fd G hG0)
  isplitl [HR]; · iexact HR
  isplitl [Hl]; · iexact Hl
  isplitl [Hr]; · iexact Hr
  isplitl [Hd0]; · iexact Hd0
  isplitl [HO]; · iexact HO
  iintro ⟨HR, Hl, Hr, HO⟩
  iapply (ring_half c (2 * j.val + 1) ⟨(2 * j.val + 1) % 4, by omega⟩ rfl b1 a3 _ c1 _ _ _ _ _ _ _ _ _ _ _ _ _ _ _ _ h_S256x256 h_S128x1536 _ q6 q9 q7 q8 q10 hb1 _ fl fr fd G hG1)
  isplitl [HR]; · iexact HR
  isplitl [Hl]; · iexact Hl
  isplitl [Hr]; · iexact Hr
  isplitl [Hd1]; · iexact Hd1
  isplitl [HO]; · iexact HO
  iexact Hk

theorem offs2 : ∀ j : Fin 60,
    (k0_cond11 (BitVec.ofNat 32 (2 * j.val)) = 1#1 ↔ 4 ≤ 2 * j.val)
    ∧ (k0_cond12 (BitVec.ofNat 32 (2 * j.val)) = 1#1 ↔ 4 ≤ 2 * j.val + 1)
    ∧ k0_off31 (BitVec.ofNat 32 (2 * j.val)) = ![2 * j.val % 4]
    ∧ k0_off32 (BitVec.ofNat 32 (2 * j.val)) = ![2 * j.val % 4, 0, 0]
    ∧ k0_off35 (BitVec.ofNat 32 (2 * j.val)) 0#32 = ![2 * j.val % 4, 0, 0]
    ∧ k0_off36 (BitVec.ofNat 32 (2 * j.val)) 0#32 = ![2 * j.val % 4]
    ∧ k0_off38 (BitVec.ofNat 32 (2 * j.val)) 0#32 = ![2 * j.val % 4, 0, 0]
    ∧ k0_off39 (BitVec.ofNat 32 (2 * j.val)) = ![(2 * j.val + 1) % 4]
    ∧ k0_off40 (BitVec.ofNat 32 (2 * j.val)) = ![(2 * j.val + 1) % 4, 0, 0]
    ∧ k0_off35 (BitVec.ofNat 32 (2 * j.val)) 1#32 = ![(2 * j.val + 1) % 4, 0, 0]
    ∧ k0_off36 (BitVec.ofNat 32 (2 * j.val)) 1#32 = ![(2 * j.val + 1) % 4]
    ∧ k0_off38 (BitVec.ofNat 32 (2 * j.val)) 1#32 = ![(2 * j.val + 1) % 4, 0, 0] := by decide +kernel

theorem part2_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345)
    (hh : k0_cond10 v345 = 1#1) :
    k0_part2 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh
      = halfK (w := 512) (r := 256) a3 (k0_cond11 arg22) (k0_off31 arg22) (k0_off36 arg22 0#32) (k0_off32 arg22) (k0_off35 arg22 0#32) (k0_off38 arg22 0#32) (k0_off33 v343) (k0_off34 v343) (k0_off37 t6 t7) (fun h8 => k0_off31_inb arg22 v343 v345 hw1 hh h8) (k0_off36_inb arg22 v343 v345 hw1 hh 0) (fun h8 => k0_off32_inb arg22 v343 v345 hw1 hh h8) (k0_off35_inb arg22 v343 v345 hw1 hh 0) (k0_off38_inb arg22 v343 v345 hw1 hh 0) (k0_off33_inb arg22 v343 v345 hw1 hh) (k0_off34_inb arg22 v343 v345 hw1 hh) (k0_off37_inb t6 t7) h_S256x512 h_S256x1536 (k0_pay2 (k0_pay17 v133 v183)) (pure (Scalar.andi (Scalar.addi arg22 1#32) 3#32)) := by
  rw [k0_part2_eq_skeleton]; rfl

theorem pair2 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60)
    (arg22 : BitVec 32) (ha : arg22 = BitVec.ofNat 32 (2 * j.val)) (v343 v345 : Elt F .i32) (hw1 : k0_chk1 arg22 v343 v345)
    (hh : k0_cond10 v345 = 1#1) (b0 b1 : Blk) (hb0 : k0_off37 t6 t7 = blkOff b0) (hb1 : k0_off42 t6 t7 = blkOff b1)
    (P : sProp 𝕄) (fl : BufOf (F := F) c ltM) (fr : BufOf (F := F) c a3) (fd G : BufOf (F := F) c dwM)
    (hG0 : (dwK b0).view.read (Elt F) G = shapeCast S512x1536
      (k0_pay2 (k0_pay17 v133 v183) (View.readAt (Elt F) ltM.view (Rect.unit (s := S256x2816) (k0_off33 v343) (S256x512).size (k0_off33_inb arg22 v343 v345 hw1 hh)).toLoadRect fl)
           (View.readAt (Elt F) a3.view (Rect.unit (s := S1408x3072) (k0_off34 v343) (S256x1536).size (k0_off34_inb arg22 v343 v345 hw1 hh)).toLoadRect fr)) shapeCasts_S1x512x1536_S512x1536)
    (hG1 : (dwK b1).view.read (Elt F) G = shapeCast S512x1536
      (k0_pay20 v133 v183 (View.readAt (Elt F) ltM.view (Rect.unit (s := S256x2816) (k0_off33 v343) (S256x512).size (k0_off33_inb arg22 v343 v345 hw1 hh)).toLoadRect fl)
           (View.readAt (Elt F) a3.view (Rect.unit (s := S1408x3072) (k0_off41 v343) (S256x1536).size (k0_off41_inb arg22 v343 v345 hw1 hh)).toLoadRect fr)) shapeCasts_S1x512x1536_S512x1536)
    {α : Type} (k : Prog (TpuEff nD τ sig (Elt F) Λ₀ .tc) α) (Q : α → sProp 𝕄) :
    iprop(Ring c (2 * j.val) P ∗ own c ltM fl ∗ own c a3 fr ∗ own c (dwK b0) fd ∗ own c (dwK b1) fd ∗ (∃ W, owes (c : Thread nD τ) 0 W)
        ∗ (iprop(Ring c (2 * j.val + 2) iprop(own c (dwK b1) G ∗ own c (dwK b0) G ∗ P) ∗ own c ltM fl ∗ own c a3 fr
            ∗ (∃ W, owes (c : Thread nD τ) 0 W)) -∗ wp frame (wpE (defs₀ (F := F)) Variants.none c none) Set.univ k Q))
      ⊢ wp frame (wpE (defs₀ (F := F)) Variants.none c none) Set.univ
          (k0_part2 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
            halfK (w := 512) (r := 256) a3 (k0_cond12 arg22) (k0_off39 arg22) (k0_off36 arg22 1#32) (k0_off40 arg22) (k0_off35 arg22 1#32) (k0_off38 arg22 1#32) (k0_off33 v343) (k0_off41 v343) (k0_off42 t6 t7) (fun h8 => k0_off39_inb arg22 v343 v345 hw1 hh h8) (k0_off36_inb arg22 v343 v345 hw1 hh 1) (fun h8 => k0_off40_inb arg22 v343 v345 hw1 hh h8) (k0_off35_inb arg22 v343 v345 hw1 hh 1) (k0_off38_inb arg22 v343 v345 hw1 hh 1) (k0_off33_inb arg22 v343 v345 hw1 hh) (k0_off41_inb arg22 v343 v345 hw1 hh) (k0_off42_inb t6 t7) h_S256x512 h_S256x1536 (k0_pay20 v133 v183) k) Q := by
  subst ha
  obtain ⟨c0, c1, q1, q2, q3, q4, q5, q6, q7, q8, q9, q10⟩ := offs2 j
  rw [part2_eq, halfK_bind]
  iintro ⟨HR, Hl, Hr, Hd0, Hd1, HO, Hk⟩
  iapply (ring_half c (2 * j.val) ⟨2 * j.val % 4, by omega⟩ rfl b0 a3 _ c0 _ _ _ _ _ _ _ _ _ _ _ _ _ _ _ _ h_S256x512 h_S256x1536 _ q1 q4 q2 q3 q5 hb0 P fl fr fd G hG0)
  isplitl [HR]; · iexact HR
  isplitl [Hl]; · iexact Hl
  isplitl [Hr]; · iexact Hr
  isplitl [Hd0]; · iexact Hd0
  isplitl [HO]; · iexact HO
  iintro ⟨HR, Hl, Hr, HO⟩
  iapply (ring_half c (2 * j.val + 1) ⟨(2 * j.val + 1) % 4, by omega⟩ rfl b1 a3 _ c1 _ _ _ _ _ _ _ _ _ _ _ _ _ _ _ _ h_S256x512 h_S256x1536 _ q6 q9 q7 q8 q10 hb1 _ fl fr fd G hG1)
  isplitl [HR]; · iexact HR
  isplitl [Hl]; · iexact Hl
  isplitl [Hr]; · iexact Hr
  isplitl [Hd1]; · iexact Hd1
  isplitl [HO]; · iexact HO
  iexact Hk

theorem offs3 : ∀ j : Fin 60,
    (k0_cond14 (BitVec.ofNat 32 (2 * j.val)) = 1#1 ↔ 4 ≤ 2 * j.val)
    ∧ (k0_cond15 (BitVec.ofNat 32 (2 * j.val)) = 1#1 ↔ 4 ≤ 2 * j.val + 1)
    ∧ k0_off43 (BitVec.ofNat 32 (2 * j.val)) = ![2 * j.val % 4]
    ∧ k0_off44 (BitVec.ofNat 32 (2 * j.val)) = ![2 * j.val % 4, 0, 0]
    ∧ k0_off47 (BitVec.ofNat 32 (2 * j.val)) 0#32 = ![2 * j.val % 4, 0, 0]
    ∧ k0_off48 (BitVec.ofNat 32 (2 * j.val)) 0#32 = ![2 * j.val % 4]
    ∧ k0_off50 (BitVec.ofNat 32 (2 * j.val)) 0#32 = ![2 * j.val % 4, 0, 0]
    ∧ k0_off51 (BitVec.ofNat 32 (2 * j.val)) = ![(2 * j.val + 1) % 4]
    ∧ k0_off52 (BitVec.ofNat 32 (2 * j.val)) = ![(2 * j.val + 1) % 4, 0, 0]
    ∧ k0_off47 (BitVec.ofNat 32 (2 * j.val)) 1#32 = ![(2 * j.val + 1) % 4, 0, 0]
    ∧ k0_off48 (BitVec.ofNat 32 (2 * j.val)) 1#32 = ![(2 * j.val + 1) % 4]
    ∧ k0_off50 (BitVec.ofNat 32 (2 * j.val)) 1#32 = ![(2 * j.val + 1) % 4, 0, 0] := by decide +kernel

theorem part3_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345)
    (hh : k0_cond13 v345 = 1#1) :
    k0_part3 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh
      = halfK (w := 768) (r := 384) a3 (k0_cond14 arg22) (k0_off43 arg22) (k0_off48 arg22 0#32) (k0_off44 arg22) (k0_off47 arg22 0#32) (k0_off50 arg22 0#32) (k0_off45 v343) (k0_off46 v343) (k0_off49 t6 t7) (fun h8 => k0_off43_inb arg22 v343 v345 hw1 hh h8) (k0_off48_inb arg22 v343 v345 hw1 hh 0) (fun h8 => k0_off44_inb arg22 v343 v345 hw1 hh h8) (k0_off47_inb arg22 v343 v345 hw1 hh 0) (k0_off50_inb arg22 v343 v345 hw1 hh 0) (k0_off45_inb arg22 v343 v345 hw1 hh) (k0_off46_inb arg22 v343 v345 hw1 hh) (k0_off49_inb t6 t7) h_S256x768 h_S384x1536 (k0_pay3 (k0_pay17 v133 v183)) (pure (Scalar.andi (Scalar.addi arg22 1#32) 3#32)) := by
  rw [k0_part3_eq_skeleton]; rfl

theorem pair3 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60)
    (arg22 : BitVec 32) (ha : arg22 = BitVec.ofNat 32 (2 * j.val)) (v343 v345 : Elt F .i32) (hw1 : k0_chk1 arg22 v343 v345)
    (hh : k0_cond13 v345 = 1#1) (b0 b1 : Blk) (hb0 : k0_off49 t6 t7 = blkOff b0) (hb1 : k0_off54 t6 t7 = blkOff b1)
    (P : sProp 𝕄) (fl : BufOf (F := F) c ltM) (fr : BufOf (F := F) c a3) (fd G : BufOf (F := F) c dwM)
    (hG0 : (dwK b0).view.read (Elt F) G = shapeCast S512x1536
      (k0_pay3 (k0_pay17 v133 v183) (View.readAt (Elt F) ltM.view (Rect.unit (s := S256x2816) (k0_off45 v343) (S256x768).size (k0_off45_inb arg22 v343 v345 hw1 hh)).toLoadRect fl)
           (View.readAt (Elt F) a3.view (Rect.unit (s := S1408x3072) (k0_off46 v343) (S384x1536).size (k0_off46_inb arg22 v343 v345 hw1 hh)).toLoadRect fr)) shapeCasts_S1x512x1536_S512x1536)
    (hG1 : (dwK b1).view.read (Elt F) G = shapeCast S512x1536
      (k0_pay21 v133 v183 (View.readAt (Elt F) ltM.view (Rect.unit (s := S256x2816) (k0_off45 v343) (S256x768).size (k0_off45_inb arg22 v343 v345 hw1 hh)).toLoadRect fl)
           (View.readAt (Elt F) a3.view (Rect.unit (s := S1408x3072) (k0_off53 v343) (S384x1536).size (k0_off53_inb arg22 v343 v345 hw1 hh)).toLoadRect fr)) shapeCasts_S1x512x1536_S512x1536)
    {α : Type} (k : Prog (TpuEff nD τ sig (Elt F) Λ₀ .tc) α) (Q : α → sProp 𝕄) :
    iprop(Ring c (2 * j.val) P ∗ own c ltM fl ∗ own c a3 fr ∗ own c (dwK b0) fd ∗ own c (dwK b1) fd ∗ (∃ W, owes (c : Thread nD τ) 0 W)
        ∗ (iprop(Ring c (2 * j.val + 2) iprop(own c (dwK b1) G ∗ own c (dwK b0) G ∗ P) ∗ own c ltM fl ∗ own c a3 fr
            ∗ (∃ W, owes (c : Thread nD τ) 0 W)) -∗ wp frame (wpE (defs₀ (F := F)) Variants.none c none) Set.univ k Q))
      ⊢ wp frame (wpE (defs₀ (F := F)) Variants.none c none) Set.univ
          (k0_part3 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
            halfK (w := 768) (r := 384) a3 (k0_cond15 arg22) (k0_off51 arg22) (k0_off48 arg22 1#32) (k0_off52 arg22) (k0_off47 arg22 1#32) (k0_off50 arg22 1#32) (k0_off45 v343) (k0_off53 v343) (k0_off54 t6 t7) (fun h8 => k0_off51_inb arg22 v343 v345 hw1 hh h8) (k0_off48_inb arg22 v343 v345 hw1 hh 1) (fun h8 => k0_off52_inb arg22 v343 v345 hw1 hh h8) (k0_off47_inb arg22 v343 v345 hw1 hh 1) (k0_off50_inb arg22 v343 v345 hw1 hh 1) (k0_off45_inb arg22 v343 v345 hw1 hh) (k0_off53_inb arg22 v343 v345 hw1 hh) (k0_off54_inb t6 t7) h_S256x768 h_S384x1536 (k0_pay21 v133 v183) k) Q := by
  subst ha
  obtain ⟨c0, c1, q1, q2, q3, q4, q5, q6, q7, q8, q9, q10⟩ := offs3 j
  rw [part3_eq, halfK_bind]
  iintro ⟨HR, Hl, Hr, Hd0, Hd1, HO, Hk⟩
  iapply (ring_half c (2 * j.val) ⟨2 * j.val % 4, by omega⟩ rfl b0 a3 _ c0 _ _ _ _ _ _ _ _ _ _ _ _ _ _ _ _ h_S256x768 h_S384x1536 _ q1 q4 q2 q3 q5 hb0 P fl fr fd G hG0)
  isplitl [HR]; · iexact HR
  isplitl [Hl]; · iexact Hl
  isplitl [Hr]; · iexact Hr
  isplitl [Hd0]; · iexact Hd0
  isplitl [HO]; · iexact HO
  iintro ⟨HR, Hl, Hr, HO⟩
  iapply (ring_half c (2 * j.val + 1) ⟨(2 * j.val + 1) % 4, by omega⟩ rfl b1 a3 _ c1 _ _ _ _ _ _ _ _ _ _ _ _ _ _ _ _ h_S256x768 h_S384x1536 _ q6 q9 q7 q8 q10 hb1 _ fl fr fd G hG1)
  isplitl [HR]; · iexact HR
  isplitl [Hl]; · iexact Hl
  isplitl [Hr]; · iexact Hr
  isplitl [Hd1]; · iexact Hd1
  isplitl [HO]; · iexact HO
  iexact Hk

theorem offs4 : ∀ j : Fin 60,
    (k0_cond17 (BitVec.ofNat 32 (2 * j.val)) = 1#1 ↔ 4 ≤ 2 * j.val)
    ∧ (k0_cond18 (BitVec.ofNat 32 (2 * j.val)) = 1#1 ↔ 4 ≤ 2 * j.val + 1)
    ∧ k0_off55 (BitVec.ofNat 32 (2 * j.val)) = ![2 * j.val % 4]
    ∧ k0_off56 (BitVec.ofNat 32 (2 * j.val)) = ![2 * j.val % 4, 0, 0]
    ∧ k0_off59 (BitVec.ofNat 32 (2 * j.val)) 0#32 = ![2 * j.val % 4, 0, 0]
    ∧ k0_off60 (BitVec.ofNat 32 (2 * j.val)) 0#32 = ![2 * j.val % 4]
    ∧ k0_off62 (BitVec.ofNat 32 (2 * j.val)) 0#32 = ![2 * j.val % 4, 0, 0]
    ∧ k0_off63 (BitVec.ofNat 32 (2 * j.val)) = ![(2 * j.val + 1) % 4]
    ∧ k0_off64 (BitVec.ofNat 32 (2 * j.val)) = ![(2 * j.val + 1) % 4, 0, 0]
    ∧ k0_off59 (BitVec.ofNat 32 (2 * j.val)) 1#32 = ![(2 * j.val + 1) % 4, 0, 0]
    ∧ k0_off60 (BitVec.ofNat 32 (2 * j.val)) 1#32 = ![(2 * j.val + 1) % 4]
    ∧ k0_off62 (BitVec.ofNat 32 (2 * j.val)) 1#32 = ![(2 * j.val + 1) % 4, 0, 0] := by decide +kernel

theorem part4_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345)
    (hh : k0_cond16 v345 = 1#1) :
    k0_part4 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh
      = halfK (w := 1024) (r := 512) a3 (k0_cond17 arg22) (k0_off55 arg22) (k0_off60 arg22 0#32) (k0_off56 arg22) (k0_off59 arg22 0#32) (k0_off62 arg22 0#32) (k0_off57 v343) (k0_off58 v343) (k0_off61 t6 t7) (fun h8 => k0_off55_inb arg22 v343 v345 hw1 hh h8) (k0_off60_inb arg22 v343 v345 hw1 hh 0) (fun h8 => k0_off56_inb arg22 v343 v345 hw1 hh h8) (k0_off59_inb arg22 v343 v345 hw1 hh 0) (k0_off62_inb arg22 v343 v345 hw1 hh 0) (k0_off57_inb arg22 v343 v345 hw1 hh) (k0_off58_inb arg22 v343 v345 hw1 hh) (k0_off61_inb t6 t7) h_S256x1024 h_S512x1536 (k0_pay4 (k0_pay17 v133 v183)) (pure (Scalar.andi (Scalar.addi arg22 1#32) 3#32)) := by
  rw [k0_part4_eq_skeleton]; rfl

theorem pair4 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60)
    (arg22 : BitVec 32) (ha : arg22 = BitVec.ofNat 32 (2 * j.val)) (v343 v345 : Elt F .i32) (hw1 : k0_chk1 arg22 v343 v345)
    (hh : k0_cond16 v345 = 1#1) (b0 b1 : Blk) (hb0 : k0_off61 t6 t7 = blkOff b0) (hb1 : k0_off66 t6 t7 = blkOff b1)
    (P : sProp 𝕄) (fl : BufOf (F := F) c ltM) (fr : BufOf (F := F) c a3) (fd G : BufOf (F := F) c dwM)
    (hG0 : (dwK b0).view.read (Elt F) G = shapeCast S512x1536
      (k0_pay4 (k0_pay17 v133 v183) (View.readAt (Elt F) ltM.view (Rect.unit (s := S256x2816) (k0_off57 v343) (S256x1024).size (k0_off57_inb arg22 v343 v345 hw1 hh)).toLoadRect fl)
           (View.readAt (Elt F) a3.view (Rect.unit (s := S1408x3072) (k0_off58 v343) (S512x1536).size (k0_off58_inb arg22 v343 v345 hw1 hh)).toLoadRect fr)) shapeCasts_S1x512x1536_S512x1536)
    (hG1 : (dwK b1).view.read (Elt F) G = shapeCast S512x1536
      (k0_pay22 v133 v183 (View.readAt (Elt F) ltM.view (Rect.unit (s := S256x2816) (k0_off57 v343) (S256x1024).size (k0_off57_inb arg22 v343 v345 hw1 hh)).toLoadRect fl)
           (View.readAt (Elt F) a3.view (Rect.unit (s := S1408x3072) (k0_off65 v343) (S512x1536).size (k0_off65_inb arg22 v343 v345 hw1 hh)).toLoadRect fr)) shapeCasts_S1x512x1536_S512x1536)
    {α : Type} (k : Prog (TpuEff nD τ sig (Elt F) Λ₀ .tc) α) (Q : α → sProp 𝕄) :
    iprop(Ring c (2 * j.val) P ∗ own c ltM fl ∗ own c a3 fr ∗ own c (dwK b0) fd ∗ own c (dwK b1) fd ∗ (∃ W, owes (c : Thread nD τ) 0 W)
        ∗ (iprop(Ring c (2 * j.val + 2) iprop(own c (dwK b1) G ∗ own c (dwK b0) G ∗ P) ∗ own c ltM fl ∗ own c a3 fr
            ∗ (∃ W, owes (c : Thread nD τ) 0 W)) -∗ wp frame (wpE (defs₀ (F := F)) Variants.none c none) Set.univ k Q))
      ⊢ wp frame (wpE (defs₀ (F := F)) Variants.none c none) Set.univ
          (k0_part4 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
            halfK (w := 1024) (r := 512) a3 (k0_cond18 arg22) (k0_off63 arg22) (k0_off60 arg22 1#32) (k0_off64 arg22) (k0_off59 arg22 1#32) (k0_off62 arg22 1#32) (k0_off57 v343) (k0_off65 v343) (k0_off66 t6 t7) (fun h8 => k0_off63_inb arg22 v343 v345 hw1 hh h8) (k0_off60_inb arg22 v343 v345 hw1 hh 1) (fun h8 => k0_off64_inb arg22 v343 v345 hw1 hh h8) (k0_off59_inb arg22 v343 v345 hw1 hh 1) (k0_off62_inb arg22 v343 v345 hw1 hh 1) (k0_off57_inb arg22 v343 v345 hw1 hh) (k0_off65_inb arg22 v343 v345 hw1 hh) (k0_off66_inb t6 t7) h_S256x1024 h_S512x1536 (k0_pay22 v133 v183) k) Q := by
  subst ha
  obtain ⟨c0, c1, q1, q2, q3, q4, q5, q6, q7, q8, q9, q10⟩ := offs4 j
  rw [part4_eq, halfK_bind]
  iintro ⟨HR, Hl, Hr, Hd0, Hd1, HO, Hk⟩
  iapply (ring_half c (2 * j.val) ⟨2 * j.val % 4, by omega⟩ rfl b0 a3 _ c0 _ _ _ _ _ _ _ _ _ _ _ _ _ _ _ _ h_S256x1024 h_S512x1536 _ q1 q4 q2 q3 q5 hb0 P fl fr fd G hG0)
  isplitl [HR]; · iexact HR
  isplitl [Hl]; · iexact Hl
  isplitl [Hr]; · iexact Hr
  isplitl [Hd0]; · iexact Hd0
  isplitl [HO]; · iexact HO
  iintro ⟨HR, Hl, Hr, HO⟩
  iapply (ring_half c (2 * j.val + 1) ⟨(2 * j.val + 1) % 4, by omega⟩ rfl b1 a3 _ c1 _ _ _ _ _ _ _ _ _ _ _ _ _ _ _ _ h_S256x1024 h_S512x1536 _ q6 q9 q7 q8 q10 hb1 _ fl fr fd G hG1)
  isplitl [HR]; · iexact HR
  isplitl [Hl]; · iexact Hl
  isplitl [Hr]; · iexact Hr
  isplitl [Hd1]; · iexact Hd1
  isplitl [HO]; · iexact HO
  iexact Hk

theorem offs5 : ∀ j : Fin 60,
    (k0_cond20 (BitVec.ofNat 32 (2 * j.val)) = 1#1 ↔ 4 ≤ 2 * j.val)
    ∧ (k0_cond21 (BitVec.ofNat 32 (2 * j.val)) = 1#1 ↔ 4 ≤ 2 * j.val + 1)
    ∧ k0_off67 (BitVec.ofNat 32 (2 * j.val)) = ![2 * j.val % 4]
    ∧ k0_off68 (BitVec.ofNat 32 (2 * j.val)) = ![2 * j.val % 4, 0, 0]
    ∧ k0_off71 (BitVec.ofNat 32 (2 * j.val)) 0#32 = ![2 * j.val % 4, 0, 0]
    ∧ k0_off72 (BitVec.ofNat 32 (2 * j.val)) 0#32 = ![2 * j.val % 4]
    ∧ k0_off74 (BitVec.ofNat 32 (2 * j.val)) 0#32 = ![2 * j.val % 4, 0, 0]
    ∧ k0_off75 (BitVec.ofNat 32 (2 * j.val)) = ![(2 * j.val + 1) % 4]
    ∧ k0_off76 (BitVec.ofNat 32 (2 * j.val)) = ![(2 * j.val + 1) % 4, 0, 0]
    ∧ k0_off71 (BitVec.ofNat 32 (2 * j.val)) 1#32 = ![(2 * j.val + 1) % 4, 0, 0]
    ∧ k0_off72 (BitVec.ofNat 32 (2 * j.val)) 1#32 = ![(2 * j.val + 1) % 4]
    ∧ k0_off74 (BitVec.ofNat 32 (2 * j.val)) 1#32 = ![(2 * j.val + 1) % 4, 0, 0] := by decide +kernel

theorem part5_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345)
    (hh : k0_cond19 v345 = 1#1) :
    k0_part5 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh
      = halfK (w := 1280) (r := 640) a3 (k0_cond20 arg22) (k0_off67 arg22) (k0_off72 arg22 0#32) (k0_off68 arg22) (k0_off71 arg22 0#32) (k0_off74 arg22 0#32) (k0_off69 v343) (k0_off70 v343) (k0_off73 t6 t7) (fun h8 => k0_off67_inb arg22 v343 v345 hw1 hh h8) (k0_off72_inb arg22 v343 v345 hw1 hh 0) (fun h8 => k0_off68_inb arg22 v343 v345 hw1 hh h8) (k0_off71_inb arg22 v343 v345 hw1 hh 0) (k0_off74_inb arg22 v343 v345 hw1 hh 0) (k0_off69_inb arg22 v343 v345 hw1 hh) (k0_off70_inb arg22 v343 v345 hw1 hh) (k0_off73_inb t6 t7) h_S256x1280 h_S640x1536 (k0_pay5 (k0_pay17 v133 v183)) (pure (Scalar.andi (Scalar.addi arg22 1#32) 3#32)) := by
  rw [k0_part5_eq_skeleton]; rfl

theorem pair5 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60)
    (arg22 : BitVec 32) (ha : arg22 = BitVec.ofNat 32 (2 * j.val)) (v343 v345 : Elt F .i32) (hw1 : k0_chk1 arg22 v343 v345)
    (hh : k0_cond19 v345 = 1#1) (b0 b1 : Blk) (hb0 : k0_off73 t6 t7 = blkOff b0) (hb1 : k0_off78 t6 t7 = blkOff b1)
    (P : sProp 𝕄) (fl : BufOf (F := F) c ltM) (fr : BufOf (F := F) c a3) (fd G : BufOf (F := F) c dwM)
    (hG0 : (dwK b0).view.read (Elt F) G = shapeCast S512x1536
      (k0_pay5 (k0_pay17 v133 v183) (View.readAt (Elt F) ltM.view (Rect.unit (s := S256x2816) (k0_off69 v343) (S256x1280).size (k0_off69_inb arg22 v343 v345 hw1 hh)).toLoadRect fl)
           (View.readAt (Elt F) a3.view (Rect.unit (s := S1408x3072) (k0_off70 v343) (S640x1536).size (k0_off70_inb arg22 v343 v345 hw1 hh)).toLoadRect fr)) shapeCasts_S1x512x1536_S512x1536)
    (hG1 : (dwK b1).view.read (Elt F) G = shapeCast S512x1536
      (k0_pay23 v133 v183 (View.readAt (Elt F) ltM.view (Rect.unit (s := S256x2816) (k0_off69 v343) (S256x1280).size (k0_off69_inb arg22 v343 v345 hw1 hh)).toLoadRect fl)
           (View.readAt (Elt F) a3.view (Rect.unit (s := S1408x3072) (k0_off77 v343) (S640x1536).size (k0_off77_inb arg22 v343 v345 hw1 hh)).toLoadRect fr)) shapeCasts_S1x512x1536_S512x1536)
    {α : Type} (k : Prog (TpuEff nD τ sig (Elt F) Λ₀ .tc) α) (Q : α → sProp 𝕄) :
    iprop(Ring c (2 * j.val) P ∗ own c ltM fl ∗ own c a3 fr ∗ own c (dwK b0) fd ∗ own c (dwK b1) fd ∗ (∃ W, owes (c : Thread nD τ) 0 W)
        ∗ (iprop(Ring c (2 * j.val + 2) iprop(own c (dwK b1) G ∗ own c (dwK b0) G ∗ P) ∗ own c ltM fl ∗ own c a3 fr
            ∗ (∃ W, owes (c : Thread nD τ) 0 W)) -∗ wp frame (wpE (defs₀ (F := F)) Variants.none c none) Set.univ k Q))
      ⊢ wp frame (wpE (defs₀ (F := F)) Variants.none c none) Set.univ
          (k0_part5 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
            halfK (w := 1280) (r := 640) a3 (k0_cond21 arg22) (k0_off75 arg22) (k0_off72 arg22 1#32) (k0_off76 arg22) (k0_off71 arg22 1#32) (k0_off74 arg22 1#32) (k0_off69 v343) (k0_off77 v343) (k0_off78 t6 t7) (fun h8 => k0_off75_inb arg22 v343 v345 hw1 hh h8) (k0_off72_inb arg22 v343 v345 hw1 hh 1) (fun h8 => k0_off76_inb arg22 v343 v345 hw1 hh h8) (k0_off71_inb arg22 v343 v345 hw1 hh 1) (k0_off74_inb arg22 v343 v345 hw1 hh 1) (k0_off69_inb arg22 v343 v345 hw1 hh) (k0_off77_inb arg22 v343 v345 hw1 hh) (k0_off78_inb t6 t7) h_S256x1280 h_S640x1536 (k0_pay23 v133 v183) k) Q := by
  subst ha
  obtain ⟨c0, c1, q1, q2, q3, q4, q5, q6, q7, q8, q9, q10⟩ := offs5 j
  rw [part5_eq, halfK_bind]
  iintro ⟨HR, Hl, Hr, Hd0, Hd1, HO, Hk⟩
  iapply (ring_half c (2 * j.val) ⟨2 * j.val % 4, by omega⟩ rfl b0 a3 _ c0 _ _ _ _ _ _ _ _ _ _ _ _ _ _ _ _ h_S256x1280 h_S640x1536 _ q1 q4 q2 q3 q5 hb0 P fl fr fd G hG0)
  isplitl [HR]; · iexact HR
  isplitl [Hl]; · iexact Hl
  isplitl [Hr]; · iexact Hr
  isplitl [Hd0]; · iexact Hd0
  isplitl [HO]; · iexact HO
  iintro ⟨HR, Hl, Hr, HO⟩
  iapply (ring_half c (2 * j.val + 1) ⟨(2 * j.val + 1) % 4, by omega⟩ rfl b1 a3 _ c1 _ _ _ _ _ _ _ _ _ _ _ _ _ _ _ _ h_S256x1280 h_S640x1536 _ q6 q9 q7 q8 q10 hb1 _ fl fr fd G hG1)
  isplitl [HR]; · iexact HR
  isplitl [Hl]; · iexact Hl
  isplitl [Hr]; · iexact Hr
  isplitl [Hd1]; · iexact Hd1
  isplitl [HO]; · iexact HO
  iexact Hk

theorem offs6 : ∀ j : Fin 60,
    (k0_cond23 (BitVec.ofNat 32 (2 * j.val)) = 1#1 ↔ 4 ≤ 2 * j.val)
    ∧ (k0_cond24 (BitVec.ofNat 32 (2 * j.val)) = 1#1 ↔ 4 ≤ 2 * j.val + 1)
    ∧ k0_off79 (BitVec.ofNat 32 (2 * j.val)) = ![2 * j.val % 4]
    ∧ k0_off80 (BitVec.ofNat 32 (2 * j.val)) = ![2 * j.val % 4, 0, 0]
    ∧ k0_off83 (BitVec.ofNat 32 (2 * j.val)) 0#32 = ![2 * j.val % 4, 0, 0]
    ∧ k0_off84 (BitVec.ofNat 32 (2 * j.val)) 0#32 = ![2 * j.val % 4]
    ∧ k0_off86 (BitVec.ofNat 32 (2 * j.val)) 0#32 = ![2 * j.val % 4, 0, 0]
    ∧ k0_off87 (BitVec.ofNat 32 (2 * j.val)) = ![(2 * j.val + 1) % 4]
    ∧ k0_off88 (BitVec.ofNat 32 (2 * j.val)) = ![(2 * j.val + 1) % 4, 0, 0]
    ∧ k0_off83 (BitVec.ofNat 32 (2 * j.val)) 1#32 = ![(2 * j.val + 1) % 4, 0, 0]
    ∧ k0_off84 (BitVec.ofNat 32 (2 * j.val)) 1#32 = ![(2 * j.val + 1) % 4]
    ∧ k0_off86 (BitVec.ofNat 32 (2 * j.val)) 1#32 = ![(2 * j.val + 1) % 4, 0, 0] := by decide +kernel

theorem part6_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345)
    (hh : k0_cond22 v345 = 1#1) :
    k0_part6 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh
      = halfK (w := 1536) (r := 768) a3 (k0_cond23 arg22) (k0_off79 arg22) (k0_off84 arg22 0#32) (k0_off80 arg22) (k0_off83 arg22 0#32) (k0_off86 arg22 0#32) (k0_off81 v343) (k0_off82 v343) (k0_off85 t6 t7) (fun h8 => k0_off79_inb arg22 v343 v345 hw1 hh h8) (k0_off84_inb arg22 v343 v345 hw1 hh 0) (fun h8 => k0_off80_inb arg22 v343 v345 hw1 hh h8) (k0_off83_inb arg22 v343 v345 hw1 hh 0) (k0_off86_inb arg22 v343 v345 hw1 hh 0) (k0_off81_inb arg22 v343 v345 hw1 hh) (k0_off82_inb arg22 v343 v345 hw1 hh) (k0_off85_inb t6 t7) h_S256x1536 h_S768x1536 (k0_pay6 (k0_pay17 v133 v183)) (pure (Scalar.andi (Scalar.addi arg22 1#32) 3#32)) := by
  rw [k0_part6_eq_skeleton]; rfl

theorem pair6 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60)
    (arg22 : BitVec 32) (ha : arg22 = BitVec.ofNat 32 (2 * j.val)) (v343 v345 : Elt F .i32) (hw1 : k0_chk1 arg22 v343 v345)
    (hh : k0_cond22 v345 = 1#1) (b0 b1 : Blk) (hb0 : k0_off85 t6 t7 = blkOff b0) (hb1 : k0_off90 t6 t7 = blkOff b1)
    (P : sProp 𝕄) (fl : BufOf (F := F) c ltM) (fr : BufOf (F := F) c a3) (fd G : BufOf (F := F) c dwM)
    (hG0 : (dwK b0).view.read (Elt F) G = shapeCast S512x1536
      (k0_pay6 (k0_pay17 v133 v183) (View.readAt (Elt F) ltM.view (Rect.unit (s := S256x2816) (k0_off81 v343) (S256x1536).size (k0_off81_inb arg22 v343 v345 hw1 hh)).toLoadRect fl)
           (View.readAt (Elt F) a3.view (Rect.unit (s := S1408x3072) (k0_off82 v343) (S768x1536).size (k0_off82_inb arg22 v343 v345 hw1 hh)).toLoadRect fr)) shapeCasts_S1x512x1536_S512x1536)
    (hG1 : (dwK b1).view.read (Elt F) G = shapeCast S512x1536
      (k0_pay24 v133 v183 (View.readAt (Elt F) ltM.view (Rect.unit (s := S256x2816) (k0_off81 v343) (S256x1536).size (k0_off81_inb arg22 v343 v345 hw1 hh)).toLoadRect fl)
           (View.readAt (Elt F) a3.view (Rect.unit (s := S1408x3072) (k0_off89 v343) (S768x1536).size (k0_off89_inb arg22 v343 v345 hw1 hh)).toLoadRect fr)) shapeCasts_S1x512x1536_S512x1536)
    {α : Type} (k : Prog (TpuEff nD τ sig (Elt F) Λ₀ .tc) α) (Q : α → sProp 𝕄) :
    iprop(Ring c (2 * j.val) P ∗ own c ltM fl ∗ own c a3 fr ∗ own c (dwK b0) fd ∗ own c (dwK b1) fd ∗ (∃ W, owes (c : Thread nD τ) 0 W)
        ∗ (iprop(Ring c (2 * j.val + 2) iprop(own c (dwK b1) G ∗ own c (dwK b0) G ∗ P) ∗ own c ltM fl ∗ own c a3 fr
            ∗ (∃ W, owes (c : Thread nD τ) 0 W)) -∗ wp frame (wpE (defs₀ (F := F)) Variants.none c none) Set.univ k Q))
      ⊢ wp frame (wpE (defs₀ (F := F)) Variants.none c none) Set.univ
          (k0_part6 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
            halfK (w := 1536) (r := 768) a3 (k0_cond24 arg22) (k0_off87 arg22) (k0_off84 arg22 1#32) (k0_off88 arg22) (k0_off83 arg22 1#32) (k0_off86 arg22 1#32) (k0_off81 v343) (k0_off89 v343) (k0_off90 t6 t7) (fun h8 => k0_off87_inb arg22 v343 v345 hw1 hh h8) (k0_off84_inb arg22 v343 v345 hw1 hh 1) (fun h8 => k0_off88_inb arg22 v343 v345 hw1 hh h8) (k0_off83_inb arg22 v343 v345 hw1 hh 1) (k0_off86_inb arg22 v343 v345 hw1 hh 1) (k0_off81_inb arg22 v343 v345 hw1 hh) (k0_off89_inb arg22 v343 v345 hw1 hh) (k0_off90_inb t6 t7) h_S256x1536 h_S768x1536 (k0_pay24 v133 v183) k) Q := by
  subst ha
  obtain ⟨c0, c1, q1, q2, q3, q4, q5, q6, q7, q8, q9, q10⟩ := offs6 j
  rw [part6_eq, halfK_bind]
  iintro ⟨HR, Hl, Hr, Hd0, Hd1, HO, Hk⟩
  iapply (ring_half c (2 * j.val) ⟨2 * j.val % 4, by omega⟩ rfl b0 a3 _ c0 _ _ _ _ _ _ _ _ _ _ _ _ _ _ _ _ h_S256x1536 h_S768x1536 _ q1 q4 q2 q3 q5 hb0 P fl fr fd G hG0)
  isplitl [HR]; · iexact HR
  isplitl [Hl]; · iexact Hl
  isplitl [Hr]; · iexact Hr
  isplitl [Hd0]; · iexact Hd0
  isplitl [HO]; · iexact HO
  iintro ⟨HR, Hl, Hr, HO⟩
  iapply (ring_half c (2 * j.val + 1) ⟨(2 * j.val + 1) % 4, by omega⟩ rfl b1 a3 _ c1 _ _ _ _ _ _ _ _ _ _ _ _ _ _ _ _ h_S256x1536 h_S768x1536 _ q6 q9 q7 q8 q10 hb1 _ fl fr fd G hG1)
  isplitl [HR]; · iexact HR
  isplitl [Hl]; · iexact Hl
  isplitl [Hr]; · iexact Hr
  isplitl [Hd1]; · iexact Hd1
  isplitl [HO]; · iexact HO
  iexact Hk

end Cert.Kernel.Pf

end
-- ==== Proof.T7.lean ====
/- One expert's trip in a chunk: at most one of the six tile counts applies. -/
module

public import proofs.«01_k».proof.Proof.Pair

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

def tail7
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345) : Prog (TpuEff nD τ sig (Elt F) Λ₀ .tc) (BitVec 32) :=
  pure (Scalar.addi arg22 (Scalar.select (Scalar.cmpi .sgt v345 0#32) 2#32 0#32))

def tail6
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345) : Prog (TpuEff nD τ sig (Elt F) Λ₀ .tc) (BitVec 32) :=
  if hh : k0_cond22 v345 = 1#1 then
    k0_part6 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
      halfK (w := 1536) (r := 768) a3 (k0_cond24 arg22) (k0_off87 arg22) (k0_off84 arg22 1#32) (k0_off88 arg22) (k0_off83 arg22 1#32) (k0_off86 arg22 1#32) (k0_off81 v343) (k0_off89 v343) (k0_off90 t6 t7) (fun h8 => k0_off87_inb arg22 v343 v345 hw1 hh h8) (k0_off84_inb arg22 v343 v345 hw1 hh 1) (fun h8 => k0_off88_inb arg22 v343 v345 hw1 hh h8) (k0_off83_inb arg22 v343 v345 hw1 hh 1) (k0_off86_inb arg22 v343 v345 hw1 hh 1) (k0_off81_inb arg22 v343 v345 hw1 hh) (k0_off89_inb arg22 v343 v345 hw1 hh) (k0_off90_inb t6 t7) h_S256x1536 h_S768x1536 (k0_pay24 v133 v183) (tail7 a0 h0 a1 h1 a2 h2 a3 h3 a6 h6 a7 h7 a8 h8 a9 h9 v133 v183 t6 arg19 t7 arg22 v343 v345 hw1)
  else tail7 a0 h0 a1 h1 a2 h2 a3 h3 a6 h6 a7 h7 a8 h8 a9 h9 v133 v183 t6 arg19 t7 arg22 v343 v345 hw1

def tail5
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345) : Prog (TpuEff nD τ sig (Elt F) Λ₀ .tc) (BitVec 32) :=
  if hh : k0_cond19 v345 = 1#1 then
    k0_part5 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
      halfK (w := 1280) (r := 640) a3 (k0_cond21 arg22) (k0_off75 arg22) (k0_off72 arg22 1#32) (k0_off76 arg22) (k0_off71 arg22 1#32) (k0_off74 arg22 1#32) (k0_off69 v343) (k0_off77 v343) (k0_off78 t6 t7) (fun h8 => k0_off75_inb arg22 v343 v345 hw1 hh h8) (k0_off72_inb arg22 v343 v345 hw1 hh 1) (fun h8 => k0_off76_inb arg22 v343 v345 hw1 hh h8) (k0_off71_inb arg22 v343 v345 hw1 hh 1) (k0_off74_inb arg22 v343 v345 hw1 hh 1) (k0_off69_inb arg22 v343 v345 hw1 hh) (k0_off77_inb arg22 v343 v345 hw1 hh) (k0_off78_inb t6 t7) h_S256x1280 h_S640x1536 (k0_pay23 v133 v183) (tail6 a0 h0 a1 h1 a2 h2 a3 h3 a6 h6 a7 h7 a8 h8 a9 h9 v133 v183 t6 arg19 t7 arg22 v343 v345 hw1)
  else tail6 a0 h0 a1 h1 a2 h2 a3 h3 a6 h6 a7 h7 a8 h8 a9 h9 v133 v183 t6 arg19 t7 arg22 v343 v345 hw1

def tail4
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345) : Prog (TpuEff nD τ sig (Elt F) Λ₀ .tc) (BitVec 32) :=
  if hh : k0_cond16 v345 = 1#1 then
    k0_part4 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
      halfK (w := 1024) (r := 512) a3 (k0_cond18 arg22) (k0_off63 arg22) (k0_off60 arg22 1#32) (k0_off64 arg22) (k0_off59 arg22 1#32) (k0_off62 arg22 1#32) (k0_off57 v343) (k0_off65 v343) (k0_off66 t6 t7) (fun h8 => k0_off63_inb arg22 v343 v345 hw1 hh h8) (k0_off60_inb arg22 v343 v345 hw1 hh 1) (fun h8 => k0_off64_inb arg22 v343 v345 hw1 hh h8) (k0_off59_inb arg22 v343 v345 hw1 hh 1) (k0_off62_inb arg22 v343 v345 hw1 hh 1) (k0_off57_inb arg22 v343 v345 hw1 hh) (k0_off65_inb arg22 v343 v345 hw1 hh) (k0_off66_inb t6 t7) h_S256x1024 h_S512x1536 (k0_pay22 v133 v183) (tail5 a0 h0 a1 h1 a2 h2 a3 h3 a6 h6 a7 h7 a8 h8 a9 h9 v133 v183 t6 arg19 t7 arg22 v343 v345 hw1)
  else tail5 a0 h0 a1 h1 a2 h2 a3 h3 a6 h6 a7 h7 a8 h8 a9 h9 v133 v183 t6 arg19 t7 arg22 v343 v345 hw1

def tail3
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345) : Prog (TpuEff nD τ sig (Elt F) Λ₀ .tc) (BitVec 32) :=
  if hh : k0_cond13 v345 = 1#1 then
    k0_part3 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
      halfK (w := 768) (r := 384) a3 (k0_cond15 arg22) (k0_off51 arg22) (k0_off48 arg22 1#32) (k0_off52 arg22) (k0_off47 arg22 1#32) (k0_off50 arg22 1#32) (k0_off45 v343) (k0_off53 v343) (k0_off54 t6 t7) (fun h8 => k0_off51_inb arg22 v343 v345 hw1 hh h8) (k0_off48_inb arg22 v343 v345 hw1 hh 1) (fun h8 => k0_off52_inb arg22 v343 v345 hw1 hh h8) (k0_off47_inb arg22 v343 v345 hw1 hh 1) (k0_off50_inb arg22 v343 v345 hw1 hh 1) (k0_off45_inb arg22 v343 v345 hw1 hh) (k0_off53_inb arg22 v343 v345 hw1 hh) (k0_off54_inb t6 t7) h_S256x768 h_S384x1536 (k0_pay21 v133 v183) (tail4 a0 h0 a1 h1 a2 h2 a3 h3 a6 h6 a7 h7 a8 h8 a9 h9 v133 v183 t6 arg19 t7 arg22 v343 v345 hw1)
  else tail4 a0 h0 a1 h1 a2 h2 a3 h3 a6 h6 a7 h7 a8 h8 a9 h9 v133 v183 t6 arg19 t7 arg22 v343 v345 hw1

def tail2
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345) : Prog (TpuEff nD τ sig (Elt F) Λ₀ .tc) (BitVec 32) :=
  if hh : k0_cond10 v345 = 1#1 then
    k0_part2 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
      halfK (w := 512) (r := 256) a3 (k0_cond12 arg22) (k0_off39 arg22) (k0_off36 arg22 1#32) (k0_off40 arg22) (k0_off35 arg22 1#32) (k0_off38 arg22 1#32) (k0_off33 v343) (k0_off41 v343) (k0_off42 t6 t7) (fun h8 => k0_off39_inb arg22 v343 v345 hw1 hh h8) (k0_off36_inb arg22 v343 v345 hw1 hh 1) (fun h8 => k0_off40_inb arg22 v343 v345 hw1 hh h8) (k0_off35_inb arg22 v343 v345 hw1 hh 1) (k0_off38_inb arg22 v343 v345 hw1 hh 1) (k0_off33_inb arg22 v343 v345 hw1 hh) (k0_off41_inb arg22 v343 v345 hw1 hh) (k0_off42_inb t6 t7) h_S256x512 h_S256x1536 (k0_pay20 v133 v183) (tail3 a0 h0 a1 h1 a2 h2 a3 h3 a6 h6 a7 h7 a8 h8 a9 h9 v133 v183 t6 arg19 t7 arg22 v343 v345 hw1)
  else tail3 a0 h0 a1 h1 a2 h2 a3 h3 a6 h6 a7 h7 a8 h8 a9 h9 v133 v183 t6 arg19 t7 arg22 v343 v345 hw1

def tail1
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32) (v343 v345 : Elt F .i32) (hw1 : k0_chk1 arg22 v343 v345) : Prog (TpuEff nD τ sig (Elt F) Λ₀ .tc) (BitVec 32) :=
  if hh : k0_cond7 v345 = 1#1 then
    k0_part1 a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 (k0_pay17 v133 v183) t6 arg19 t7 arg22 v343 v345 hw1 hh >>= fun _ =>
      halfK (w := 256) (r := 128) a3 (k0_cond9 arg22) (k0_off27 arg22) (k0_off24 arg22 1#32) (k0_off28 arg22) (k0_off23 arg22 1#32) (k0_off26 arg22 1#32) (k0_off21 v343) (k0_off29 v343) (k0_off30 t6 t7) (fun h8 => k0_off27_inb arg22 v343 v345 hw1 hh h8) (k0_off24_inb arg22 v343 v345 hw1 hh 1) (fun h8 => k0_off28_inb arg22 v343 v345 hw1 hh h8) (k0_off23_inb arg22 v343 v345 hw1 hh 1) (k0_off26_inb arg22 v343 v345 hw1 hh 1) (k0_off21_inb arg22 v343 v345 hw1 hh) (k0_off29_inb arg22 v343 v345 hw1 hh) (k0_off30_inb t6 t7) h_S256x256 h_S128x1536 (k0_pay19 v133 v183) (tail2 a0 h0 a1 h1 a2 h2 a3 h3 a6 h6 a7 h7 a8 h8 a9 h9 v133 v183 t6 arg19 t7 arg22 v343 v345 hw1)
  else tail2 a0 h0 a1 h1 a2 h2 a3 h3 a6 h6 a7 h7 a8 h8 a9 h9 v133 v183 t6 arg19 t7 arg22 v343 v345 hw1

theorem t7_body_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (v274 : Elt F .f32) (t6 : Fin k0_t6_loop.trips) (arg19 : BitVec 32) (t7 : Fin k0_t7_loop.trips) (arg22 : BitVec 32) :
    k0_t7_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 arg19 t7 arg22 = (do
      let v343 : Elt F .i32 ← smemLoad etM (Rect.unit (s := S5) (k0_off18 t7) S1.size (k0_off18_inb t7)) numel1_S1 rfl
      let v345 : Elt F .i32 ← smemLoad ntM (Rect.unit (s := S5) (k0_off18 t7) S1.size (k0_off18_inb t7)) numel1_S1 rfl
      have k0_hw1 : k0_chk1 arg22 v343 v345 := (← Prog.lift (TpuEff.assume (k0_chk1 arg22 v343 v345) (k0_chk1.dec arg22 v343 v345))).down
      tail1 a0 h0 a1 h1 a2 h2 a3 h3 a6 h6 a7 h7 a8 h8 a9 h9 v133 v183 t6 arg19 t7 arg22 v343 v345 k0_hw1) := by
  rfl

theorem chk1_of : ∀ j : Fin 60, ∀ n : Fin 7, ∀ t : Fin 12, t.val + n.val ≤ 11 → k0_chk1 (BitVec.ofNat 32 (2 * j.val)) (BitVec.ofNat 32 t.val) (BitVec.ofNat 32 n.val) := by decide +kernel

/-- A product block from the words that two rectangles of the operands' buffers hold. -/
def blkOf {w r : ℕ} (c : Dev nD) (a3 : Memref sig .tc .vmem S1408x3072 .i32)
    (pay : Vec F ⟨2, ![256, w]⟩ .i32 → Vec F ⟨2, ![r, 1536]⟩ .i32 → FVec F S1x512x1536 .f32) (oL oR : Fin 2 → ℕ)
    (iL : ∀ a, oL a + (⟨2, ![256, w]⟩ : Shape).size a ≤ S256x2816.size a) (iR : ∀ a, oR a + (⟨2, ![r, 1536]⟩ : Shape).size a ≤ S1408x3072.size a)
    (fl : BufOf (F := F) c ltM) (fr : BufOf (F := F) c a3) : FVec F S512x1536 .f32 :=
  shapeCast S512x1536
      (pay (View.readAt (Elt F) ltM.view (Rect.unit (s := S256x2816) oL (⟨2, ![256, w]⟩ : Shape).size iL).toLoadRect fl)
           (View.readAt (Elt F) a3.view (Rect.unit (s := S1408x3072) oR (⟨2, ![r, 1536]⟩ : Shape).size iR).toLoadRect fr)) shapeCasts_S1x512x1536_S512x1536

theorem blkOf_congr {w r : ℕ} (c : Dev nD) (a3 : Memref sig .tc .vmem S1408x3072 .i32)
    (pay : Vec F ⟨2, ![256, w]⟩ .i32 → Vec F ⟨2, ![r, 1536]⟩ .i32 → FVec F S1x512x1536 .f32) (oL oR oL' oR' : Fin 2 → ℕ)
    (iL : ∀ a, oL a + (⟨2, ![256, w]⟩ : Shape).size a ≤ S256x2816.size a) (iR : ∀ a, oR a + (⟨2, ![r, 1536]⟩ : Shape).size a ≤ S1408x3072.size a)
    (iL' : ∀ a, oL' a + (⟨2, ![256, w]⟩ : Shape).size a ≤ S256x2816.size a) (iR' : ∀ a, oR' a + (⟨2, ![r, 1536]⟩ : Shape).size a ≤ S1408x3072.size a)
    (fl : BufOf (F := F) c ltM) (fr : BufOf (F := F) c a3) (hL : oL = oL') (hR : oR = oR') :
    blkOf c a3 pay oL oR iL iR fl fr = blkOf c a3 pay oL' oR' iL' iR' fl fr := by
  subst hL; subst hR; rfl

theorem inbL {w : ℕ} (n t : ℕ) (hw : w = 256 * n) (h : t + n ≤ 11) : ∀ a, (![0, 256 * t] : Fin 2 → ℕ) a + (⟨2, ![256, w]⟩ : Shape).size a ≤ S256x2816.size a := by
  subst hw; intro a; fin_cases a
  · show 0 + 256 ≤ 256; omega
  · show 256 * t + 256 * n ≤ 2816; omega

theorem inbR {r : ℕ} (n t : ℕ) (k : Fin 2) (hw : r = 128 * n) (h : t + n ≤ 11) : ∀ a, (![128 * t, 1536 * k.val] : Fin 2 → ℕ) a + (⟨2, ![r, 1536]⟩ : Shape).size a ≤ S1408x3072.size a := by
  have := k.isLt
  subst hw; intro a; fin_cases a
  · show 128 * t + 128 * n ≤ 1408; omega
  · show 1536 * k.val + 1536 ≤ 3072; omega

/-- The block of the product of an expert with `n` tiles of tokens from tile `t` on. -/
def blkV (c : Dev nD) (a3 : Memref sig .tc .vmem S1408x3072 .i32) (gg : F .f32) (fl : BufOf (F := F) c ltM) (fr : BufOf (F := F) c a3)
    (n t : ℕ) (k : Fin 2) : FVec F S512x1536 .f32 :=
  if h : t + n ≤ 11 then
    match n, h with
    | 1, h => blkOf (w := 256) (r := 128) c a3 (k0_pay1 gg) ![0, 256 * t] ![128 * t, 1536 * k.val] (inbL 1 t rfl h) (inbR 1 t k rfl h) fl fr
    | 2, h => blkOf (w := 512) (r := 256) c a3 (k0_pay2 gg) ![0, 256 * t] ![128 * t, 1536 * k.val] (inbL 2 t rfl h) (inbR 2 t k rfl h) fl fr
    | 3, h => blkOf (w := 768) (r := 384) c a3 (k0_pay3 gg) ![0, 256 * t] ![128 * t, 1536 * k.val] (inbL 3 t rfl h) (inbR 3 t k rfl h) fl fr
    | 4, h => blkOf (w := 1024) (r := 512) c a3 (k0_pay4 gg) ![0, 256 * t] ![128 * t, 1536 * k.val] (inbL 4 t rfl h) (inbR 4 t k rfl h) fl fr
    | 5, h => blkOf (w := 1280) (r := 640) c a3 (k0_pay5 gg) ![0, 256 * t] ![128 * t, 1536 * k.val] (inbL 5 t rfl h) (inbR 5 t k rfl h) fl fr
    | 6, h => blkOf (w := 1536) (r := 768) c a3 (k0_pay6 gg) ![0, 256 * t] ![128 * t, 1536 * k.val] (inbL 6 t rfl h) (inbR 6 t k rfl h) fl fr
    | _, _ => fun _ => FloatOps.ofBits .f32 0#32
  else fun _ => FloatOps.ofBits .f32 0#32

theorem offsT1 : ∀ t : Fin 12, k0_off21 (BitVec.ofNat 32 t.val) = ![0, 256 * t.val] ∧ k0_off22 (BitVec.ofNat 32 t.val) = ![128 * t.val, 1536 * 0] ∧ k0_off29 (BitVec.ofNat 32 t.val) = ![128 * t.val, 1536 * 1] := by decide +kernel

theorem offsD1 : ∀ (t6 : Fin k0_t6_loop.trips) (t7 : Fin k0_t7_loop.trips), k0_off25 t6 t7 = ![t7.val, 512 * t6.val, 1536 * 0] ∧ k0_off30 t6 t7 = ![t7.val, 512 * t6.val, 1536 * 1] := by decide +kernel

theorem tail_pos1 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60) (arg22 : BitVec 32) (ha : arg22 = BitVec.ofNat 32 (2 * j.val))
    (t : ℕ) (v343 v345 : Elt F .i32) (hv : v343 = BitVec.ofNat 32 t) (hn : v345 = BitVec.ofNat 32 1) (ht : t + 1 ≤ 11) (hw1 : k0_chk1 arg22 v343 v345)
    (P : sProp 𝕄) (fl : BufOf (F := F) c ltM) (fr : BufOf (F := F) c a3) (fd G : BufOf (F := F) c dwM)
    (hG : ∀ k : Fin 2, (dwK (t7, t6, k)).view.read (Elt F) G = blkV c a3 (k0_pay17 v133 v183) fl fr 1 t k) (Q : BitVec 32 → sProp 𝕄) :
    iprop(Ring c (2 * j.val) P ∗ own c ltM fl ∗ own c a3 fr ∗ own c (dwK (t7, t6, 0)) fd ∗ own c (dwK (t7, t6, 1)) fd ∗ (∃ W, owes (c : Thread nD τ) 0 W)
        ∗ (iprop(Ring c (2 * j.val + 2) iprop(own c (dwK (t7, t6, 1)) G ∗ own c (dwK (t7, t6, 0)) G ∗ P) ∗ own c ltM fl ∗ own c a3 fr ∗ (∃ W, owes (c : Thread nD τ) 0 W)) -∗ Q (BitVec.ofNat 32 (2 * j.val + 2))))
      ⊢ wp frame (wpE (defs₀ (F := F)) Variants.none c none) Set.univ (tail1 a0 h0 a1 h1 a2 h2 a3 h3 a6 h6 a7 h7 a8 h8 a9 h9 v133 v183 t6 arg19 t7 arg22 v343 v345 hw1) Q := by
  subst ha; subst hv; subst hn
  obtain ⟨p1, p2, p3⟩ := offsT1 ⟨t, by omega⟩
  obtain ⟨d1, d2⟩ := offsD1 t6 t7
  have hq : ∀ x : BitVec 32, tail2 a0 h0 a1 h1 a2 h2 a3 h3 a6 h6 a7 h7 a8 h8 a9 h9 v133 v183 t6 arg19 t7 x (BitVec.ofNat 32 t) (BitVec.ofNat 32 1) = fun hw => (pure (x + 2#32) : Prog (TpuEff nD τ sig (Elt F) Λ₀ .tc) (BitVec 32)) := by
    intro x; funext hw
    unfold tail2; rw [dif_neg (by decide)]
    unfold tail3; rw [dif_neg (by decide)]
    unfold tail4; rw [dif_neg (by decide)]
    unfold tail5; rw [dif_neg (by decide)]
    unfold tail6; rw [dif_neg (by decide)]
    unfold tail7
    rfl
  unfold tail1
  rw [dif_pos (by decide)]
  iintro ⟨HR, Hl, Hr, Hd0, Hd1, HO, Hk⟩
  iapply (pair1 c a0 h0 a1 h1 a2 h2 a3 h3 a6 h6 a7 h7 a8 h8 a9 h9 v133 v183 t6 arg19 t7 j _ rfl _ _ hw1 _ (t7, t6, 0) (t7, t6, 1) d1 d2 P fl fr fd G
    ((hG 0).trans (by unfold blkV; rw [dif_pos ht]; first | done | exact blkOf_congr _ _ _ _ _ _ _ _ _ _ _ _ _ p1.symm p2.symm))
    ((hG 1).trans (by unfold blkV; rw [dif_pos ht]; first | done | exact blkOf_congr _ _ _ _ _ _ _ _ _ _ _ _ _ p1.symm p3.symm)))
  isplitl [HR]; · iexact HR
  isplitl [Hl]; · iexact Hl
  isplitl [Hr]; · iexact Hr
  isplitl [Hd0]; · iexact Hd0
  isplitl [Hd1]; · iexact Hd1
  isplitl [HO]; · iexact HO
  iintro H
  rw [hq, wp_pure, ← BitVec.ofNat_add]
  imodintro
  iapply Hk
  iexact H

theorem offsT2 : ∀ t : Fin 12, k0_off33 (BitVec.ofNat 32 t.val) = ![0, 256 * t.val] ∧ k0_off34 (BitVec.ofNat 32 t.val) = ![128 * t.val, 1536 * 0] ∧ k0_off41 (BitVec.ofNat 32 t.val) = ![128 * t.val, 1536 * 1] := by decide +kernel

theorem offsD2 : ∀ (t6 : Fin k0_t6_loop.trips) (t7 : Fin k0_t7_loop.trips), k0_off37 t6 t7 = ![t7.val, 512 * t6.val, 1536 * 0] ∧ k0_off42 t6 t7 = ![t7.val, 512 * t6.val, 1536 * 1] := by decide +kernel

theorem tail_pos2 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60) (arg22 : BitVec 32) (ha : arg22 = BitVec.ofNat 32 (2 * j.val))
    (t : ℕ) (v343 v345 : Elt F .i32) (hv : v343 = BitVec.ofNat 32 t) (hn : v345 = BitVec.ofNat 32 2) (ht : t + 2 ≤ 11) (hw1 : k0_chk1 arg22 v343 v345)
    (P : sProp 𝕄) (fl : BufOf (F := F) c ltM) (fr : BufOf (F := F) c a3) (fd G : BufOf (F := F) c dwM)
    (hG : ∀ k : Fin 2, (dwK (t7, t6, k)).view.read (Elt F) G = blkV c a3 (k0_pay17 v133 v183) fl fr 2 t k) (Q : BitVec 32 → sProp 𝕄) :
    iprop(Ring c (2 * j.val) P ∗ own c ltM fl ∗ own c a3 fr ∗ own c (dwK (t7, t6, 0)) fd ∗ own c (dwK (t7, t6, 1)) fd ∗ (∃ W, owes (c : Thread nD τ) 0 W)
        ∗ (iprop(Ring c (2 * j.val + 2) iprop(own c (dwK (t7, t6, 1)) G ∗ own c (dwK (t7, t6, 0)) G ∗ P) ∗ own c ltM fl ∗ own c a3 fr ∗ (∃ W, owes (c : Thread nD τ) 0 W)) -∗ Q (BitVec.ofNat 32 (2 * j.val + 2))))
      ⊢ wp frame (wpE (defs₀ (F := F)) Variants.none c none) Set.univ (tail1 a0 h0 a1 h1 a2 h2 a3 h3 a6 h6 a7 h7 a8 h8 a9 h9 v133 v183 t6 arg19 t7 arg22 v343 v345 hw1) Q := by
  subst ha; subst hv; subst hn
  obtain ⟨p1, p2, p3⟩ := offsT2 ⟨t, by omega⟩
  obtain ⟨d1, d2⟩ := offsD2 t6 t7
  have hq : ∀ x : BitVec 32, tail3 a0 h0 a1 h1 a2 h2 a3 h3 a6 h6 a7 h7 a8 h8 a9 h9 v133 v183 t6 arg19 t7 x (BitVec.ofNat 32 t) (BitVec.ofNat 32 2) = fun hw => (pure (x + 2#32) : Prog (TpuEff nD τ sig (Elt F) Λ₀ .tc) (BitVec 32)) := by
    intro x; funext hw
    unfold tail3; rw [dif_neg (by decide)]
    unfold tail4; rw [dif_neg (by decide)]
    unfold tail5; rw [dif_neg (by decide)]
    unfold tail6; rw [dif_neg (by decide)]
    unfold tail7
    rfl
  unfold tail1
  rw [dif_neg (by decide)]; unfold tail2
  rw [dif_pos (by decide)]
  iintro ⟨HR, Hl, Hr, Hd0, Hd1, HO, Hk⟩
  iapply (pair2 c a0 h0 a1 h1 a2 h2 a3 h3 a6 h6 a7 h7 a8 h8 a9 h9 v133 v183 t6 arg19 t7 j _ rfl _ _ hw1 _ (t7, t6, 0) (t7, t6, 1) d1 d2 P fl fr fd G
    ((hG 0).trans (by unfold blkV; rw [dif_pos ht]; first | done | exact blkOf_congr _ _ _ _ _ _ _ _ _ _ _ _ _ p1.symm p2.symm))
    ((hG 1).trans (by unfold blkV; rw [dif_pos ht]; first | done | exact blkOf_congr _ _ _ _ _ _ _ _ _ _ _ _ _ p1.symm p3.symm)))
  isplitl [HR]; · iexact HR
  isplitl [Hl]; · iexact Hl
  isplitl [Hr]; · iexact Hr
  isplitl [Hd0]; · iexact Hd0
  isplitl [Hd1]; · iexact Hd1
  isplitl [HO]; · iexact HO
  iintro H
  rw [hq, wp_pure, ← BitVec.ofNat_add]
  imodintro
  iapply Hk
  iexact H

theorem offsT3 : ∀ t : Fin 12, k0_off45 (BitVec.ofNat 32 t.val) = ![0, 256 * t.val] ∧ k0_off46 (BitVec.ofNat 32 t.val) = ![128 * t.val, 1536 * 0] ∧ k0_off53 (BitVec.ofNat 32 t.val) = ![128 * t.val, 1536 * 1] := by decide +kernel

theorem offsD3 : ∀ (t6 : Fin k0_t6_loop.trips) (t7 : Fin k0_t7_loop.trips), k0_off49 t6 t7 = ![t7.val, 512 * t6.val, 1536 * 0] ∧ k0_off54 t6 t7 = ![t7.val, 512 * t6.val, 1536 * 1] := by decide +kernel

theorem tail_pos3 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60) (arg22 : BitVec 32) (ha : arg22 = BitVec.ofNat 32 (2 * j.val))
    (t : ℕ) (v343 v345 : Elt F .i32) (hv : v343 = BitVec.ofNat 32 t) (hn : v345 = BitVec.ofNat 32 3) (ht : t + 3 ≤ 11) (hw1 : k0_chk1 arg22 v343 v345)
    (P : sProp 𝕄) (fl : BufOf (F := F) c ltM) (fr : BufOf (F := F) c a3) (fd G : BufOf (F := F) c dwM)
    (hG : ∀ k : Fin 2, (dwK (t7, t6, k)).view.read (Elt F) G = blkV c a3 (k0_pay17 v133 v183) fl fr 3 t k) (Q : BitVec 32 → sProp 𝕄) :
    iprop(Ring c (2 * j.val) P ∗ own c ltM fl ∗ own c a3 fr ∗ own c (dwK (t7, t6, 0)) fd ∗ own c (dwK (t7, t6, 1)) fd ∗ (∃ W, owes (c : Thread nD τ) 0 W)
        ∗ (iprop(Ring c (2 * j.val + 2) iprop(own c (dwK (t7, t6, 1)) G ∗ own c (dwK (t7, t6, 0)) G ∗ P) ∗ own c ltM fl ∗ own c a3 fr ∗ (∃ W, owes (c : Thread nD τ) 0 W)) -∗ Q (BitVec.ofNat 32 (2 * j.val + 2))))
      ⊢ wp frame (wpE (defs₀ (F := F)) Variants.none c none) Set.univ (tail1 a0 h0 a1 h1 a2 h2 a3 h3 a6 h6 a7 h7 a8 h8 a9 h9 v133 v183 t6 arg19 t7 arg22 v343 v345 hw1) Q := by
  subst ha; subst hv; subst hn
  obtain ⟨p1, p2, p3⟩ := offsT3 ⟨t, by omega⟩
  obtain ⟨d1, d2⟩ := offsD3 t6 t7
  have hq : ∀ x : BitVec 32, tail4 a0 h0 a1 h1 a2 h2 a3 h3 a6 h6 a7 h7 a8 h8 a9 h9 v133 v183 t6 arg19 t7 x (BitVec.ofNat 32 t) (BitVec.ofNat 32 3) = fun hw => (pure (x + 2#32) : Prog (TpuEff nD τ sig (Elt F) Λ₀ .tc) (BitVec 32)) := by
    intro x; funext hw
    unfold tail4; rw [dif_neg (by decide)]
    unfold tail5; rw [dif_neg (by decide)]
    unfold tail6; rw [dif_neg (by decide)]
    unfold tail7
    rfl
  unfold tail1
  rw [dif_neg (by decide)]; unfold tail2
  rw [dif_neg (by decide)]; unfold tail3
  rw [dif_pos (by decide)]
  iintro ⟨HR, Hl, Hr, Hd0, Hd1, HO, Hk⟩
  iapply (pair3 c a0 h0 a1 h1 a2 h2 a3 h3 a6 h6 a7 h7 a8 h8 a9 h9 v133 v183 t6 arg19 t7 j _ rfl _ _ hw1 _ (t7, t6, 0) (t7, t6, 1) d1 d2 P fl fr fd G
    ((hG 0).trans (by unfold blkV; rw [dif_pos ht]; first | done | exact blkOf_congr _ _ _ _ _ _ _ _ _ _ _ _ _ p1.symm p2.symm))
    ((hG 1).trans (by unfold blkV; rw [dif_pos ht]; first | done | exact blkOf_congr _ _ _ _ _ _ _ _ _ _ _ _ _ p1.symm p3.symm)))
  isplitl [HR]; · iexact HR
  isplitl [Hl]; · iexact Hl
  isplitl [Hr]; · iexact Hr
  isplitl [Hd0]; · iexact Hd0
  isplitl [Hd1]; · iexact Hd1
  isplitl [HO]; · iexact HO
  iintro H
  rw [hq, wp_pure, ← BitVec.ofNat_add]
  imodintro
  iapply Hk
  iexact H

theorem offsT4 : ∀ t : Fin 12, k0_off57 (BitVec.ofNat 32 t.val) = ![0, 256 * t.val] ∧ k0_off58 (BitVec.ofNat 32 t.val) = ![128 * t.val, 1536 * 0] ∧ k0_off65 (BitVec.ofNat 32 t.val) = ![128 * t.val, 1536 * 1] := by decide +kernel

theorem offsD4 : ∀ (t6 : Fin k0_t6_loop.trips) (t7 : Fin k0_t7_loop.trips), k0_off61 t6 t7 = ![t7.val, 512 * t6.val, 1536 * 0] ∧ k0_off66 t6 t7 = ![t7.val, 512 * t6.val, 1536 * 1] := by decide +kernel

theorem tail_pos4 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60) (arg22 : BitVec 32) (ha : arg22 = BitVec.ofNat 32 (2 * j.val))
    (t : ℕ) (v343 v345 : Elt F .i32) (hv : v343 = BitVec.ofNat 32 t) (hn : v345 = BitVec.ofNat 32 4) (ht : t + 4 ≤ 11) (hw1 : k0_chk1 arg22 v343 v345)
    (P : sProp 𝕄) (fl : BufOf (F := F) c ltM) (fr : BufOf (F := F) c a3) (fd G : BufOf (F := F) c dwM)
    (hG : ∀ k : Fin 2, (dwK (t7, t6, k)).view.read (Elt F) G = blkV c a3 (k0_pay17 v133 v183) fl fr 4 t k) (Q : BitVec 32 → sProp 𝕄) :
    iprop(Ring c (2 * j.val) P ∗ own c ltM fl ∗ own c a3 fr ∗ own c (dwK (t7, t6, 0)) fd ∗ own c (dwK (t7, t6, 1)) fd ∗ (∃ W, owes (c : Thread nD τ) 0 W)
        ∗ (iprop(Ring c (2 * j.val + 2) iprop(own c (dwK (t7, t6, 1)) G ∗ own c (dwK (t7, t6, 0)) G ∗ P) ∗ own c ltM fl ∗ own c a3 fr ∗ (∃ W, owes (c : Thread nD τ) 0 W)) -∗ Q (BitVec.ofNat 32 (2 * j.val + 2))))
      ⊢ wp frame (wpE (defs₀ (F := F)) Variants.none c none) Set.univ (tail1 a0 h0 a1 h1 a2 h2 a3 h3 a6 h6 a7 h7 a8 h8 a9 h9 v133 v183 t6 arg19 t7 arg22 v343 v345 hw1) Q := by
  subst ha; subst hv; subst hn
  obtain ⟨p1, p2, p3⟩ := offsT4 ⟨t, by omega⟩
  obtain ⟨d1, d2⟩ := offsD4 t6 t7
  have hq : ∀ x : BitVec 32, tail5 a0 h0 a1 h1 a2 h2 a3 h3 a6 h6 a7 h7 a8 h8 a9 h9 v133 v183 t6 arg19 t7 x (BitVec.ofNat 32 t) (BitVec.ofNat 32 4) = fun hw => (pure (x + 2#32) : Prog (TpuEff nD τ sig (Elt F) Λ₀ .tc) (BitVec 32)) := by
    intro x; funext hw
    unfold tail5; rw [dif_neg (by decide)]
    unfold tail6; rw [dif_neg (by decide)]
    unfold tail7
    rfl
  unfold tail1
  rw [dif_neg (by decide)]; unfold tail2
  rw [dif_neg (by decide)]; unfold tail3
  rw [dif_neg (by decide)]; unfold tail4
  rw [dif_pos (by decide)]
  iintro ⟨HR, Hl, Hr, Hd0, Hd1, HO, Hk⟩
  iapply (pair4 c a0 h0 a1 h1 a2 h2 a3 h3 a6 h6 a7 h7 a8 h8 a9 h9 v133 v183 t6 arg19 t7 j _ rfl _ _ hw1 _ (t7, t6, 0) (t7, t6, 1) d1 d2 P fl fr fd G
    ((hG 0).trans (by unfold blkV; rw [dif_pos ht]; first | done | exact blkOf_congr _ _ _ _ _ _ _ _ _ _ _ _ _ p1.symm p2.symm))
    ((hG 1).trans (by unfold blkV; rw [dif_pos ht]; first | done | exact blkOf_congr _ _ _ _ _ _ _ _ _ _ _ _ _ p1.symm p3.symm)))
  isplitl [HR]; · iexact HR
  isplitl [Hl]; · iexact Hl
  isplitl [Hr]; · iexact Hr
  isplitl [Hd0]; · iexact Hd0
  isplitl [Hd1]; · iexact Hd1
  isplitl [HO]; · iexact HO
  iintro H
  rw [hq, wp_pure, ← BitVec.ofNat_add]
  imodintro
  iapply Hk
  iexact H

theorem offsT5 : ∀ t : Fin 12, k0_off69 (BitVec.ofNat 32 t.val) = ![0, 256 * t.val] ∧ k0_off70 (BitVec.ofNat 32 t.val) = ![128 * t.val, 1536 * 0] ∧ k0_off77 (BitVec.ofNat 32 t.val) = ![128 * t.val, 1536 * 1] := by decide +kernel

theorem offsD5 : ∀ (t6 : Fin k0_t6_loop.trips) (t7 : Fin k0_t7_loop.trips), k0_off73 t6 t7 = ![t7.val, 512 * t6.val, 1536 * 0] ∧ k0_off78 t6 t7 = ![t7.val, 512 * t6.val, 1536 * 1] := by decide +kernel

theorem tail_pos5 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60) (arg22 : BitVec 32) (ha : arg22 = BitVec.ofNat 32 (2 * j.val))
    (t : ℕ) (v343 v345 : Elt F .i32) (hv : v343 = BitVec.ofNat 32 t) (hn : v345 = BitVec.ofNat 32 5) (ht : t + 5 ≤ 11) (hw1 : k0_chk1 arg22 v343 v345)
    (P : sProp 𝕄) (fl : BufOf (F := F) c ltM) (fr : BufOf (F := F) c a3) (fd G : BufOf (F := F) c dwM)
    (hG : ∀ k : Fin 2, (dwK (t7, t6, k)).view.read (Elt F) G = blkV c a3 (k0_pay17 v133 v183) fl fr 5 t k) (Q : BitVec 32 → sProp 𝕄) :
    iprop(Ring c (2 * j.val) P ∗ own c ltM fl ∗ own c a3 fr ∗ own c (dwK (t7, t6, 0)) fd ∗ own c (dwK (t7, t6, 1)) fd ∗ (∃ W, owes (c : Thread nD τ) 0 W)
        ∗ (iprop(Ring c (2 * j.val + 2) iprop(own c (dwK (t7, t6, 1)) G ∗ own c (dwK (t7, t6, 0)) G ∗ P) ∗ own c ltM fl ∗ own c a3 fr ∗ (∃ W, owes (c : Thread nD τ) 0 W)) -∗ Q (BitVec.ofNat 32 (2 * j.val + 2))))
      ⊢ wp frame (wpE (defs₀ (F := F)) Variants.none c none) Set.univ (tail1 a0 h0 a1 h1 a2 h2 a3 h3 a6 h6 a7 h7 a8 h8 a9 h9 v133 v183 t6 arg19 t7 arg22 v343 v345 hw1) Q := by
  subst ha; subst hv; subst hn
  obtain ⟨p1, p2, p3⟩ := offsT5 ⟨t, by omega⟩
  obtain ⟨d1, d2⟩ := offsD5 t6 t7
  have hq : ∀ x : BitVec 32, tail6 a0 h0 a1 h1 a2 h2 a3 h3 a6 h6 a7 h7 a8 h8 a9 h9 v133 v183 t6 arg19 t7 x (BitVec.ofNat 32 t) (BitVec.ofNat 32 5) = fun hw => (pure (x + 2#32) : Prog (TpuEff nD τ sig (Elt F) Λ₀ .tc) (BitVec 32)) := by
    intro x; funext hw
    unfold tail6; rw [dif_neg (by decide)]
    unfold tail7
    rfl
  unfold tail1
  rw [dif_neg (by decide)]; unfold tail2
  rw [dif_neg (by decide)]; unfold tail3
  rw [dif_neg (by decide)]; unfold tail4
  rw [dif_neg (by decide)]; unfold tail5
  rw [dif_pos (by decide)]
  iintro ⟨HR, Hl, Hr, Hd0, Hd1, HO, Hk⟩
  iapply (pair5 c a0 h0 a1 h1 a2 h2 a3 h3 a6 h6 a7 h7 a8 h8 a9 h9 v133 v183 t6 arg19 t7 j _ rfl _ _ hw1 _ (t7, t6, 0) (t7, t6, 1) d1 d2 P fl fr fd G
    ((hG 0).trans (by unfold blkV; rw [dif_pos ht]; first | done | exact blkOf_congr _ _ _ _ _ _ _ _ _ _ _ _ _ p1.symm p2.symm))
    ((hG 1).trans (by unfold blkV; rw [dif_pos ht]; first | done | exact blkOf_congr _ _ _ _ _ _ _ _ _ _ _ _ _ p1.symm p3.symm)))
  isplitl [HR]; · iexact HR
  isplitl [Hl]; · iexact Hl
  isplitl [Hr]; · iexact Hr
  isplitl [Hd0]; · iexact Hd0
  isplitl [Hd1]; · iexact Hd1
  isplitl [HO]; · iexact HO
  iintro H
  rw [hq, wp_pure, ← BitVec.ofNat_add]
  imodintro
  iapply Hk
  iexact H

theorem offsT6 : ∀ t : Fin 12, k0_off81 (BitVec.ofNat 32 t.val) = ![0, 256 * t.val] ∧ k0_off82 (BitVec.ofNat 32 t.val) = ![128 * t.val, 1536 * 0] ∧ k0_off89 (BitVec.ofNat 32 t.val) = ![128 * t.val, 1536 * 1] := by decide +kernel

theorem offsD6 : ∀ (t6 : Fin k0_t6_loop.trips) (t7 : Fin k0_t7_loop.trips), k0_off85 t6 t7 = ![t7.val, 512 * t6.val, 1536 * 0] ∧ k0_off90 t6 t7 = ![t7.val, 512 * t6.val, 1536 * 1] := by decide +kernel

theorem tail_pos6 (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60) (arg22 : BitVec 32) (ha : arg22 = BitVec.ofNat 32 (2 * j.val))
    (t : ℕ) (v343 v345 : Elt F .i32) (hv : v343 = BitVec.ofNat 32 t) (hn : v345 = BitVec.ofNat 32 6) (ht : t + 6 ≤ 11) (hw1 : k0_chk1 arg22 v343 v345)
    (P : sProp 𝕄) (fl : BufOf (F := F) c ltM) (fr : BufOf (F := F) c a3) (fd G : BufOf (F := F) c dwM)
    (hG : ∀ k : Fin 2, (dwK (t7, t6, k)).view.read (Elt F) G = blkV c a3 (k0_pay17 v133 v183) fl fr 6 t k) (Q : BitVec 32 → sProp 𝕄) :
    iprop(Ring c (2 * j.val) P ∗ own c ltM fl ∗ own c a3 fr ∗ own c (dwK (t7, t6, 0)) fd ∗ own c (dwK (t7, t6, 1)) fd ∗ (∃ W, owes (c : Thread nD τ) 0 W)
        ∗ (iprop(Ring c (2 * j.val + 2) iprop(own c (dwK (t7, t6, 1)) G ∗ own c (dwK (t7, t6, 0)) G ∗ P) ∗ own c ltM fl ∗ own c a3 fr ∗ (∃ W, owes (c : Thread nD τ) 0 W)) -∗ Q (BitVec.ofNat 32 (2 * j.val + 2))))
      ⊢ wp frame (wpE (defs₀ (F := F)) Variants.none c none) Set.univ (tail1 a0 h0 a1 h1 a2 h2 a3 h3 a6 h6 a7 h7 a8 h8 a9 h9 v133 v183 t6 arg19 t7 arg22 v343 v345 hw1) Q := by
  subst ha; subst hv; subst hn
  obtain ⟨p1, p2, p3⟩ := offsT6 ⟨t, by omega⟩
  obtain ⟨d1, d2⟩ := offsD6 t6 t7
  have hq : ∀ x : BitVec 32, tail7 a0 h0 a1 h1 a2 h2 a3 h3 a6 h6 a7 h7 a8 h8 a9 h9 v133 v183 t6 arg19 t7 x (BitVec.ofNat 32 t) (BitVec.ofNat 32 6) = fun hw => (pure (x + 2#32) : Prog (TpuEff nD τ sig (Elt F) Λ₀ .tc) (BitVec 32)) := by
    intro x; funext hw
    unfold tail7
    rfl
  unfold tail1
  rw [dif_neg (by decide)]; unfold tail2
  rw [dif_neg (by decide)]; unfold tail3
  rw [dif_neg (by decide)]; unfold tail4
  rw [dif_neg (by decide)]; unfold tail5
  rw [dif_neg (by decide)]; unfold tail6
  rw [dif_pos (by decide)]
  iintro ⟨HR, Hl, Hr, Hd0, Hd1, HO, Hk⟩
  iapply (pair6 c a0 h0 a1 h1 a2 h2 a3 h3 a6 h6 a7 h7 a8 h8 a9 h9 v133 v183 t6 arg19 t7 j _ rfl _ _ hw1 _ (t7, t6, 0) (t7, t6, 1) d1 d2 P fl fr fd G
    ((hG 0).trans (by unfold blkV; rw [dif_pos ht]; first | done | exact blkOf_congr _ _ _ _ _ _ _ _ _ _ _ _ _ p1.symm p2.symm))
    ((hG 1).trans (by unfold blkV; rw [dif_pos ht]; first | done | exact blkOf_congr _ _ _ _ _ _ _ _ _ _ _ _ _ p1.symm p3.symm)))
  isplitl [HR]; · iexact HR
  isplitl [Hl]; · iexact Hl
  isplitl [Hr]; · iexact Hr
  isplitl [Hd0]; · iexact Hd0
  isplitl [Hd1]; · iexact Hd1
  isplitl [HO]; · iexact HO
  iintro H
  rw [hq, wp_pure, ← BitVec.ofNat_add]
  imodintro
  iapply Hk
  iexact H

theorem tail_zero
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32)
    (v343 v345 : Elt F .i32) (hn : v345 = BitVec.ofNat 32 0) (hw1 : k0_chk1 arg22 v343 v345) :
    tail1 a0 h0 a1 h1 a2 h2 a3 h3 a6 h6 a7 h7 a8 h8 a9 h9 v133 v183 t6 arg19 t7 arg22 v343 v345 hw1 = pure (arg22 + 0#32) := by
  subst hn
  unfold tail1; rw [dif_neg (by decide)]
  unfold tail2; rw [dif_neg (by decide)]
  unfold tail3; rw [dif_neg (by decide)]
  unfold tail4; rw [dif_neg (by decide)]
  unfold tail5; rw [dif_neg (by decide)]
  unfold tail6; rw [dif_neg (by decide)]
  unfold tail7
  rfl

end Cert.Kernel.Pf

end
-- ==== Proof.T7b.lean ====
/- The experts of one chunk in turn: which blocks are under way or done after each, and the ring's bookkeeping. -/
module

public import proofs.«01_k».proof.Proof.T7

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Scalar memory holding a number for each expert. -/
def numBuf (c : Dev nD) (t : Fin 5 → ℕ) : BufOf (F := F) c etM := fun i => BitVec.ofNat 32 (t (i 0))

/-- How many of the first `k` experts have tokens. -/
def cnt (nt : Fin 5 → ℕ) (k : ℕ) : ℕ := (Finset.univ.filter fun e : Fin 5 => e.val < k ∧ nt e ≠ 0).card

theorem cnt_le (nt : Fin 5 → ℕ) (k : ℕ) : cnt nt k ≤ k := by
  unfold cnt
  have h1 : (Finset.univ.filter fun e : Fin 5 => e.val < k ∧ nt e ≠ 0).card ≤ ((Finset.univ.filter fun e : Fin 5 => e.val < k).map Fin.valEmbedding).card := by
    rw [Finset.card_map]; exact Finset.card_le_card (fun e he => by simp only [Finset.mem_filter] at he ⊢; exact ⟨he.1, he.2.1⟩)
  refine h1.trans ?_
  have h2 : ((Finset.univ.filter fun e : Fin 5 => e.val < k).map Fin.valEmbedding) ⊆ Finset.range k := by
    intro x hx; simp only [Finset.mem_map, Finset.mem_filter] at hx; obtain ⟨e, he, rfl⟩ := hx; exact Finset.mem_range.mpr he.2
  simpa using Finset.card_le_card h2

theorem cnt_succ_zero (nt : Fin 5 → ℕ) (e : Fin 5) (h : nt e = 0) : cnt nt (e.val + 1) = cnt nt e.val := by
  unfold cnt; congr 1; ext x; simp only [Finset.mem_filter, Finset.mem_univ, true_and]
  constructor
  · rintro ⟨h1, h2⟩
    refine ⟨?_, h2⟩
    by_contra hx
    have : x = e := Fin.ext (by omega)
    subst this; exact h2 h
  · rintro ⟨h1, h2⟩; exact ⟨by omega, h2⟩

theorem cnt_succ_pos (nt : Fin 5 → ℕ) (e : Fin 5) (h : nt e ≠ 0) : cnt nt (e.val + 1) = cnt nt e.val + 1 := by
  unfold cnt
  have : (Finset.univ.filter fun x : Fin 5 => x.val < e.val + 1 ∧ nt x ≠ 0) = insert e (Finset.univ.filter fun x : Fin 5 => x.val < e.val ∧ nt x ≠ 0) := by
    ext x; simp only [Finset.mem_filter, Finset.mem_univ, true_and, Finset.mem_insert, Fin.ext_iff]
    constructor
    · rintro ⟨h1, h2⟩
      by_cases hx : x.val = e.val
      · exact Or.inl hx
      · exact Or.inr ⟨by omega, h2⟩
    · rintro (hx | ⟨h1, h2⟩)
      · have : x = e := Fin.ext hx
        subst this; exact ⟨by omega, h⟩
      · exact ⟨by omega, h2⟩
  rw [this, Finset.card_insert_of_notMem (by simp)]

theorem cnt_mono (nt : Fin 5 → ℕ) {j k : ℕ} (h : j ≤ k) : cnt nt j ≤ cnt nt k :=
  Finset.card_le_card (fun e he => by simp only [Finset.mem_filter] at he ⊢; exact ⟨he.1, by omega, he.2.2⟩)

/-- Whether a block of an expert with tokens comes before expert `k` of chunk `q`. -/
abbrev early (nt : Fin 5 → ℕ) (q k : ℕ) (b : Blk) : Prop := nt b.1 ≠ 0 ∧ (b.2.1.val < q ∨ (b.2.1.val = q ∧ b.1.val < k))
/-- Whether it comes after. -/
abbrev late (nt : Fin 5 → ℕ) (q k : ℕ) (b : Blk) : Prop := nt b.1 ≠ 0 ∧ ¬ (b.2.1.val < q ∨ (b.2.1.val = q ∧ b.1.val < k))

/-- The blocks already under way, holding the product. -/
def Done (c : Dev nD) (nt : Fin 5 → ℕ) (G : BufOf (F := F) c dwM) (q k : ℕ) : sProp 𝕄 :=
  bigSep (Finset.univ.filter (early nt q k)) fun b => own c (dwK b) G
/-- The blocks still to be written. -/
def Todo (c : Dev nD) (nt : Fin 5 → ℕ) (fd : BufOf (F := F) c dwM) (q k : ℕ) : sProp 𝕄 :=
  bigSep (Finset.univ.filter (late nt q k)) fun b => own c (dwK b) fd

theorem Done_zero (c : Dev nD) (nt : Fin 5 → ℕ) (G : BufOf (F := F) c dwM) (q : ℕ) (e : Fin 5) (h : nt e = 0) : (Done c nt G q (e.val + 1) : sProp 𝕄) = Done c nt G q e.val := by
  unfold Done; congr 1; ext b; simp only [Finset.mem_filter, Finset.mem_univ, true_and, early]
  have hx : nt b.1 ≠ 0 → b.1.val ≠ e.val := fun h1 h2 => h1 ((Fin.ext h2 : b.1 = e) ▸ h)
  constructor
  · rintro ⟨h1, h2⟩; have := hx h1; exact ⟨h1, by omega⟩
  · rintro ⟨h1, h2⟩; have := hx h1; exact ⟨h1, by omega⟩
theorem Todo_zero (c : Dev nD) (nt : Fin 5 → ℕ) (G : BufOf (F := F) c dwM) (q : ℕ) (e : Fin 5) (h : nt e = 0) : (Todo c nt G q (e.val + 1) : sProp 𝕄) = Todo c nt G q e.val := by
  unfold Todo; congr 1; ext b; simp only [Finset.mem_filter, Finset.mem_univ, true_and, late]
  have hx : nt b.1 ≠ 0 → b.1.val ≠ e.val := fun h1 h2 => h1 ((Fin.ext h2 : b.1 = e) ▸ h)
  constructor
  · rintro ⟨h1, h2⟩; have := hx h1; exact ⟨h1, by omega⟩
  · rintro ⟨h1, h2⟩; have := hx h1; exact ⟨h1, by omega⟩

theorem Done_pos (c : Dev nD) (nt : Fin 5 → ℕ) (G : BufOf (F := F) c dwM) (q : Fin 12) (e : Fin 5) (h : nt e ≠ 0) :
    (Done c nt G q.val (e.val + 1) : sProp 𝕄) = iprop(own c (dwK (e, q, 1)) G ∗ own c (dwK (e, q, 0)) G ∗ Done c nt G q.val e.val) := by
  unfold Done
  have hins : bigSep (M := 𝕄) (insert ((e, q, 1) : Blk) (insert ((e, q, 0) : Blk) (Finset.univ.filter (early nt q.val e.val)))) (fun b => own c (dwK b) G) = _ :=
    (bigSep_insert (by simp)).trans (congrArg _ (bigSep_insert (by simp)))
  refine Eq.trans ?_ hins
  congr 1; ext ⟨b1, b2, b3⟩; simp only [Finset.mem_filter, Finset.mem_univ, true_and, early, Finset.mem_insert, Prod.mk.injEq]
  constructor
  · rintro ⟨h1, h2⟩
    by_cases hx : b1.val = e.val ∧ b2.val = q.val
    · have e1 : b1 = e := Fin.ext hx.1
      have e2 : b2 = q := Fin.ext hx.2
      rcases (show b3 = 0 ∨ b3 = 1 by omega) with h3 | h3
      · exact Or.inr (Or.inl ⟨e1, e2, h3⟩)
      · exact Or.inl ⟨e1, e2, h3⟩
    · exact Or.inr (Or.inr ⟨h1, by omega⟩)
  · rintro (⟨rfl, rfl, rfl⟩ | ⟨rfl, rfl, rfl⟩ | ⟨h1, h2⟩)
    · exact ⟨h, Or.inr ⟨rfl, by omega⟩⟩
    · exact ⟨h, Or.inr ⟨rfl, by omega⟩⟩
    · exact ⟨h1, by omega⟩

theorem Todo_pos (c : Dev nD) (nt : Fin 5 → ℕ) (G : BufOf (F := F) c dwM) (q : Fin 12) (e : Fin 5) (h : nt e ≠ 0) :
    (Todo c nt G q.val e.val : sProp 𝕄) = iprop(own c (dwK (e, q, 1)) G ∗ own c (dwK (e, q, 0)) G ∗ Todo c nt G q.val (e.val + 1)) := by
  unfold Todo
  have hins : bigSep (M := 𝕄) (insert ((e, q, 1) : Blk) (insert ((e, q, 0) : Blk) (Finset.univ.filter (late nt q.val (e.val + 1))))) (fun b => own c (dwK b) G) = _ :=
    (bigSep_insert (by simp)).trans (congrArg _ (bigSep_insert (by simp)))
  refine Eq.trans ?_ hins
  congr 1; ext ⟨b1, b2, b3⟩; simp only [Finset.mem_filter, Finset.mem_univ, true_and, late, Finset.mem_insert, Prod.mk.injEq]
  constructor
  · rintro ⟨h1, h2⟩
    by_cases hx : b1.val = e.val ∧ b2.val = q.val
    · have e1 : b1 = e := Fin.ext hx.1
      have e2 : b2 = q := Fin.ext hx.2
      rcases (show b3 = 0 ∨ b3 = 1 by omega) with h3 | h3
      · exact Or.inr (Or.inl ⟨e1, e2, h3⟩)
      · exact Or.inl ⟨e1, e2, h3⟩
    · exact Or.inr (Or.inr ⟨h1, by omega⟩)
  · rintro (⟨rfl, rfl, rfl⟩ | ⟨rfl, rfl, rfl⟩ | ⟨h1, h2⟩)
    · exact ⟨h, by omega⟩
    · exact ⟨h, by omega⟩
    · exact ⟨h1, by omega⟩

theorem Done_next (c : Dev nD) (nt : Fin 5 → ℕ) (G : BufOf (F := F) c dwM) (q : ℕ) : (Done c nt G q 5 : sProp 𝕄) = Done c nt G (q + 1) 0 := by
  unfold Done; congr 1; ext b; simp only [Finset.mem_filter, Finset.mem_univ, true_and, early]
  have := b.1.isLt
  constructor
  · rintro ⟨h1, h2⟩; exact ⟨h1, by omega⟩
  · rintro ⟨h1, h2⟩; exact ⟨h1, by omega⟩
theorem Todo_next (c : Dev nD) (nt : Fin 5 → ℕ) (G : BufOf (F := F) c dwM) (q : ℕ) : (Todo c nt G q 5 : sProp 𝕄) = Todo c nt G (q + 1) 0 := by
  unfold Todo; congr 1; ext b; simp only [Finset.mem_filter, Finset.mem_univ, true_and, late]
  have := b.1.isLt
  constructor
  · rintro ⟨h1, h2⟩; exact ⟨h1, by omega⟩
  · rintro ⟨h1, h2⟩; exact ⟨h1, by omega⟩

theorem tail_pos (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (j : Fin 60) (arg22 : BitVec 32) (ha : arg22 = BitVec.ofNat 32 (2 * j.val))
    (n t : ℕ) (hn0 : n ≠ 0) (hn6 : n ≤ 6) (v343 v345 : Elt F .i32) (hv : v343 = BitVec.ofNat 32 t) (hn : v345 = BitVec.ofNat 32 n) (ht : t + n ≤ 11) (hw1 : k0_chk1 arg22 v343 v345)
    (P : sProp 𝕄) (fl : BufOf (F := F) c ltM) (fr : BufOf (F := F) c a3) (fd G : BufOf (F := F) c dwM)
    (hG : ∀ k : Fin 2, (dwK (t7, t6, k)).view.read (Elt F) G = blkV c a3 (k0_pay17 v133 v183) fl fr n t k) (Q : BitVec 32 → sProp 𝕄) :
    iprop(Ring c (2 * j.val) P ∗ own c ltM fl ∗ own c a3 fr ∗ own c (dwK (t7, t6, 0)) fd ∗ own c (dwK (t7, t6, 1)) fd ∗ (∃ W, owes (c : Thread nD τ) 0 W)
        ∗ (iprop(Ring c (2 * j.val + 2) iprop(own c (dwK (t7, t6, 1)) G ∗ own c (dwK (t7, t6, 0)) G ∗ P) ∗ own c ltM fl ∗ own c a3 fr ∗ (∃ W, owes (c : Thread nD τ) 0 W)) -∗ Q (BitVec.ofNat 32 (2 * j.val + 2))))
      ⊢ wp frame (wpE (defs₀ (F := F)) Variants.none c none) Set.univ (tail1 a0 h0 a1 h1 a2 h2 a3 h3 a6 h6 a7 h7 a8 h8 a9 h9 v133 v183 t6 arg19 t7 arg22 v343 v345 hw1) Q := by
  rcases (show n = 1 ∨ n = 2 ∨ n = 3 ∨ n = 4 ∨ n = 5 ∨ n = 6 by omega) with h | h | h | h | h | h <;> subst h
  · exact tail_pos1 c a0 h0 a1 h1 a2 h2 a3 h3 a6 h6 a7 h7 a8 h8 a9 h9 v133 v183 t6 arg19 t7 j arg22 ha t v343 v345 hv hn ht hw1 P fl fr fd G hG Q
  · exact tail_pos2 c a0 h0 a1 h1 a2 h2 a3 h3 a6 h6 a7 h7 a8 h8 a9 h9 v133 v183 t6 arg19 t7 j arg22 ha t v343 v345 hv hn ht hw1 P fl fr fd G hG Q
  · exact tail_pos3 c a0 h0 a1 h1 a2 h2 a3 h3 a6 h6 a7 h7 a8 h8 a9 h9 v133 v183 t6 arg19 t7 j arg22 ha t v343 v345 hv hn ht hw1 P fl fr fd G hG Q
  · exact tail_pos4 c a0 h0 a1 h1 a2 h2 a3 h3 a6 h6 a7 h7 a8 h8 a9 h9 v133 v183 t6 arg19 t7 j arg22 ha t v343 v345 hv hn ht hw1 P fl fr fd G hG Q
  · exact tail_pos5 c a0 h0 a1 h1 a2 h2 a3 h3 a6 h6 a7 h7 a8 h8 a9 h9 v133 v183 t6 arg19 t7 j arg22 ha t v343 v345 hv hn ht hw1 P fl fr fd G hG Q
  · exact tail_pos6 c a0 h0 a1 h1 a2 h2 a3 h3 a6 h6 a7 h7 a8 h8 a9 h9 v133 v183 t6 arg19 t7 j arg22 ha t v343 v345 hv hn ht hw1 P fl fr fd G hG Q

/-- What the chunk loop knows of the plan: tile numbers within bounds, and the product's blocks. -/
structure Plan (c : Dev nD) (a3 : Memref sig .tc .vmem S1408x3072 .i32) (gg : F .f32) (nt tt : Fin 5 → ℕ) (lt : Fin 12 → BufOf (F := F) c ltM) (fr : BufOf (F := F) c a3)
    (G : BufOf (F := F) c dwM) : Prop where
  le11 : ∀ e, tt e + nt e ≤ 11
  le6 : ∀ e, nt e ≤ 6
  some : ∃ e, nt e ≠ 0
  blk : ∀ b : Blk, nt b.1 ≠ 0 → (dwK b).view.read (Elt F) G = blkV c a3 gg (lt b.2.1) fr (nt b.1) (tt b.1) b.2.2

theorem t7_assume (c : Dev nD)
    (a0 : Memref sig .tc .smem S5 .i32) (hw0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (t6 : Fin k0_t6_loop.trips) (arg19 : BitVec 32) (t7 : Fin k0_t7_loop.trips) (arg22 : BitVec 32)
    (nt tt : Fin 5 → ℕ) (lt : Fin 12 → BufOf (F := F) c ltM) (fr : BufOf (F := F) c a3) (G fd : BufOf (F := F) c dwM) (hP : Plan c a3 (k0_pay17 v133 v183) nt tt lt fr G)
    (ha : arg22 = BitVec.ofNat 32 (2 * (cnt nt 5 * t6.val + cnt nt t7.val)))
    (v343 v345 : Elt F .i32) (hv : v343 = BitVec.ofNat 32 (tt t7)) (hn : v345 = BitVec.ofNat 32 (nt t7)) (Q : BitVec 32 → sProp 𝕄) :
    iprop(Ring c (2 * (cnt nt 5 * t6.val + cnt nt t7.val)) (Done c nt G t6.val t7.val) ∗ own c ltM (lt t6) ∗ own c a3 fr ∗ Todo c nt fd t6.val t7.val ∗ (∃ W, owes (c : Thread nD τ) 0 W)
        ∗ (iprop(Ring c (2 * (cnt nt 5 * t6.val + cnt nt (t7.val + 1))) (Done c nt G t6.val (t7.val + 1)) ∗ own c ltM (lt t6) ∗ own c a3 fr ∗ Todo c nt fd t6.val (t7.val + 1) ∗ (∃ W, owes (c : Thread nD τ) 0 W))
            -∗ Q (BitVec.ofNat 32 (2 * (cnt nt 5 * t6.val + cnt nt (t7.val + 1))))))
      ⊢ wp frame (wpE (defs₀ (F := F)) Variants.none c none) Set.univ (Prog.op (TpuEff.assume (k0_chk1 arg22 v343 v345) (k0_chk1.dec arg22 v343 v345)) fun x =>
        have k0_hw1 : k0_chk1 arg22 v343 v345 := x.down
        tail1 a0 hw0 a1 h1 a2 h2 a3 h3 a6 h6 a7 h7 a8 h8 a9 h9 v133 v183 t6 arg19 t7 arg22 v343 v345 k0_hw1) Q := by
  have e6 : t6.val < 12 := t6.isLt
  have e7 : t7.val < 5 := t7.isLt
  have b5 := cnt_le nt 5
  have bt := cnt_le nt t7.val
  have l11 := hP.le11 t7
  have l6 := hP.le6 t7
  have hj : cnt nt 5 * t6.val + cnt nt t7.val < 60 := by
    have : cnt nt 5 * t6.val ≤ 5 * 11 := Nat.mul_le_mul b5 (by omega)
    omega
  have hchk : k0_chk1 arg22 v343 v345 := by
    rw [hv, hn, ha]; exact chk1_of ⟨_, hj⟩ ⟨nt t7, by omega⟩ ⟨tt t7, by omega⟩ l11
  by_cases h0 : nt t7 = 0
  · rw [cnt_succ_zero nt t7 h0, Done_zero c nt G t6.val t7 h0, Todo_zero c nt fd t6.val t7 h0]
    iintro ⟨HR, Hl, Hr, HT, HO, Hk⟩
    iapply (wp_assume Variants.none (c : Thread nD τ) none Set.univ hchk)
    rw [tail_zero a0 hw0 a1 h1 a2 h2 a3 h3 a6 h6 a7 h7 a8 h8 a9 h9 v133 v183 t6 arg19 t7 arg22 v343 v345 (by rw [hn, h0]), wp_pure, ha]
    imodintro
    rw [BitVec.add_zero]
    iapply Hk
    isplitl [HR]; · iexact HR
    isplitl [Hl]; · iexact Hl
    isplitl [Hr]; · iexact Hr
    isplitl [HT]; · iexact HT
    iexact HO
  · rw [cnt_succ_pos nt t7 h0, Done_pos c nt G t6 t7 h0, Todo_pos c nt fd t6 t7 h0]
    iintro ⟨HR, Hl, Hr, ⟨Hd1, Hd0, HT⟩, HO, Hk⟩
    iapply (wp_assume Variants.none (c : Thread nD τ) none Set.univ hchk)
    iapply (tail_pos c a0 hw0 a1 h1 a2 h2 a3 h3 a6 h6 a7 h7 a8 h8 a9 h9 v133 v183 t6 arg19 t7 ⟨_, hj⟩ arg22 ha (nt t7) (tt t7) h0 l6 v343 v345 hv hn l11 hchk (Done c nt G t6.val t7.val) (lt t6) fr fd G
      (fun k => hP.blk (t7, t6, k) h0) Q)
    isplitl [HR]; · iexact HR
    isplitl [Hl]; · iexact Hl
    isplitl [Hr]; · iexact Hr
    isplitl [Hd0]; · iexact Hd0
    isplitl [Hd1]; · iexact Hd1
    isplitl [HO]; · iexact HO
    iintro ⟨HR, Hl, Hr, HO⟩
    iapply Hk
    isplitl [HR]; · iexact HR
    isplitl [Hl]; · iexact Hl
    isplitl [Hr]; · iexact Hr
    isplitl [HT]; · iexact HT
    iexact HO

theorem off18_eq : ∀ t7 : Fin k0_t7_loop.trips, k0_off18 t7 = ![t7.val] := by decide +kernel

theorem word_at (c : Dev nD) (t : Fin 5 → ℕ) (o : Fin 1 → ℕ) (e : Fin 5) (ho : o = ![e.val]) (io : ∀ a, o a + S1.size a ≤ S5.size a) (x : S1.Idx) :
    View.readAt (Elt F) etM.view (Rect.unit (s := S5) o S1.size io).toLoadRect (numBuf (F := F) c t) x = BitVec.ofNat 32 (t e) := by
  subst ho
  show BitVec.ofNat 32 (t ((Rect.unit (s := S5) ![e.val] S1.size io).toLoadRect.idx x 0)) = _
  congr 2
  apply Fin.ext
  have hx : (x 0).val < 1 := (x 0).isLt
  show e.val + 1 * (x 0).val = e.val
  omega

theorem t7_step (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (v274 : Elt F .f32) (t6 : Fin k0_t6_loop.trips) (arg19 : BitVec 32) (t7 : Fin k0_t7_loop.trips) (arg22 : BitVec 32)
    (nt tt : Fin 5 → ℕ) (lt : Fin 12 → BufOf (F := F) c ltM) (fr : BufOf (F := F) c a3) (G fd : BufOf (F := F) c dwM) (hP : Plan c a3 (k0_pay17 v133 v183) nt tt lt fr G)
    (ha : arg22 = BitVec.ofNat 32 (2 * (cnt nt 5 * t6.val + cnt nt t7.val))) (Q : BitVec 32 → sProp 𝕄) :
    iprop(own c etM (numBuf c tt) ∗ own c ntM (numBuf c nt) ∗ Ring c (2 * (cnt nt 5 * t6.val + cnt nt t7.val)) (Done c nt G t6.val t7.val) ∗ own c ltM (lt t6) ∗ own c a3 fr ∗ Todo c nt fd t6.val t7.val ∗ (∃ W, owes (c : Thread nD τ) 0 W)
        ∗ (iprop(own c etM (numBuf c tt) ∗ own c ntM (numBuf c nt) ∗ Ring c (2 * (cnt nt 5 * t6.val + cnt nt (t7.val + 1))) (Done c nt G t6.val (t7.val + 1)) ∗ own c ltM (lt t6) ∗ own c a3 fr ∗ Todo c nt fd t6.val (t7.val + 1) ∗ (∃ W, owes (c : Thread nD τ) 0 W))
            -∗ Q (BitVec.ofNat 32 (2 * (cnt nt 5 * t6.val + cnt nt (t7.val + 1))))))
      ⊢ wp frame (wpE (defs₀ (F := F)) Variants.none c none) Set.univ (k0_t7_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 arg19 t7 arg22) Q := by
  rw [t7_body_eq]
  iintro ⟨He, Hn, HR, Hl, Hr, HT, HO, Hk⟩
  sl_exec
  iapply (t7_assume c a0 h0 a1 h1 a2 h2 a3 h3 a6 h6 a7 h7 a8 h8 a9 h9 v133 v183 t6 arg19 t7 arg22 nt tt lt fr G fd hP ha _ _ ?hv ?hn Q)
  case hv => unfold t7_step.sl.r; exact word_at (F := F) c tt _ t7 (off18_eq t7) _ _
  case hn => unfold t7_step.sl.r_1; exact word_at (F := F) c nt _ t7 (off18_eq t7) _ _
  isplitl [HR]; · iexact HR
  isplitl [Hl]; · iexact Hl
  isplitl [Hr]; · iexact Hr
  isplitl [HT]; · iexact HT
  isplitl [HO]; · iexact HO
  iintro ⟨HR, Hl, Hr, HT, HO⟩
  iapply Hk
  isplitl [He]; · iexact He
  isplitl [Hn]; · iexact Hn
  isplitl [HR]; · iexact HR
  isplitl [Hl]; · iexact Hl
  isplitl [Hr]; · iexact Hr
  isplitl [HT]; · iexact HT
  iexact HO

end Cert.Kernel.Pf

end
-- ==== Proof.T6b.lean ====
/- The chunk loop: the experts of each chunk in turn, the chunks in turn. -/
module

public import proofs.«01_k».proof.Proof.T6
public import proofs.«01_k».proof.Proof.T7b

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slot of the double buffer that chunk `k` uses. -/
def sl (k : ℕ) : Fin 2 := ⟨k % 2, Nat.mod_lt _ (by decide)⟩
theorem sl_succ_succ (k : ℕ) : sl (k + 1 + 1) = sl k := Fin.ext (by show (k + 1 + 1) % 2 = k % 2; omega)
theorem sl_ne (k : ℕ) : sl k ≠ sl (k + 1) := fun h => by have : k % 2 = (k + 1) % 2 := congrArg Fin.val h; omega

/-- The double buffer before chunk `k`: chunk `k` is under way while there is one. -/
def XState (c : Dev nD) (fx : BufOf (F := F) c xM) (k : ℕ) : sProp 𝕄 :=
  if h : k < 12 then iprop(XFly c (sl k) ⟨k, h⟩ fx ∗ XFree c (sl (k + 1))) else iprop(XFree (F := F) c (sl k) ∗ XFree c (sl (k + 1)))
/-- The chunks of the words not under way before chunk `k`. -/
def XChunks (c : Dev nD) (fx : BufOf (F := F) c xM) (k : ℕ) : sProp 𝕄 :=
  bigSep (Finset.univ.filter fun i : Fin 12 => i.val ≠ k) fun i => own c (xsl i) fx

theorem xchunks_take (c : Dev nD) (fx : BufOf (F := F) c xM) (q : ℕ) (q' : Fin 12) (h : q'.val = q + 1) :
    (XChunks c fx q : sProp 𝕄) = iprop(own c (xsl q') fx ∗ bigSep (Finset.univ.filter fun i : Fin 12 => i.val ≠ q ∧ i.val ≠ q + 1) fun i => own c (xsl i) fx) := by
  unfold XChunks
  have hins : bigSep (M := 𝕄) (insert q' (Finset.univ.filter fun i : Fin 12 => i.val ≠ q ∧ i.val ≠ q + 1)) (fun i => own c (xsl i) fx) = _ := bigSep_insert (by simp [h])
  refine Eq.trans ?_ hins
  congr 1; ext i; simp only [Finset.mem_filter, Finset.mem_univ, true_and, Finset.mem_insert, Fin.ext_iff]; omega
theorem xchunks_put (c : Dev nD) (fx : BufOf (F := F) c xM) (q : Fin 12) :
    (XChunks c fx (q.val + 1) : sProp 𝕄) = iprop(own c (xsl q) fx ∗ bigSep (Finset.univ.filter fun i : Fin 12 => i.val ≠ q.val ∧ i.val ≠ q.val + 1) fun i => own c (xsl i) fx) := by
  unfold XChunks
  have hins : bigSep (M := 𝕄) (insert q (Finset.univ.filter fun i : Fin 12 => i.val ≠ q.val ∧ i.val ≠ q.val + 1)) (fun i => own c (xsl i) fx) = _ := bigSep_insert (by simp)
  refine Eq.trans ?_ hins
  congr 1; ext i; simp only [Finset.mem_filter, Finset.mem_univ, true_and, Finset.mem_insert, Fin.ext_iff]; omega

/-- What the expert loop keeps between experts. -/
def inv7 (c : Dev nD) (a3 : Memref sig .tc .vmem S1408x3072 .i32) (nt tt : Fin 5 → ℕ) (lt : Fin 12 → BufOf (F := F) c ltM) (fr : BufOf (F := F) c a3) (G fd : BufOf (F := F) c dwM)
    (q : Fin 12) (k : ℕ) (acc : BitVec 32) : sProp 𝕄 :=
  iprop(⌜acc = BitVec.ofNat 32 (2 * (cnt nt 5 * q.val + cnt nt k))⌝ ∗ own c etM (numBuf c tt) ∗ own c ntM (numBuf c nt)
    ∗ Ring c (2 * (cnt nt 5 * q.val + cnt nt k)) (Done c nt G q.val k) ∗ own c ltM (lt q) ∗ own c a3 fr ∗ Todo c nt fd q.val k ∗ (∃ W, owes (c : Thread nD τ) 0 W))

theorem t7_loop (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (v274 : Elt F .f32) (t6 : Fin k0_t6_loop.trips) (arg19 : BitVec 32) (acc : BitVec 32)
    (nt tt : Fin 5 → ℕ) (lt : Fin 12 → BufOf (F := F) c ltM) (fr : BufOf (F := F) c a3) (G fd : BufOf (F := F) c dwM) (hP : Plan c a3 (k0_pay17 v133 v183) nt tt lt fr G)
    {β : Type} (kk : BitVec 32 → Prog (TpuEff nD τ sig (Elt F) Λ₀ .tc) β) (Q : β → sProp 𝕄) :
    iprop(inv7 c a3 nt tt lt fr G fd t6 0 acc ∗ (∀ acc', inv7 c a3 nt tt lt fr G fd t6 5 acc' -∗ wp frame (wpE (defs₀ (F := F)) Variants.none c none) Set.univ (kk acc') Q))
      ⊢ wp frame (wpE (defs₀ (F := F)) Variants.none c none) Set.univ (Scf.Loop.for k0_t7_loop k0_t7_ok acc (k0_t7_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 arg19) >>= kk) Q := by
  have hstep : ∀ (k : Fin (Scf.trips k0_t7_loop.lb k0_t7_loop.ub k0_t7_loop.st)) (a : BitVec 32), inv7 c a3 nt tt lt fr G fd t6 k.val a
      ⊢ wp frame (wpE (defs₀ (F := F)) Variants.none c none) Set.univ (k0_t7_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 arg19 k a) (inv7 c a3 nt tt lt fr G fd t6 (k.val + 1)) := by
    intro k a
    unfold inv7
    iintro ⟨%ha, He, Hn, HR, Hl, Hr, HT, HO⟩
    iapply (t7_step c a0 h0 a1 h1 a2 h2 a3 h3 a6 h6 a7 h7 a8 h8 a9 h9 v133 v183 v274 t6 arg19 k a nt tt lt fr G fd hP ha _)
    isplitl [He]; · iexact He
    isplitl [Hn]; · iexact Hn
    isplitl [HR]; · iexact HR
    isplitl [Hl]; · iexact Hl
    isplitl [Hr]; · iexact Hr
    isplitl [HT]; · iexact HT
    isplitl [HO]; · iexact HO
    iintro ⟨He, Hn, HR, Hl, Hr, HT, HO⟩
    isplitr; · ipureintro; rfl
    isplitl [He]; · iexact He
    isplitl [Hn]; · iexact Hn
    isplitl [HR]; · iexact HR
    isplitl [Hl]; · iexact Hl
    isplitl [Hr]; · iexact Hr
    isplitl [HT]; · iexact HT
    iexact HO
  iintro ⟨HI, HK⟩
  iapply (Scf.wp_for_bind frame (wpE (defs₀ (F := F)) Variants.none c none) Set.univ k0_t7_loop.lb k0_t7_loop.ub k0_t7_loop.st k0_t7_ok acc
    (k0_t7_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 arg19) (fun k a => inv7 c a3 nt tt lt fr G fd t6 k a) hstep) $$ [HI]
  · iexact HI
  · iexact HK

theorem t6_body_eq
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (v274 : Elt F .f32) (t6 : Fin k0_t6_loop.trips) (acc : BitVec 32) :
    k0_t6_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 acc
      = head6 (k0_cond6 t6) (k0_off11 t6) (k0_off12 t6) (k0_off13 t6) (k0_off14 t6) (k0_off15 t6) (k0_off16 t6) (k0_off17 t6)
          (k0_off11_inb t6) (k0_off12_inb t6) (k0_off13_inb t6) (k0_off14_inb t6) (k0_off15_inb t6) (k0_off16_inb t6) (k0_off17_inb t6)
          (Scf.Loop.for k0_t7_loop k0_t7_ok acc (k0_t7_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 (Scf.iv 0#32 1#32 t6)) >>= fun v => pure v) := rfl

theorem t6_off11 : ∀ t : Fin k0_t6_loop.trips, k0_off11 t = ![t.val % 2] := by decide +kernel
theorem t6_off12 : ∀ t : Fin k0_t6_loop.trips, k0_off12 t = ![t.val % 2, 0, 0] := by decide +kernel
theorem t6_off13 : ∀ t : Fin k0_t6_loop.trips, k0_off13 t = ![t.val, 0, 0] := by decide +kernel
theorem t6_off14 : ∀ t : Fin k0_t6_loop.trips, k0_off14 t = ![(t.val + 1) % 2] := by decide +kernel
theorem t6_off15 : ∀ t : Fin k0_t6_loop.trips, k0_off15 t = ![(t.val + 1) % 2, 0, 0] := by decide +kernel
theorem t6_off16 : ∀ t : Fin k0_t6_loop.trips, k0_off16 t = ![t.val + 1, 0, 0] := by decide +kernel
theorem t6_off17 : ∀ t : Fin k0_t6_loop.trips, k0_off17 t = ![t.val % 2, 0, 0] := by decide +kernel
theorem t6_cond : ∀ t : Fin k0_t6_loop.trips, k0_cond6 t = 1#1 ↔ t.val + 1 < 12 := by decide +kernel

/-- The chunk the loop starts after chunk `k`. -/
def nextQ (k : ℕ) : Fin 12 := ⟨(k + 1) % 12, Nat.mod_lt _ (by decide)⟩

/-- What the chunk loop keeps between chunks. -/
def inv6 (c : Dev nD) (a3 : Memref sig .tc .vmem S1408x3072 .i32) (nt tt : Fin 5 → ℕ) (fx : BufOf (F := F) c xM) (fr : BufOf (F := F) c a3) (G fd : BufOf (F := F) c dwM)
    (k : ℕ) (acc : BitVec 32) : sProp 𝕄 :=
  iprop(⌜acc = BitVec.ofNat 32 (2 * (cnt nt 5 * k))⌝ ∗ XState c fx k ∗ XChunks c fx k ∗ (∃ f, own (F := F) c ltM f) ∗ own c etM (numBuf c tt) ∗ own c ntM (numBuf c nt)
    ∗ Ring c (2 * (cnt nt 5 * k)) (Done c nt G k 0) ∗ own c a3 fr ∗ Todo c nt fd k 0 ∗ (∃ W, owes (c : Thread nD τ) 0 W))

theorem cnt_zero (nt : Fin 5 → ℕ) : cnt nt 0 = 0 := Nat.le_zero.mp (cnt_le nt 0)

theorem t6_step (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (v274 : Elt F .f32) (t6 : Fin k0_t6_loop.trips) (acc : BitVec 32)
    (nt tt : Fin 5 → ℕ) (fx : BufOf (F := F) c xM) (fr : BufOf (F := F) c a3) (G fd : BufOf (F := F) c dwM) (hP : Plan c a3 (k0_pay17 v133 v183) nt tt (ltq c fx) fr G) :
    inv6 c a3 nt tt fx fr G fd t6.val acc
      ⊢ wp frame (wpE (defs₀ (F := F)) Variants.none c none) Set.univ (k0_t6_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274 t6 acc) (inv6 c a3 nt tt fx fr G fd (t6.val + 1)) := by
  have e6 : t6.val < 12 := t6.isLt
  have hx0 : (XState c fx t6.val : sProp 𝕄) = iprop(XFly c (sl t6.val) ⟨t6.val, e6⟩ fx ∗ XFree c (sl (t6.val + 1))) := dif_pos e6
  have hin : (XChunks c fx t6.val : sProp 𝕄) ⊢ iprop((if k0_cond6 t6 = 1#1 then own c (xsl (nextQ t6.val)) fx else iprop(emp))
      ∗ (if k0_cond6 t6 = 1#1 then bigSep (Finset.univ.filter fun i : Fin 12 => i.val ≠ t6.val ∧ i.val ≠ t6.val + 1) (fun i => own c (xsl i) fx) else XChunks c fx t6.val)) := by
    by_cases hc : k0_cond6 t6 = 1#1
    · rw [if_pos hc, if_pos hc, xchunks_take c fx t6.val (nextQ t6.val) (Nat.mod_eq_of_lt ((t6_cond t6).mp hc))]
    · rw [if_neg hc, if_neg hc]; iintro H; isplitr; · iempintro
      iexact H
  have hout : iprop(own c (xsl ⟨t6.val, e6⟩) fx ∗ XFree c (sl t6.val) ∗ (if k0_cond6 t6 = 1#1 then XFly c (sl (t6.val + 1)) (nextQ t6.val) fx else XFree c (sl (t6.val + 1)))
      ∗ (if k0_cond6 t6 = 1#1 then bigSep (Finset.univ.filter fun i : Fin 12 => i.val ≠ t6.val ∧ i.val ≠ t6.val + 1) (fun i => own c (xsl i) fx) else XChunks c fx t6.val))
      ⊢ (iprop(XState c fx (t6.val + 1) ∗ XChunks c fx (t6.val + 1)) : sProp 𝕄) := by
    by_cases hc : k0_cond6 t6 = 1#1
    · have h12 := (t6_cond t6).mp hc
      have hq : nextQ t6.val = ⟨t6.val + 1, h12⟩ := Fin.ext (Nat.mod_eq_of_lt h12)
      rw [if_pos hc, if_pos hc, xchunks_put c fx ⟨t6.val, e6⟩, show (XState c fx (t6.val + 1) : sProp 𝕄) = _ from dif_pos h12, sl_succ_succ, hq]
      iintro ⟨H1, H2, H3, H4⟩
      isplitl [H2 H3]
      · isplitl [H3] <;> iassumption
      · isplitl [H1] <;> iassumption
    · have h12 : t6.val = 11 := by have := mt (t6_cond t6).mpr hc; omega
      rw [if_neg hc, if_neg hc, xchunks_put c fx ⟨t6.val, e6⟩, show (XState c fx (t6.val + 1) : sProp 𝕄) = _ from dif_neg (by omega), sl_succ_succ]
      rw [show (XChunks c fx t6.val : sProp 𝕄) = bigSep (Finset.univ.filter fun i : Fin 12 => i.val ≠ t6.val ∧ i.val ≠ t6.val + 1) (fun i => own c (xsl i) fx) from by
        unfold XChunks; congr 1; ext i; have := i.isLt; simp only [Finset.mem_filter, Finset.mem_univ, true_and]; omega]
      iintro ⟨H1, H2, H3, H4⟩
      isplitl [H2 H3]
      · isplitl [H3] <;> iassumption
      · isplitl [H1] <;> iassumption
  rw [t6_body_eq]
  unfold inv6
  rw [hx0]
  iintro ⟨%ha, ⟨HF, HX⟩, HC, Hl, He, Hn, HR, Hr, HT, HO⟩
  ihave HC := hin $$ HC
  icases HC with ⟨HC, HC'⟩
  iapply (head6_wp c (sl t6.val) (sl (t6.val + 1)) (sl_ne t6.val) ⟨t6.val, e6⟩ (nextQ t6.val) (k0_cond6 t6) (k0_off11 t6) (k0_off12 t6) (k0_off13 t6) (k0_off14 t6) (k0_off15 t6) (k0_off16 t6) (k0_off17 t6)
          (k0_off11_inb t6) (k0_off12_inb t6) (k0_off13_inb t6) (k0_off14_inb t6) (k0_off15_inb t6) (k0_off16_inb t6) (k0_off17_inb t6)
    (t6_off11 t6) (t6_off12 t6) (t6_off13 t6) (t6_off14 t6) (t6_off15 t6) (fun hc => (t6_off16 t6).trans (by rw [show (nextQ t6.val).val = t6.val + 1 from Nat.mod_eq_of_lt ((t6_cond t6).mp hc)])) (t6_off17 t6) fx)
  isplitl [HF]; · iexact HF
  isplitl [HX]; · iexact HX
  isplitl [HC]; · iexact HC
  isplitl [Hl]; · iexact Hl
  isplitl [HO]; · iexact HO
  iintro ⟨Hx, HX, HF, Hl, HO⟩
  ihave HXX := hout $$ [Hx HX HF HC']
  · isplitl [Hx]; · iexact Hx
    isplitl [HX]; · iexact HX
    isplitl [HF]; · iexact HF
    iexact HC'
  icases HXX with ⟨HX, HC⟩
  iapply (t7_loop c a0 h0 a1 h1 a2 h2 a3 h3 a6 h6 a7 h7 a8 h8 a9 h9 v133 v183 v274 t6 (Scf.iv 0#32 1#32 t6) acc nt tt (ltq c fx) fr G fd hP)
  isplitr [HX HC]
  · unfold inv7
    rw [cnt_zero, Nat.add_zero]
    isplitr; · ipureintro; exact ha
    isplitl [He]; · iexact He
    isplitl [Hn]; · iexact Hn
    isplitl [HR]; · iexact HR
    isplitl [Hl]; · iexact Hl
    isplitl [Hr]; · iexact Hr
    isplitl [HT]; · iexact HT
    iexact HO
  · unfold inv7
    rw [Done_next, Todo_next, show cnt nt 5 * t6.val + cnt nt 5 = cnt nt 5 * (t6.val + 1) from (Nat.mul_succ _ _).symm]
    iintro %acc' ⟨%ha', He, Hn, HR, Hl, Hr, HT, HO⟩
    rw [wp_pure]
    imodintro
    isplitr; · ipureintro; exact ha'
    isplitl [HX]; · iexact HX
    isplitl [HC]; · iexact HC
    isplitl [Hl]; · iexists _; iexact Hl
    isplitl [He]; · iexact He
    isplitl [Hn]; · iexact Hn
    isplitl [HR]; · iexact HR
    isplitl [Hr]; · iexact Hr
    isplitl [HT]; · iexact HT
    iexact HO

theorem t6_loop (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (v133 v183 : FVec F S8x128 .f32) (v274 : Elt F .f32) (acc : BitVec 32)
    (nt tt : Fin 5 → ℕ) (fx : BufOf (F := F) c xM) (fr : BufOf (F := F) c a3) (G fd : BufOf (F := F) c dwM) (hP : Plan c a3 (k0_pay17 v133 v183) nt tt (ltq c fx) fr G)
    {β : Type} (kk : BitVec 32 → Prog (TpuEff nD τ sig (Elt F) Λ₀ .tc) β) (Q : β → sProp 𝕄) :
    iprop(inv6 c a3 nt tt fx fr G fd 0 acc ∗ (∀ acc', inv6 c a3 nt tt fx fr G fd 12 acc' -∗ wp frame (wpE (defs₀ (F := F)) Variants.none c none) Set.univ (kk acc') Q))
      ⊢ wp frame (wpE (defs₀ (F := F)) Variants.none c none) Set.univ (Scf.Loop.for k0_t6_loop k0_t6_ok acc (k0_t6_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274) >>= kk) Q := by
  iintro ⟨HI, HK⟩
  iapply (Scf.wp_for_bind frame (wpE (defs₀ (F := F)) Variants.none c none) Set.univ k0_t6_loop.lb k0_t6_loop.ub k0_t6_loop.st k0_t6_ok acc
    (k0_t6_body a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8 v133 v183 v274) (fun k a => inv6 c a3 nt tt fx fr G fd k a)
    (fun k a => t6_step c a0 h0 a1 h1 a2 h2 a3 h3 a6 h6 a7 h7 a8 h8 a9 h9 v133 v183 v274 k a nt tt fx fr G fd hP)) $$ [HI]
  · iexact HI
  · iexact HK

end Cert.Kernel.Pf

end
-- ==== Proof.Words.lean ====
/- The small words: the experts' sizes as tiles, the histories' cells, and what one-cell stores leave to read. -/
module

public import proofs.«01_k».proof.Proof.T6b

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The index of cell `k` of the five sizes. -/
def ix5 (k : Fin 5) : S5.Idx := fun a => ⟨k.val, by fin_cases a; exact k.isLt⟩
/-- The index of cell `k` of a history. -/
def ix24 (k : Fin 24) : S24.Idx := fun a => ⟨k.val, by fin_cases a; exact k.isLt⟩
/-- The only index of a one-cell vector. -/
def ix1 : S1.Idx := fun a => ⟨0, by fin_cases a; decide⟩
theorem ix5_surj (i : S5.Idx) : i = ix5 (i 0) := by funext a; fin_cases a; rfl
theorem ix24_surj (i : S24.Idx) : i = ix24 (i 0) := by funext a; fin_cases a; rfl

/-- Cell `k` of a history as the kernel reads it. -/
def hv (c : Dev nD) (a : Memref sig .tc .smem S24 .f32) (f : BufOf (F := F) c a) (k : Fin 24) : F .f32 := a.view.read (Elt F) f (ix24 k)

theorem cell24 (c : Dev nD) (a : Memref sig .tc .smem S24 .f32) (f : BufOf (F := F) c a) (n : ℕ) (hn : n < 24) (inb : ∀ x, (![n] : Fin 1 → ℕ) x + S1.size x ≤ S24.size x) (x : S1.Idx) :
    View.readAt (Elt F) a.view (Rect.unit (s := S24) ![n] S1.size inb).toLoadRect f x = hv c a f ⟨n, hn⟩ := by
  show a.view.read (Elt F) f _ = a.view.read (Elt F) f _
  congr 1
  funext a; fin_cases a
  apply Fin.ext
  have hx : (x 0).val < 1 := (x 0).isLt
  show n + 1 * (x 0).val = n
  omega
theorem cell5 (c : Dev nD) (a : Memref sig .tc .smem S5 .i32) (f : BufOf (F := F) c a) (n : ℕ) (hn : n < 5) (inb : ∀ x, (![n] : Fin 1 → ℕ) x + S1.size x ≤ S5.size x) (x : S1.Idx) :
    View.readAt (Elt F) a.view (Rect.unit (s := S5) ![n] S1.size inb).toLoadRect f x = a.view.read (Elt F) f (ix5 ⟨n, hn⟩) := by
  show a.view.read (Elt F) f _ = a.view.read (Elt F) f _
  congr 1
  funext a; fin_cases a
  apply Fin.ext
  have hx : (x 0).val < 1 := (x 0).isLt
  show n + 1 * (x 0).val = n
  omega

/-- The last of several one-cell stores wins in its cell; elsewhere the earlier ones show. -/
theorem read_cell {S : Shape} (hS : S.rank = 1) {e : EltTy} {sp : Space} (v : View sig .tc sp S e) (f : v.ty.Contents (Elt F)) (o : Fin S.rank → ℕ) (z : Fin S.rank → ℕ) (hz : ∀ a, z a = 1)
    (inb : ∀ x, o x + z x ≤ S.size x) (w : Elt F e) (L : List (View.Piece (Elt F) S e)) (y : S.Idx) :
    v.read (Elt F) (v.writes (Elt F) f (⟨Rect.unit (s := S) o z inb, fun _ => w⟩ :: L)) y
      = if (∀ a, (y a).val = o a) then w else v.read (Elt F) (v.writes (Elt F) f L) y := by
  rw [View.read_writes_cons_unit v f inb _ L y rfl]
  by_cases h : ∀ a, (y a).val = o a
  · rw [if_pos h, dif_pos (fun a => by have := h a; have := hz a; omega)]
  · rw [if_neg h, dif_neg (fun h' => h fun a => by have := h' a; have := hz a; omega)]

/-- The vector that holds the first scale in every cell. -/
def gX (h : Fin 24 → F .f32) : FVec F S8x128 .f32 :=
  k0_pay11 (k0_pay10 (k0_pay9 (k0_pay8 (h 0) (h 1) (h 2)) (h 3) (h 4) (h 5) (h 6) (h 7) (h 8) (h 9) (h 10) (h 11) (h 12)) (h 13) (h 14) (h 15) (h 16) (h 17) (h 18) (h 19) (h 20) (h 21) (h 22)) (h 23)
/-- The vector that holds the second scale in every cell. -/
def gY (h : Fin 24 → F .f32) : FVec F S8x128 .f32 :=
  k0_pay14 (k0_pay13 (k0_pay12 (h 0) (h 1) (h 2) (h 3) (h 4) (h 5) (h 6) (h 7) (h 8)) (h 9) (h 10) (h 11) (h 12) (h 13) (h 14) (h 15) (h 16) (h 17)) (h 18) (h 19) (h 20) (h 21) (h 22) (h 23)

/-- The tiles of 256 rows that `n` tokens fill. -/
def tiles (n : ℕ) : ℕ := ((n + 15) / 16 + 15) / 16
/-- The tiles of each expert. -/
def ntOf (g : Fin 5 → BitVec 32) (e : Fin 5) : ℕ := tiles (g e).toNat
/-- The tiles before each expert. -/
def ttOf (g : Fin 5 → BitVec 32) : Fin 5 → ℕ :=
  ![0, ntOf g 0, ntOf g 0 + ntOf g 1, ntOf g 0 + ntOf g 1 + ntOf g 2, ntOf g 0 + ntOf g 1 + ntOf g 2 + ntOf g 3]

/-- The group sizes of a run: at least one token and at most 1536. -/
def Tokens (g : Fin 5 → BitVec 32) : Prop := 1 ≤ (∑ e, (g e).toNat) ∧ (∑ e, (g e).toNat) ≤ 1536

theorem tile_word (w : BitVec 32) (h : w.toNat ≤ 1536) :
    Scalar.shrui (Scalar.addi (Scalar.shrui (Scalar.addi w 15#32) 4#32) 15#32) 4#32 = BitVec.ofNat 32 (tiles w.toNat) := by
  have e : ∀ x : BitVec 32, Scalar.shrui x 4#32 = x >>> 4 := fun x => rfl
  rw [e, e]
  show (((w + 15#32) >>> 4) + 15#32) >>> 4 = _
  apply BitVec.eq_of_toNat_eq
  simp only [BitVec.toNat_ushiftRight, BitVec.toNat_add, BitVec.toNat_ofNat, Nat.shiftRight_eq_div_pow, tiles]
  omega

theorem tiles_le (g : Fin 5 → BitVec 32) (hs : Tokens g) (e : Fin 5) : (g e).toNat ≤ 1536 :=
  (Finset.single_le_sum (f := fun e => (g e).toNat) (fun _ _ => Nat.zero_le _) (Finset.mem_univ e)).trans hs.2

theorem le6_of (g : Fin 5 → BitVec 32) (hs : Tokens g) (e : Fin 5) : ntOf g e ≤ 6 := by
  have := tiles_le g hs e
  unfold ntOf tiles; omega

theorem le11_of (g : Fin 5 → BitVec 32) (hs : Tokens g) (e : Fin 5) : ttOf g e + ntOf g e ≤ 11 := by
  have h5 : (g 0).toNat + (g 1).toNat + (g 2).toNat + (g 3).toNat + (g 4).toNat ≤ 1536 := by
    rw [← Fin.sum_univ_five fun e => (g e).toNat]; exact hs.2
  fin_cases e
  · show 0 + ntOf g 0 ≤ 11; unfold ntOf tiles; omega
  · show ntOf g 0 + ntOf g 1 ≤ 11; unfold ntOf tiles; omega
  · show ntOf g 0 + ntOf g 1 + ntOf g 2 ≤ 11; unfold ntOf tiles; omega
  · show ntOf g 0 + ntOf g 1 + ntOf g 2 + ntOf g 3 ≤ 11; unfold ntOf tiles; omega
  · show ntOf g 0 + ntOf g 1 + ntOf g 2 + ntOf g 3 + ntOf g 4 ≤ 11; unfold ntOf tiles; omega

theorem add_word (a b : ℕ) : Scalar.addi (BitVec.ofNat 32 a) (BitVec.ofNat 32 b) = BitVec.ofNat 32 (a + b) := (BitVec.ofNat_add a b).symm

end Cert.Kernel.Pf

end
-- ==== Proof.Zero.lean ====
/- The blocks of the experts without tokens: zeros copied out of one buffer, many copies under way at once. -/
module

public import proofs.«01_k».proof.Proof.Words
public import Idealize.ShloMosaic.Lib.Batch

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem ret_bind' {α β : Type} (a : α) (k : α → Prog (TpuEff nD τ sig (Elt F) Λ₀ .tc) β) : (Prog.ret a).bind k = k a := rfl

/-! ## The experts without tokens, counted -/

/-- The experts without tokens before expert `n`. -/
def cz (z : Fin 5 → Bool) (n : ℕ) : ℕ := (Finset.univ.filter fun e : Fin 5 => e.val < n ∧ z e = true).card
theorem cz_zero (z : Fin 5 → Bool) : cz z 0 = 0 := by
  unfold cz; rw [Finset.card_eq_zero]; ext e; simp
theorem cz_succ : ∀ (z : Fin 5 → Bool) (e : Fin 5), cz z (e.val + 1) = cz z e.val + (if z e = true then 1 else 0) := by decide +kernel
theorem cz_lt : ∀ (z : Fin 5 → Bool) (e : Fin 5), z e = true → cz z e.val < cz z 5 := by decide +kernel
theorem cz_inj : ∀ (z : Fin 5 → Bool) (e e' : Fin 5), z e = true → z e' = true → cz z e.val = cz z e'.val → e = e' := by decide +kernel

/-- A block of an expert without tokens, in the order the copies start. -/
def zidx (z : Fin 5 → Bool) (b : Blk) : ℕ := 24 * cz z b.1.val + (2 * b.2.1.val + b.2.2.val)
theorem zidx_lt (z : Fin 5 → Bool) (b : Blk) (h : z b.1 = true) : zidx z b < 24 * cz z 5 := by
  have := cz_lt z b.1 h; have := b.2.1.isLt; have := b.2.2.isLt; unfold zidx; omega
theorem zidx_inj (z : Fin 5 → Bool) (b b' : Blk) (h : z b.1 = true) (h' : z b'.1 = true) (e : zidx z b = zidx z b') : b = b' := by
  have := b.2.1.isLt; have := b.2.2.isLt; have := b'.2.1.isLt; have := b'.2.2.isLt
  unfold zidx at e
  have e1 : b.1 = b'.1 := cz_inj z _ _ h h' (by omega)
  have e2 : b.2.1 = b'.2.1 := Fin.ext (by rw [e1] at e; omega)
  have e3 : b.2.2 = b'.2.2 := Fin.ext (by rw [e1] at e; omega)
  exact Prod.ext e1 (Prod.ext e2 e3)

/-! ## The copies -/

/-- What copy `t` gives back: its block, and its share of the zeros. -/
def zD (c : Dev nD) (z : Fin 5 → Bool) (G : BufOf (F := F) c dwM) (fz : BufOf (F := F) c zM) (t : Fin (24 * cz z 5)) : sProp 𝕄 :=
  iprop((bigSep (Finset.univ.filter fun b : Blk => z b.1 = true ∧ zidx z b = t.val) fun b => own c (dwK b) G)
    ∗ (View.loc (c : Thread nD τ) zM.view ↦[zM.view.set]{Transfers.shareTokN fullShare t.val} fz))

instance zD_storable (c : Dev nD) (z : Fin 5 → Bool) (G : BufOf (F := F) c dwM) (fz : BufOf (F := F) c zM) (t : Fin (24 * cz z 5)) :
    Storable (upEmb : UEmb _ 𝕄) (zD c z G fz t) := by unfold zD own; infer_instance

/-- The zeros' semaphore. -/
abbrev zsem : DmaSem sig := cc0_scratch8.sem

/-- The copies with `j` started and `u` units waited for. -/
def ZB (c : Dev nD) (z : Fin 5 → Bool) (G : BufOf (F := F) c dwM) (fz : BufOf (F := F) c zM) (j u : ℕ) : sProp 𝕄 :=
  Transfers.Batch EC (c : Thread nD τ) (.dma zsem) () NB (zD c z G fz) j u

/-- Before copy `j`: the copies started, what is left of the zeros, the blocks still to be written. -/
def ZSt (c : Dev nD) (z : Fin 5 → Bool) (G fd : BufOf (F := F) c dwM) (fz : BufOf (F := F) c zM) (j : ℕ) : sProp 𝕄 :=
  iprop(ZB c z G fz j 0 ∗ (View.loc (c : Thread nD τ) zM.view ↦[zM.view.set]{Transfers.shareDrop fullShare j} fz)
    ∗ bigSep (Finset.univ.filter fun b : Blk => z b.1 = true ∧ j ≤ zidx z b) fun b => own c (dwK b) fd)

theorem ztodo_step (c : Dev nD) (z : Fin 5 → Bool) (fd : BufOf (F := F) c dwM) (b : Blk) (hz : z b.1 = true) (j : ℕ) (hj : zidx z b = j) :
    (bigSep (Finset.univ.filter fun b : Blk => z b.1 = true ∧ j ≤ zidx z b) fun b => own c (dwK b) fd : sProp 𝕄)
      = iprop(own c (dwK b) fd ∗ bigSep (Finset.univ.filter fun b : Blk => z b.1 = true ∧ j + 1 ≤ zidx z b) fun b => own c (dwK b) fd) := by
  have hs : (Finset.univ.filter fun b : Blk => z b.1 = true ∧ j ≤ zidx z b) = insert b (Finset.univ.filter fun b : Blk => z b.1 = true ∧ j + 1 ≤ zidx z b) := by
    ext b'
    simp only [Finset.mem_filter, Finset.mem_univ, true_and, Finset.mem_insert]
    constructor
    · rintro ⟨h1, h2⟩
      by_cases h : zidx z b' = j
      · exact Or.inl (zidx_inj z _ _ h1 hz (h.trans hj.symm))
      · exact Or.inr ⟨h1, by omega⟩
    · rintro (rfl | ⟨h1, h2⟩)
      · exact ⟨hz, hj.ge⟩
      · exact ⟨h1, by omega⟩
  rw [hs]
  exact bigSep_insert (by simp only [Finset.mem_filter, Finset.mem_univ, true_and]; omega)

/-- The start of one copy of zeros to a block. -/
def zcopyK (oD : Fin 3 → ℕ) (iD : ∀ a, oD a + S1x512x1536.size a ≤ S5x6144x3072.size a) {α : Type} (k : Prog (TpuEff nD τ sig (Elt F) Λ₀ .tc) α) : Prog (TpuEff nD τ sig (Elt F) Λ₀ .tc) α := do
  Prog.lift (.enqueueDma zM (.here ((dwM.slice (Rect.unit (s := S5x6144x3072) oD S1x512x1536.size iD) (fun _ => rfl)).squeeze S512x1536 squeezes_S1x512x1536_S512x1536)) (.dma zsem)
    (Memref.isWhole_whole _).wordExact ((View.wordExact_bits rfl).reshape _ _) ⟨Or.inl rfl, trivial⟩)
  k

theorem zcopy_wp (c : Dev nD) (z : Fin 5 → Bool) (G fd : BufOf (F := F) c dwM) (fz : BufOf (F := F) c zM)
    (hG : ∀ b : Blk, z b.1 = true → (dwK b).view.read (Elt F) G = zM.view.read (Elt F) fz)
    (b : Blk) (hz : z b.1 = true) (j : ℕ) (hj : zidx z b = j)
    (oD : Fin 3 → ℕ) (iD : ∀ a, oD a + S1x512x1536.size a ≤ S5x6144x3072.size a) (hD : oD = blkOff b)
    {α : Type} (k : Prog (TpuEff nD τ sig (Elt F) Λ₀ .tc) α) (Q : α → sProp 𝕄) :
    iprop(ZSt c z G fd fz j ∗ (ZSt c z G fd fz (j + 1) -∗ wp frame (wpE (defs₀ (F := F)) Variants.none c none) Set.univ k Q))
      ⊢ wp frame (wpE (defs₀ (F := F)) Variants.none c none) Set.univ (zcopyK oD iD k) Q := by
  subst hD
  have hjn : j < 24 * cz z 5 := hj ▸ zidx_lt z b hz
  have hdel : (iprop((View.loc (c : Thread nD τ) (dwK b).view ↦[(dwK b).view.set]{fullShare}
          ((dwK b).view.write (Elt F) fd (ReadAs.same.apply (zM.view.read (Elt F) fz)) Finset.univ))
        ∗ (View.loc (c : Thread nD τ) zM.view ↦[zM.view.set]{Transfers.shareTokN fullShare j} fz)) : sProp 𝕄) ⊢ zD c z G fz ⟨j, hjn⟩ := by
    unfold zD
    rw [show (Finset.univ.filter fun b' : Blk => z b'.1 = true ∧ zidx z b' = j) = {b} from by
      ext b'; simp only [Finset.mem_filter, Finset.mem_univ, true_and, Finset.mem_singleton]
      exact ⟨fun h => zidx_inj z _ _ h.1 hz (h.2.trans hj.symm), fun h => h ▸ ⟨hz, hj⟩⟩, bigSep_singleton]
    iintro ⟨H1, H2⟩
    isplitl [H1]
    · rw [show (own c (dwK b) G : sProp 𝕄) = _ from (pointsTo_congr (eq_on_of_read_eq (dwK b).view _ G ?_)).symm]
      · iexact H1
      · rw [hG b hz]; exact View.read_write_univ ..
    · iexact H2
  unfold ZSt ZB zcopyK
  rw [ztodo_step c z fd b hz j hj]
  iintro ⟨⟨HB, Hz, Hd, HT⟩, Hk⟩
  ihave Hz := (pointsTo_share (PosShare.mem_left_op_right _)).1 $$ Hz
  icases Hz with ⟨Hz, Hz'⟩
  iapply (Transfers.wp_dmaBatch EC Variants.none (c : Thread nD τ) none (src := zM) (dst := dwK b) () NB rfl subset_rfl
    (D := zD c z G fz) (j := j) (u := 0) hjn (Nat.zero_le _) hdel) $$ [Hz' Hd HB]
  · isplitl [Hz']; · iexact Hz'
    isplitl [Hd]; · iexact Hd
    iexact HB
  iintro HB
  iapply Hk
  isplitl [HB]; · iexact HB
  isplitl [Hz]; · iexact Hz
  iexact HT

/-- The copies to one expert's blocks: two for each chunk. -/
theorem zloop_wp (c : Dev nD) (z : Fin 5 → Bool) (G fd : BufOf (F := F) c dwM) (fz : BufOf (F := F) c zM)
    (hG : ∀ b : Blk, z b.1 = true → (dwK b).view.read (Elt F) G = zM.view.read (Elt F) fz)
    (e : Fin 5) (hz : z e = true)
    (oA oB : Fin k0_t1_loop.trips → Fin 3 → ℕ) (iA : ∀ t a, oA t a + S1x512x1536.size a ≤ S5x6144x3072.size a) (iB : ∀ t a, oB t a + S1x512x1536.size a ≤ S5x6144x3072.size a)
    (hA : ∀ t : Fin 12, oA t = blkOff (e, t, 0)) (hB : ∀ t : Fin 12, oB t = blkOff (e, t, 1))
    (body : Fin k0_t1_loop.trips → Unit → Prog (TpuEff nD τ sig (Elt F) Λ₀ .tc) Unit) (hbody : body = fun t (_ : Unit) => zcopyK (oA t) (iA t) (zcopyK (oB t) (iB t) (pure ⟨⟩)))
    {β : Type} (kk : Unit → Prog (TpuEff nD τ sig (Elt F) Λ₀ .tc) β) (Q : β → sProp 𝕄) :
    iprop(ZSt c z G fd fz (24 * cz z e.val) ∗ (ZSt c z G fd fz (24 * cz z (e.val + 1)) -∗ wp frame (wpE (defs₀ (F := F)) Variants.none c none) Set.univ (kk ⟨⟩) Q))
      ⊢ wp frame (wpE (defs₀ (F := F)) Variants.none c none) Set.univ
          ((Scf.Loop.for k0_t1_loop k0_t1_ok ⟨⟩ body).bind kk) Q := by
  subst hbody
  have hstep : ∀ (t : Fin (Scf.trips k0_t1_loop.lb k0_t1_loop.ub k0_t1_loop.st)) (a : Unit), ZSt c z G fd fz (24 * cz z e.val + 2 * t.val)
      ⊢ wp frame (wpE (defs₀ (F := F)) Variants.none c none) Set.univ (zcopyK (oA t) (iA t) (zcopyK (oB t) (iB t) (pure ⟨⟩)))
          (fun _ : Unit => ZSt c z G fd fz (24 * cz z e.val + 2 * (t.val + 1))) := by
    intro t a
    iintro H
    iapply (zcopy_wp c z G fd fz hG (e, t, 0) hz (24 * cz z e.val + 2 * t.val) rfl (oA t) (iA t) (hA t))
    isplitl [H]; · iexact H
    iintro H
    iapply (zcopy_wp c z G fd fz hG (e, t, 1) hz (24 * cz z e.val + 2 * t.val + 1) rfl (oB t) (iB t) (hB t))
    isplitl [H]; · iexact H
    iintro H
    rw [wp_pure]
    iexact H
  rw [cz_succ z e, if_pos hz]
  iintro ⟨HI, HK⟩
  iapply (Scf.wp_for_bind frame (wpE (defs₀ (F := F)) Variants.none c none) Set.univ k0_t1_loop.lb k0_t1_loop.ub k0_t1_loop.st k0_t1_ok ()
    (fun t (_ : Unit) => zcopyK (oA t) (iA t) (zcopyK (oB t) (iB t) (pure ⟨⟩))) (fun k _ => ZSt c z G fd fz (24 * cz z e.val + 2 * k)) hstep) $$ [HI]
  · iexact HI
  · iintro %a HI
    iapply HK
    iexact HI

/-- An expert's blocks where the kernel asks whether it has no tokens. -/
theorem zif_wp (c : Dev nD) (z : Fin 5 → Bool) (G fd : BufOf (F := F) c dwM) (fz : BufOf (F := F) c zM)
    (hG : ∀ b : Blk, z b.1 = true → (dwK b).view.read (Elt F) G = zM.view.read (Elt F) fz)
    (e : Fin 5) (cond : BitVec 1) (hc : cond = 1#1 ↔ z e = true)
    (oA oB : Fin k0_t1_loop.trips → Fin 3 → ℕ) (iA : ∀ t a, oA t a + S1x512x1536.size a ≤ S5x6144x3072.size a) (iB : ∀ t a, oB t a + S1x512x1536.size a ≤ S5x6144x3072.size a)
    (hA : ∀ t : Fin 12, oA t = blkOff (e, t, 0)) (hB : ∀ t : Fin 12, oB t = blkOff (e, t, 1))
    (body : Fin k0_t1_loop.trips → Unit → Prog (TpuEff nD τ sig (Elt F) Λ₀ .tc) Unit) (hbody : body = fun t (_ : Unit) => zcopyK (oA t) (iA t) (zcopyK (oB t) (iB t) (pure ⟨⟩)))
    {β : Type} (kk : Prog (TpuEff nD τ sig (Elt F) Λ₀ .tc) β) (Q : β → sProp 𝕄) :
    iprop(ZSt c z G fd fz (24 * cz z e.val) ∗ (ZSt c z G fd fz (24 * cz z (e.val + 1)) -∗ wp frame (wpE (defs₀ (F := F)) Variants.none c none) Set.univ kk Q))
      ⊢ wp frame (wpE (defs₀ (F := F)) Variants.none c none) Set.univ
          (if cond = 1#1 then ((Scf.Loop.for k0_t1_loop k0_t1_ok ⟨⟩ body).bind fun _ => kk) else kk) Q := by
  by_cases h : z e = true
  · rw [if_pos (hc.mpr h)]
    exact zloop_wp c z G fd fz hG e h oA oB iA iB hA hB body hbody (fun _ => kk) Q
  · rw [if_neg (mt hc.mp h), cz_succ z e, if_neg h, Nat.add_zero]
    iintro ⟨H, Hk⟩
    iapply Hk; iexact H

/-- One wait for a copy of zeros. -/
def zwaitK : Prog (TpuEff nD τ sig (Elt F) Λ₀ .tc) Unit := do
  Prog.lift (.waitDma2 zsem zM ((dwM.slice (Rect.unit (s := S5x6144x3072) ![0, 0, 0] S1x512x1536.size inb_S5x6144x3072_S1x512x1536_0_0_0) (fun _ => rfl)).squeeze S512x1536 squeezes_S1x512x1536_S512x1536)
    (Memref.isWhole_whole _).wordExact ((View.wordExact_bits rfl).reshape _ _))
  pure ⟨⟩

theorem zdrain_wp (c : Dev nD) (z : Fin 5 → Bool) (G : BufOf (F := F) c dwM) (fz : BufOf (F := F) c zM)
    (L : Scf.Loop 32) (hL : L.OK) (htr : L.trips = 24 * cz z 5)
    (body : Fin L.trips → Unit → Prog (TpuEff nD τ sig (Elt F) Λ₀ .tc) Unit) (hbody : body = fun _ (_ : Unit) => zwaitK)
    {β : Type} (kk : Unit → Prog (TpuEff nD τ sig (Elt F) Λ₀ .tc) β) (Q : β → sProp 𝕄) :
    iprop(ZB c z G fz (24 * cz z 5) 0 ∗ (∃ W, owes (c : Thread nD τ) 0 W)
        ∗ (iprop(ZB c z G fz (24 * cz z 5) (NB * (24 * cz z 5)) ∗ (∃ W, owes (c : Thread nD τ) 0 W)) -∗ wp frame (wpE (defs₀ (F := F)) Variants.none c none) Set.univ (kk ⟨⟩) Q))
      ⊢ wp frame (wpE (defs₀ (F := F)) Variants.none c none) Set.univ ((Scf.Loop.for L hL ⟨⟩ body).bind kk) Q := by
  subst hbody
  have hstep : ∀ (t : Fin (Scf.trips L.lb L.ub L.st)) (a : Unit), (iprop(ZB c z G fz (24 * cz z 5) (t.val * NB) ∗ (∃ W, owes (c : Thread nD τ) 0 W)) : sProp 𝕄)
      ⊢ wp frame (wpE (defs₀ (F := F)) Variants.none c none) Set.univ zwaitK
          (fun _ : Unit => iprop(ZB c z G fz (24 * cz z 5) ((t.val + 1) * NB) ∗ (∃ W, owes (c : Thread nD τ) 0 W))) := by
    intro t a
    have ht : t.val < 24 * cz z 5 := htr ▸ t.isLt
    unfold zwaitK ZB
    iintro ⟨HB, ⟨%W, HO⟩⟩
    iapply (Transfers.wp_waitBatchMul EC Variants.none (c : Thread nD τ) none () (N := NB) 1 (Nat.one_mul _).symm (D := zD c z G fz) (j := 24 * cz z 5) (u := t.val * NB)
      (by rw [Nat.one_mul, ← Nat.succ_mul, Nat.mul_comm NB]; exact Nat.mul_le_mul_right _ ht)) $$ [HB HO]
    · isplitl [HB] <;> iassumption
    iintro ⟨HB, HO⟩
    simp only [ret_bind']
    rw [wp_pure, Nat.one_mul, ← Nat.succ_mul]
    isplitl [HB]; · iexact HB
    iexists _; iexact HO
  iintro ⟨HB, HO, HK⟩
  iapply (Scf.wp_for_bind frame (wpE (defs₀ (F := F)) Variants.none c none) Set.univ L.lb L.ub L.st hL ()
    (fun _ (_ : Unit) => zwaitK) (fun k _ => iprop(ZB c z G fz (24 * cz z 5) (k * NB) ∗ (∃ W, owes (c : Thread nD τ) 0 W))) hstep) $$ [HB HO]
  · rw [Nat.zero_mul]
    isplitl [HB] <;> iassumption
  · iintro %a HI
    iapply HK
    rw [show Scf.trips L.lb L.ub L.st = 24 * cz z 5 from htr, Nat.mul_comm NB]
    iexact HI

/-- Before the first copy. -/
theorem zstart (c : Dev nD) (z : Fin 5 → Bool) (G fd : BufOf (F := F) c dwM) (fz : BufOf (F := F) c zM) :
    (iprop(semVal ((c : Thread nD τ), SemLoc.dma zsem) 0 ∗ own c zM fz ∗ bigSep (Finset.univ.filter fun b : Blk => z b.1 = true) fun b => own c (dwK b) fd) : sProp 𝕄)
      ⊢ |={Set.univ}=> ZSt c z G fd fz (24 * cz z 0) := by
  rw [cz_zero]
  unfold ZSt ZB
  rw [show (Finset.univ.filter fun b : Blk => z b.1 = true ∧ 24 * 0 ≤ zidx z b) = Finset.univ.filter fun b : Blk => z b.1 = true from by
    ext b; simp]
  iintro ⟨Hs, Hz, HT⟩
  imod (Transfers.batch_alloc' EC (c : Thread nD τ) () NB (zD c z G fz) (sm := .dma zsem) (E := Set.univ)) $$ Hs with HB
  imodintro
  isplitl [HB]; · iexact HB
  isplitl [Hz]; · iexact Hz
  iexact HT

/-- After the last start. -/
theorem zlast (c : Dev nD) (z : Fin 5 → Bool) (G fd : BufOf (F := F) c dwM) (fz : BufOf (F := F) c zM) :
    (ZSt c z G fd fz (24 * cz z ((4 : Fin 5).val + 1)) : sProp 𝕄)
      ⊢ iprop(ZB c z G fz (24 * cz z 5) 0 ∗ (View.loc (c : Thread nD τ) zM.view ↦[zM.view.set]{Transfers.shareDrop fullShare (24 * cz z 5)} fz)) := by
  unfold ZSt
  iintro ⟨H1, H2, _⟩
  isplitl [H1]; · iexact H1
  iexact H2

/-- After the last wait. -/
theorem zend (c : Dev nD) (z : Fin 5 → Bool) (G : BufOf (F := F) c dwM) (fz : BufOf (F := F) c zM) :
    (iprop(ZB c z G fz (24 * cz z 5) (NB * (24 * cz z 5)) ∗ (View.loc (c : Thread nD τ) zM.view ↦[zM.view.set]{Transfers.shareDrop fullShare (24 * cz z 5)} fz)) : sProp 𝕄)
      ⊢ |={Set.univ}=> iprop(semVal ((c : Thread nD τ), SemLoc.dma zsem) 0 ∗ own c zM fz ∗ bigSep (Finset.univ.filter fun b : Blk => z b.1 = true) fun b => own c (dwK b) G) := by
  have hsplit : (bigSep Finset.univ (zD c z G fz) : sProp 𝕄)
      ⊢ iprop((bigSep (Finset.univ.filter fun b : Blk => z b.1 = true) fun b => own c (dwK b) G)
          ∗ bigSep Finset.univ fun t : Fin (24 * cz z 5) => (View.loc (c : Thread nD τ) zM.view ↦[zM.view.set]{Transfers.shareTok fullShare (24 * cz z 5) t} fz)) := by
    refine (Entails.of_eq (bigSep_sep Finset.univ (fun t : Fin (24 * cz z 5) => bigSep (Finset.univ.filter fun b : Blk => z b.1 = true ∧ zidx z b = t.val) fun b => own c (dwK b) G)
      (fun t : Fin (24 * cz z 5) => (View.loc (c : Thread nD τ) zM.view ↦[zM.view.set]{Transfers.shareTokN fullShare t.val} fz)))).trans (sep_mono_l ?_)
    have e : (Finset.univ.filter fun b : Blk => z b.1 = true)
        = Finset.univ.biUnion fun t : Fin (24 * cz z 5) => Finset.univ.filter fun b : Blk => z b.1 = true ∧ zidx z b = t.val := by
      ext b
      simp only [Finset.mem_biUnion, Finset.mem_filter, Finset.mem_univ, true_and]
      exact ⟨fun h => ⟨⟨zidx z b, zidx_lt z b h⟩, h, rfl⟩, fun ⟨_, h, _⟩ => h⟩
    rw [e]
    exact bigSep_biUnion _ _
  unfold ZB
  iintro ⟨HB, Hz⟩
  imod (Transfers.batch_collect' EC (c : Thread nD τ) (sm := .dma zsem) (ι := ()) (N := NB) (by decide) (D := zD c z G fz)) $$ HB with ⟨HD, Hs⟩
  ihave HD := hsplit $$ HD
  icases HD with ⟨HD, HT⟩
  imodintro
  isplitl [Hs]; · iexact Hs
  isplitl [Hz HT]
  · iapply (Transfers.pointsTo_toks_join fullShare (24 * cz z 5))
    isplitl [Hz]; · iexact Hz
    iexact HT
  iexact HD

theorem zread (c : Dev nD) (f : BufOf (F := F) c zM) (inb : ∀ a, (![0, 0] : Fin 2 → ℕ) a + S512x1536.size a ≤ S512x1536.size a) :
    zM.view.read (Elt F) (zM.view.writes (Elt F) f [⟨Rect.unit (s := S512x1536) ![0, 0] S512x1536.size inb, k0_pay7 (F := F)⟩]) = fun _ => FloatOps.ofBits .f32 0#32 := by
  funext y
  rw [View.read_writes_cons_unit zM.view f inb _ [] y rfl]
  rw [dif_pos (fun a => ⟨by fin_cases a <;> exact Nat.zero_le _, by have := (y a).isLt; fin_cases a <;> exact (Nat.zero_add _).symm.subst (motive := fun n => _ < n) this⟩)]
  rfl

/-! ## The words that ask -/

theorem zero_word (w : BitVec 32) : Scalar.cmpi .ne (Scalar.extui (Scalar.cmpi .eq w 0#32)) 0#32 = 1#1 ↔ (w == 0#32) = true := by
  have e : Scalar.cmpi .eq w 0#32 = BitVec.ofBool (w == 0#32) := rfl
  rw [e]
  cases (w == 0#32) <;> decide

theorem t8_trips (w : Fin 5 → BitVec 32) : (k0_t8_loop (w 0) (w 1) (w 2) (w 3) (w 4)).trips = 24 * cz (fun e => w e == 0#32) 5 ∧ (k0_t9_loop (w 0) (w 1) (w 2) (w 3) (w 4)).trips = 0 := by
  have e : ∀ w : BitVec 32, Scalar.cmpi .eq w 0#32 = BitVec.ofBool (w == 0#32) := fun w => rfl
  unfold k0_t8_loop k0_t9_loop
  simp only [e]
  rw [show (fun e => w e == 0#32) = ![w 0 == 0#32, w 1 == 0#32, w 2 == 0#32, w 3 == 0#32, w 4 == 0#32] from by funext e; fin_cases e <;> rfl]
  generalize (w 0 == 0#32) = b0
  generalize (w 1 == 0#32) = b1
  generalize (w 2 == 0#32) = b2
  generalize (w 3 == 0#32) = b3
  generalize (w 4 == 0#32) = b4
  revert b0 b1 b2 b3 b4
  decide +kernel

theorem zoffs : ∀ t : Fin k0_t1_loop.trips, (k0_off1 t = blkOff (0, t, 0) ∧ k0_off2 t = blkOff (0, t, 1)) ∧ (k0_off3 t = blkOff (1, t, 0) ∧ k0_off4 t = blkOff (1, t, 1))
    ∧ (k0_off5 t = blkOff (2, t, 0) ∧ k0_off6 t = blkOff (2, t, 1)) ∧ (k0_off7 t = blkOff (3, t, 0) ∧ k0_off8 t = blkOff (3, t, 1))
    ∧ (k0_off9 t = blkOff (4, t, 0) ∧ k0_off10 t = blkOff (4, t, 1)) := by decide +kernel

end Cert.Kernel.Pf

end
-- ==== Proof.Body.lean ====
/- The kernel's whole body: from its arguments and scratch at hand to its results, every copy landed. -/
module

public import proofs.«01_k».proof.Proof.Zero

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A ring slot at rest. -/
def SlotFree (c : Dev nD) (s : Fin 4) : sProp 𝕄 :=
  iprop(semVal ((c : Thread nD τ), SemLoc.dma (osemK s)) 0 ∗ ∃ f, own (F := F) c (slotK s) f)

/-- What the body takes beside its windows. -/
def BodyIn (c : Dev nD) (fx : BufOf (F := F) c xM) (fd : BufOf (F := F) c dwM) : sProp 𝕄 :=
  iprop((∃ f, own (F := F) c etM f) ∗ (∃ f, own (F := F) c ntM f) ∗ (∃ f, own (F := F) c zM f) ∗ (∃ f, own (F := F) c ltM f)
    ∗ XFree (F := F) c 0 ∗ XFree (F := F) c 1 ∗ (bigSep Finset.univ fun i : Fin 12 => own c (xsl i) fx)
    ∗ (SlotFree (F := F) c 0 ∗ SlotFree (F := F) c 1 ∗ SlotFree (F := F) c 2 ∗ SlotFree (F := F) c 3)
    ∗ (bigSep Finset.univ fun b : Blk => own c (dwK b) fd) ∗ (∃ W, owes (c : Thread nD τ) 0 W))

/-- What is left of a body's run: the same at hand, with the product `G` in the result's blocks. -/
def BodyOut (c : Dev nD) (fx : BufOf (F := F) c xM) (G : BufOf (F := F) c dwM) : sProp 𝕄 := BodyIn c fx G

theorem ring_start (c : Dev nD) (nt : Fin 5 → ℕ) (G : BufOf (F := F) c dwM) :
    (iprop(SlotFree (F := F) c 0 ∗ SlotFree (F := F) c 1 ∗ SlotFree (F := F) c 2 ∗ SlotFree (F := F) c 3) : sProp 𝕄) ⊢ Ring c 0 (Done c nt G 0 0) := by
  have hD : (Done c nt G 0 0 : sProp 𝕄) = iprop(emp) := by
    unfold Done
    rw [show (Finset.univ.filter (early nt 0 0)) = (∅ : Finset Blk) from by ext b; simp [early]]
    exact bigSep_empty
  rw [hD]
  unfold Ring SlotSt SlotFree
  simp only [Nat.not_lt_zero, if_false]
  iintro ⟨⟨H0, F0⟩, ⟨H1, F1⟩, ⟨H2, F2⟩, ⟨H3, F3⟩⟩
  iexists iprop(emp); iexists iprop(emp); iexists iprop(emp); iexists iprop(emp)
  isplitl [H0 F0]
  · isplitl [H0]; · iexact H0
    isplitl [F0]; · iexact F0
    iempintro
  isplitl [H1 F1]
  · isplitl [H1]; · iexact H1
    isplitl [F1]; · iexact F1
    iempintro
  isplitl [H2 F2]
  · isplitl [H2]; · iexact H2
    isplitl [F2]; · iexact F2
    iempintro
  isplitl [H3 F3]
  · isplitl [H3]; · iexact H3
    isplitl [F3]; · iexact F3
    iempintro
  iintro ⟨_, _, _, _⟩
  iempintro

/-- The ring with all four slots under way, as what each will deliver. -/
theorem ring_open (c : Dev nD) (u : ℕ) (hu : 4 ≤ u) (P : sProp 𝕄) :
    (Ring c u P : sProp 𝕄) = iprop(∃ X0 X1 X2 X3 : sProp 𝕄,
      Transfers.Flight EC (c : Thread nD τ) (.dma (osemK 0)) () NB iprop(X0 ∗ ∃ f, own (F := F) c (slotK 0) f)
      ∗ Transfers.Flight EC (c : Thread nD τ) (.dma (osemK 1)) () NB iprop(X1 ∗ ∃ f, own (F := F) c (slotK 1) f)
      ∗ Transfers.Flight EC (c : Thread nD τ) (.dma (osemK 2)) () NB iprop(X2 ∗ ∃ f, own (F := F) c (slotK 2) f)
      ∗ Transfers.Flight EC (c : Thread nD τ) (.dma (osemK 3)) () NB iprop(X3 ∗ ∃ f, own (F := F) c (slotK 3) f)
      ∗ (iprop(X0 ∗ X1 ∗ X2 ∗ X3) -∗ P)) := by
  unfold Ring SlotSt
  simp only [show 0 < u from by omega, show 1 < u from by omega, show 2 < u from by omega, show 3 < u from by omega, if_true]

theorem cnt_pos (nt : Fin 5 → ℕ) (h : ∃ e, nt e ≠ 0) : 1 ≤ cnt nt 5 := by
  obtain ⟨e, he⟩ := h
  exact Finset.card_pos.mpr ⟨e, by simp only [Finset.mem_filter, Finset.mem_univ, true_and]; exact ⟨e.isLt, he⟩⟩

/-- The result's blocks, apart: of the experts without tokens and of the others. -/
theorem blocks_split (c : Dev nD) (nt : Fin 5 → ℕ) (z : Fin 5 → Bool) (h : ∀ e, nt e = 0 ↔ z e = true) (fd : BufOf (F := F) c dwM) :
    (bigSep Finset.univ fun b : Blk => own c (dwK b) fd : sProp 𝕄)
      = iprop((bigSep (Finset.univ.filter fun b : Blk => z b.1 = true) fun b => own c (dwK b) fd) ∗ Todo c nt fd 0 0) := by
  rw [bigSep_filter_split Finset.univ (fun b : Blk => z b.1 = true)]
  unfold Todo
  rw [show (Finset.univ.filter (late nt 0 0)) = Finset.univ.filter fun b : Blk => ¬ z b.1 = true from by
    ext b; simp only [Finset.mem_filter, Finset.mem_univ, true_and, late]
    rw [← h b.1]
    exact ⟨fun h => h.1, fun h => ⟨h, by omega⟩⟩]
  rfl
theorem blocks_join (c : Dev nD) (nt : Fin 5 → ℕ) (z : Fin 5 → Bool) (h : ∀ e, nt e = 0 ↔ z e = true) (G : BufOf (F := F) c dwM) :
    (bigSep Finset.univ fun b : Blk => own c (dwK b) G : sProp 𝕄)
      = iprop((bigSep (Finset.univ.filter fun b : Blk => z b.1 = true) fun b => own c (dwK b) G) ∗ Done c nt G 12 0) := by
  rw [bigSep_filter_split Finset.univ (fun b : Blk => z b.1 = true)]
  unfold Done
  rw [show (Finset.univ.filter (early nt 12 0)) = Finset.univ.filter fun b : Blk => ¬ z b.1 = true from by
    ext b; simp only [Finset.mem_filter, Finset.mem_univ, true_and, early]
    rw [← h b.1]
    exact ⟨fun h => h.1, fun h => ⟨h, Or.inl b.2.1.isLt⟩⟩]
  rfl
theorem blkV_zero (c : Dev nD) (a3 : Memref sig .tc .vmem S1408x3072 .i32) (gg : F .f32) (fl : BufOf (F := F) c ltM) (fr : BufOf (F := F) c a3) (t : ℕ) (k : Fin 2) :
    blkV c a3 gg fl fr 0 t k = fun _ => FloatOps.ofBits .f32 0#32 := by
  unfold blkV; split <;> rfl
theorem chunks_start (c : Dev nD) (fx : BufOf (F := F) c xM) :
    (bigSep Finset.univ fun i : Fin 12 => own c (xsl i) fx : sProp 𝕄) = iprop(own c (xsl 0) fx ∗ XChunks c fx 0) := by
  unfold XChunks
  have hins : bigSep (M := 𝕄) (insert (0 : Fin 12) (Finset.univ.filter fun i : Fin 12 => i.val ≠ 0)) (fun i => own c (xsl i) fx) = _ := bigSep_insert (by simp)
  refine Eq.trans ?_ hins
  congr 1
theorem chunks_end (c : Dev nD) (fx : BufOf (F := F) c xM) :
    (XChunks c fx 12 : sProp 𝕄) = bigSep Finset.univ fun i : Fin 12 => own c (xsl i) fx := by
  unfold XChunks; congr 1

theorem inv6_start (c : Dev nD) (a3 : Memref sig .tc .vmem S1408x3072 .i32) (nt tt : Fin 5 → ℕ) (fx : BufOf (F := F) c xM) (fr : BufOf (F := F) c a3) (G fd : BufOf (F := F) c dwM) :
    (iprop(XFly c 0 0 fx ∗ XFree (F := F) c 1 ∗ XChunks c fx 0 ∗ (∃ f, own (F := F) c ltM f) ∗ own c etM (numBuf c tt) ∗ own c ntM (numBuf c nt)
      ∗ (SlotFree (F := F) c 0 ∗ SlotFree (F := F) c 1 ∗ SlotFree (F := F) c 2 ∗ SlotFree (F := F) c 3) ∗ own c a3 fr ∗ Todo c nt fd 0 0 ∗ (∃ W, owes (c : Thread nD τ) 0 W)) : sProp 𝕄)
      ⊢ inv6 c a3 nt tt fx fr G fd 0 0#32 := by
  unfold inv6
  iintro ⟨H1, H2, H3, H4, H5, H6, H7, H8, H9, H10⟩
  isplitl []
  · ipureintro; rfl
  isplitl [H1 H2]
  · unfold XState
    rw [dif_pos (by decide)]
    isplitl [H1]; · iexact H1
    iexact H2
  isplitl [H3]; · iexact H3
  isplitl [H4]; · iexact H4
  isplitl [H5]; · iexact H5
  isplitl [H6]; · iexact H6
  isplitl [H7]
  · ihave H7 := (ring_start c nt G) $$ H7
    iexact H7
  isplitl [H8]; · iexact H8
  isplitl [H9]; · iexact H9
  iexact H10

theorem inv6_end (c : Dev nD) (a3 : Memref sig .tc .vmem S1408x3072 .i32) (nt tt : Fin 5 → ℕ) (fx : BufOf (F := F) c xM) (fr : BufOf (F := F) c a3) (G fd : BufOf (F := F) c dwM)
    (hnz : ∃ e, nt e ≠ 0) (acc : BitVec 32) :
    inv6 c a3 nt tt fx fr G fd 12 acc ⊢
    (iprop(XFree (F := F) c 0 ∗ XFree (F := F) c 1 ∗ (bigSep Finset.univ fun i : Fin 12 => own c (xsl i) fx) ∗ (∃ f, own (F := F) c ltM f) ∗ own c etM (numBuf c tt) ∗ own c ntM (numBuf c nt)
      ∗ (∃ X0 X1 X2 X3 : sProp 𝕄,
      Transfers.Flight EC (c : Thread nD τ) (.dma (osemK 0)) () NB iprop(X0 ∗ ∃ f, own (F := F) c (slotK 0) f)
      ∗ Transfers.Flight EC (c : Thread nD τ) (.dma (osemK 1)) () NB iprop(X1 ∗ ∃ f, own (F := F) c (slotK 1) f)
      ∗ Transfers.Flight EC (c : Thread nD τ) (.dma (osemK 2)) () NB iprop(X2 ∗ ∃ f, own (F := F) c (slotK 2) f)
      ∗ Transfers.Flight EC (c : Thread nD τ) (.dma (osemK 3)) () NB iprop(X3 ∗ ∃ f, own (F := F) c (slotK 3) f)
      ∗ (iprop(X0 ∗ X1 ∗ X2 ∗ X3) -∗ Done c nt G 12 0)) ∗ own c a3 fr ∗ (∃ W, owes (c : Thread nD τ) 0 W)) : sProp 𝕄) := by
  unfold inv6
  rw [chunks_end, ring_open c (2 * (cnt nt 5 * 12)) (by have := cnt_pos nt hnz; omega)]
  unfold XState
  rw [dif_neg (by decide)]
  iintro ⟨_, ⟨H1, H2⟩, H3, H4, H5, H6, H7, H8, _, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H10

theorem num_writes (c : Dev nD) (f : BufOf (F := F) c etM) (i0 i1 i2 i3 i4) (w0 w1 w2 w3 w4 : BitVec 32) (t : Fin 5 → ℕ)
    (e0 : w0 = BitVec.ofNat 32 (t 0)) (e1 : w1 = BitVec.ofNat 32 (t 1)) (e2 : w2 = BitVec.ofNat 32 (t 2)) (e3 : w3 = BitVec.ofNat 32 (t 3)) (e4 : w4 = BitVec.ofNat 32 (t 4)) :
    etM.view.writes (Elt F) f [⟨Rect.unit (s := S5) ![4] S1.size i4, fun _ => w4⟩, ⟨Rect.unit (s := S5) ![3] S1.size i3, fun _ => w3⟩, ⟨Rect.unit (s := S5) ![2] S1.size i2, fun _ => w2⟩,
      ⟨Rect.unit (s := S5) ![1] S1.size i1, fun _ => w1⟩, ⟨Rect.unit (s := S5) ![0] S1.size i0, fun _ => w0⟩] = numBuf (F := F) c t := by
  have hz : ∀ a, S1.size a = 1 := by decide
  have key : ∀ k : Fin 5, etM.view.read (Elt F) (etM.view.writes (Elt F) f [⟨Rect.unit (s := S5) ![4] S1.size i4, fun _ => w4⟩, ⟨Rect.unit (s := S5) ![3] S1.size i3, fun _ => w3⟩, ⟨Rect.unit (s := S5) ![2] S1.size i2, fun _ => w2⟩,
      ⟨Rect.unit (s := S5) ![1] S1.size i1, fun _ => w1⟩, ⟨Rect.unit (s := S5) ![0] S1.size i0, fun _ => w0⟩]) (ix5 k) = BitVec.ofNat 32 (t k) := by
    intro k
    rw [read_cell (S := S5) rfl etM.view f ![4] S1.size hz, read_cell (S := S5) rfl etM.view f ![3] S1.size hz, read_cell (S := S5) rfl etM.view f ![2] S1.size hz, read_cell (S := S5) rfl etM.view f ![1] S1.size hz, read_cell (S := S5) rfl etM.view f ![0] S1.size hz]
    subst e0 e1 e2 e3 e4
    fin_cases k
    · rw [if_neg (by decide), if_neg (by decide), if_neg (by decide), if_neg (by decide), if_pos (by decide)]; rfl
    · rw [if_neg (by decide), if_neg (by decide), if_neg (by decide), if_pos (by decide)]; rfl
    · rw [if_neg (by decide), if_neg (by decide), if_pos (by decide)]; rfl
    · rw [if_neg (by decide), if_pos (by decide)]; rfl
    · rw [if_pos (by decide)]; rfl
  funext i
  have h := key (i 0)
  rw [← ix5_surj i] at h
  exact h

/-- The first chunk under way is what the double buffer starts from. -/
theorem xfly_start (c : Dev nD) (fx : BufOf (F := F) c xM) (f' : BufOf (F := F) c (xbs 0)) :
    (iprop((View.loc c.tc (xbs 0).view ↦[(xbs 0).view.set]{fullShare}
          (xbs 0).view.writes (Elt F) f' [⟨Rect.whole S256x2816, ReadAs.same.apply ((xsl 0).view.read (Elt F) fx)⟩]) ∗
        (View.loc c.tc (xsl 0).view ↦[(xsl 0).view.set]{fullShare} fx)) : sProp 𝕄)
      ⊢ iprop(own c (xsl 0) fx ∗ ∃ f, own (F := F) c (xbs 0) f ∗ ⌜(xbs 0).view.read (Elt F) f = (xsl 0).view.read (Elt F) fx⌝) := by
  iintro ⟨H1, H2⟩
  isplitl [H2]; · iexact H2
  iexists _
  isplitl [H1]; · iexact H1
  ipureintro
  rw [View.read_writes_whole]

set_option maxHeartbeats 8000000 in
theorem read_cell24 (c : Dev nD) (a : Memref sig .tc .smem S24 .f32) (f : BufOf (F := F) c a) (n : ℕ) (inb : ∀ x, (![n] : Fin 1 → ℕ) x + S1.size x ≤ S24.size x) (w : F .f32)
    (L : List (View.Piece (Elt F) S24 .f32)) (k : Fin 24) :
    a.view.read (Elt F) (a.view.writes (Elt F) f (⟨Rect.unit (s := S24) ![n] S1.size inb, fun _ => w⟩ :: L)) (ix24 k)
      = if k.val = n then w else a.view.read (Elt F) (a.view.writes (Elt F) f L) (ix24 k) := by
  rw [read_cell (S := S24) rfl a.view f ![n] S1.size (fun a => by fin_cases a; rfl) inb w L (ix24 k)]
  refine if_congr ⟨fun h => h 0, fun h a => by fin_cases a; exact h⟩ rfl rfl

/-- The twenty-three writes that shift a history by one, read back. -/
theorem hist_read (c : Dev nD) (a : Memref sig .tc .smem S24 .f32) (f : BufOf (F := F) c a) (i1 : ∀ x, (![1] : Fin 1 → ℕ) x + S1.size x ≤ S24.size x) (i2 : ∀ x, (![2] : Fin 1 → ℕ) x + S1.size x ≤ S24.size x) (i3 : ∀ x, (![3] : Fin 1 → ℕ) x + S1.size x ≤ S24.size x) (i4 : ∀ x, (![4] : Fin 1 → ℕ) x + S1.size x ≤ S24.size x) (i5 : ∀ x, (![5] : Fin 1 → ℕ) x + S1.size x ≤ S24.size x) (i6 : ∀ x, (![6] : Fin 1 → ℕ) x + S1.size x ≤ S24.size x) (i7 : ∀ x, (![7] : Fin 1 → ℕ) x + S1.size x ≤ S24.size x) (i8 : ∀ x, (![8] : Fin 1 → ℕ) x + S1.size x ≤ S24.size x) (i9 : ∀ x, (![9] : Fin 1 → ℕ) x + S1.size x ≤ S24.size x) (i10 : ∀ x, (![10] : Fin 1 → ℕ) x + S1.size x ≤ S24.size x) (i11 : ∀ x, (![11] : Fin 1 → ℕ) x + S1.size x ≤ S24.size x) (i12 : ∀ x, (![12] : Fin 1 → ℕ) x + S1.size x ≤ S24.size x) (i13 : ∀ x, (![13] : Fin 1 → ℕ) x + S1.size x ≤ S24.size x) (i14 : ∀ x, (![14] : Fin 1 → ℕ) x + S1.size x ≤ S24.size x) (i15 : ∀ x, (![15] : Fin 1 → ℕ) x + S1.size x ≤ S24.size x) (i16 : ∀ x, (![16] : Fin 1 → ℕ) x + S1.size x ≤ S24.size x) (i17 : ∀ x, (![17] : Fin 1 → ℕ) x + S1.size x ≤ S24.size x) (i18 : ∀ x, (![18] : Fin 1 → ℕ) x + S1.size x ≤ S24.size x) (i19 : ∀ x, (![19] : Fin 1 → ℕ) x + S1.size x ≤ S24.size x) (i20 : ∀ x, (![20] : Fin 1 → ℕ) x + S1.size x ≤ S24.size x) (i21 : ∀ x, (![21] : Fin 1 → ℕ) x + S1.size x ≤ S24.size x) (i22 : ∀ x, (![22] : Fin 1 → ℕ) x + S1.size x ≤ S24.size x) (i23 : ∀ x, (![23] : Fin 1 → ℕ) x + S1.size x ≤ S24.size x) (w1 w2 w3 w4 w5 w6 w7 w8 w9 w10 w11 w12 w13 w14 w15 w16 w17 w18 w19 w20 w21 w22 w23 : F .f32) (k : Fin 23) :
    a.view.read (Elt F) (a.view.writes (Elt F) f [⟨Rect.unit (s := S24) ![23] S1.size i23, fun _ => w23⟩, ⟨Rect.unit (s := S24) ![22] S1.size i22, fun _ => w22⟩, ⟨Rect.unit (s := S24) ![21] S1.size i21, fun _ => w21⟩, ⟨Rect.unit (s := S24) ![20] S1.size i20, fun _ => w20⟩, ⟨Rect.unit (s := S24) ![19] S1.size i19, fun _ => w19⟩, ⟨Rect.unit (s := S24) ![18] S1.size i18, fun _ => w18⟩, ⟨Rect.unit (s := S24) ![17] S1.size i17, fun _ => w17⟩, ⟨Rect.unit (s := S24) ![16] S1.size i16, fun _ => w16⟩, ⟨Rect.unit (s := S24) ![15] S1.size i15, fun _ => w15⟩, ⟨Rect.unit (s := S24) ![14] S1.size i14, fun _ => w14⟩, ⟨Rect.unit (s := S24) ![13] S1.size i13, fun _ => w13⟩, ⟨Rect.unit (s := S24) ![12] S1.size i12, fun _ => w12⟩, ⟨Rect.unit (s := S24) ![11] S1.size i11, fun _ => w11⟩, ⟨Rect.unit (s := S24) ![10] S1.size i10, fun _ => w10⟩, ⟨Rect.unit (s := S24) ![9] S1.size i9, fun _ => w9⟩, ⟨Rect.unit (s := S24) ![8] S1.size i8, fun _ => w8⟩, ⟨Rect.unit (s := S24) ![7] S1.size i7, fun _ => w7⟩, ⟨Rect.unit (s := S24) ![6] S1.size i6, fun _ => w6⟩, ⟨Rect.unit (s := S24) ![5] S1.size i5, fun _ => w5⟩, ⟨Rect.unit (s := S24) ![4] S1.size i4, fun _ => w4⟩, ⟨Rect.unit (s := S24) ![3] S1.size i3, fun _ => w3⟩, ⟨Rect.unit (s := S24) ![2] S1.size i2, fun _ => w2⟩, ⟨Rect.unit (s := S24) ![1] S1.size i1, fun _ => w1⟩]) (ix24 k.succ)
      = (![w1, w2, w3, w4, w5, w6, w7, w8, w9, w10, w11, w12, w13, w14, w15, w16, w17, w18, w19, w20, w21, w22, w23] : Fin 23 → F .f32) k := by
  iterate 23 rw [read_cell24]
  fin_cases k <;> rfl

set_option maxHeartbeats 8000000 in
theorem body_wp (c : Dev nD)
    (a0 : Memref sig .tc .smem S5 .i32) (h0 : a0.IsWhole) (a1 : Memref sig .tc .smem S24 .f32) (h1 : a1.IsWhole)
    (a2 : Memref sig .tc .smem S24 .f32) (h2 : a2.IsWhole) (a3 : Memref sig .tc .vmem S1408x3072 .i32) (h3 : a3.IsWhole)
    (a6 : Memref sig .tc .smem S1 .f32) (h6 : a6.IsWhole) (a7 : Memref sig .tc .smem S1 .f32) (h7 : a7.IsWhole)
    (a8 : Memref sig .tc .smem S24 .f32) (h8 : a8.IsWhole) (a9 : Memref sig .tc .smem S24 .f32) (h9 : a9.IsWhole)
    (f0 : BufOf (F := F) c a0) (f1 : BufOf (F := F) c a1) (f2 : BufOf (F := F) c a2) (f3 : BufOf (F := F) c a3) (f6 : BufOf (F := F) c a6) (f7 : BufOf (F := F) c a7)
    (f8 : BufOf (F := F) c a8) (f9 : BufOf (F := F) c a9) (fx : BufOf (F := F) c xM) (fd G : BufOf (F := F) c dwM)
    (g : Fin 5 → BitVec 32) (hg : ∀ e, a0.view.read (Elt F) f0 (ix5 e) = g e) (hsum : Tokens g)
    (hblk : ∀ b : Blk, (dwK b).view.read (Elt F) G = blkV c a3 (k0_pay17 (gX (hv c a1 f1)) (gY (hv c a2 f2))) (ltq c fx b.2.1) f3 (ntOf g b.1) (ttOf g b.1) b.2.2)
    (Q : PUnit → sProp 𝕄) :
    iprop(own c a0 f0 ∗ own c a1 f1 ∗ own c a2 f2 ∗ own c a3 f3 ∗ own c a6 f6 ∗ own c a7 f7 ∗ own c a8 f8 ∗ own c a9 f9 ∗ BodyIn c fx fd ∗ semVal ((c : Thread nD τ), SemLoc.dma zsem) 0
      ∗ (iprop(own c a0 f0 ∗ own c a1 f1 ∗ own c a2 f2 ∗ own c a3 f3
          ∗ (∃ g6, own c a6 g6 ∗ ⌜∀ i, a6.view.read (Elt F) g6 i = k0_pay15 (gX (hv c a1 f1))⌝)
          ∗ (∃ g7, own c a7 g7 ∗ ⌜∀ i, a7.view.read (Elt F) g7 i = k0_pay15 (gY (hv c a2 f2))⌝)
          ∗ (∃ g8, own c a8 g8 ∗ ⌜∀ k : Fin 23, a8.view.read (Elt F) g8 (ix24 k.succ) = hv c a1 f1 k.castSucc⌝)
          ∗ (∃ g9, own c a9 g9 ∗ ⌜∀ k : Fin 23, a9.view.read (Elt F) g9 (ix24 k.succ) = hv c a2 f2 k.castSucc⌝)
          ∗ BodyOut c fx G ∗ semVal ((c : Thread nD τ), SemLoc.dma zsem) 0) -∗ Q ⟨⟩))
      ⊢ wp frame (wpE (defs₀ (F := F)) Variants.none c none) Set.univ (cc0_nvfp4_wgrad a0 h0 a1 h1 a2 h2 a3 h3 xM (Memref.isWhole_whole _) dwM (Memref.isWhole_whole _) a6 h6 a7 h7 a8 h8 a9 h9 etM (Memref.isWhole_whole _) ntM (Memref.isWhole_whole _) ltM (Memref.isWhole_whole _) stM (Memref.isWhole_whole _) zM (Memref.isWhole_whole _) xbM (Memref.isWhole_whole _) cc0_scratch6 cc0_scratch7 cc0_scratch8) Q := by
  have hgp : ∀ (n : ℕ) (hn : n < 5) (inb : ∀ x, (![n] : Fin 1 → ℕ) x + S1.size x ≤ S5.size x) (x : S1.Idx),
      View.readAt (Elt F) a0.view (Rect.unit (s := S5) ![n] S1.size inb).toLoadRect f0 x = g ⟨n, hn⟩ := fun n hn inb x => (cell5 c a0 f0 n hn inb x).trans (hg _)
  have hnz : ∃ e, ntOf g e ≠ 0 := by
    by_contra hne
    have h0 : ∀ e, (g e).toNat = 0 := fun e => by
      have : ntOf g e = 0 := by_contra fun h => hne ⟨e, h⟩
      unfold ntOf tiles at this; omega
    have := hsum.1
    simp [h0] at this
  have hz : ∀ e, ntOf g e = 0 ↔ (g e == 0#32) = true := fun e => by
    rw [beq_iff_eq]
    unfold ntOf tiles
    refine ⟨fun h => BitVec.eq_of_toNat_eq (by show (g e).toNat = 0; omega), fun h => by rw [h]; rfl⟩
  have hP : Plan c a3 (k0_pay17 (gX (hv c a1 f1)) (gY (hv c a2 f2))) (ntOf g) (ttOf g) (ltq c fx) f3 G :=
    ⟨le11_of g hsum, le6_of g hsum, hnz, fun b _ => hblk b⟩
  unfold BodyOut BodyIn XFree
  rw [chunks_start]
  iintro ⟨H0, H1, H2, H3, H6, H7, H8, H9, ⟨⟨%fe, He⟩, ⟨%fn, Hn⟩, ⟨%fz, Hz⟩, ⟨%fl, Hl⟩, ⟨Hv, ⟨%f, Hb⟩⟩, HX1, ⟨Hx, Hxs⟩, HS, HD, ⟨%W, HO⟩⟩, Hs, HK⟩
  rw [cc0_nvfp4_wgrad_eq_skeleton]
  unfold cc0_nvfp4_wgrad_skel
  sl_exec
  have hG : ∀ b : Blk, (g b.1 == 0#32) = true → (dwK b).view.read (Elt F) G
      = zM.view.read (Elt F) (zM.view.writes (Elt F) fz [⟨Rect.unit (s := S512x1536) ![0, 0] S512x1536.size inb_S512x1536_S512x1536_0_0, k0_pay7 (F := F)⟩]) := fun b hb => by
    rw [hblk b, (hz b.1).mpr hb, blkV_zero, zread]
  ihave HD := (Entails.of_eq (blocks_split c (ntOf g) (fun e => g e == 0#32) hz fd)) $$ HD
  icases HD with ⟨HD0, HD⟩
  imod (zstart c (fun e => g e == 0#32) G fd _) $$ [Hs Hz HD0] with HZ
  · isplitl [Hs]; · iexact Hs
    isplitl [Hz]; · iexact Hz
    iexact HD0
  iapply (zif_wp c (fun e => g e == 0#32) G fd _ hG 0 (body_wp.sl.v67 c a0 f0) ((zero_word _).trans (Iff.of_eq (congrArg (fun w : BitVec 32 => (w == 0#32) = true) (hgp 0 (by decide) inb_S5_S1_0 (Shape.Idx.first (show 0 < S1.numel by decide)))))) k0_off1 k0_off2
    (fun t => k0_off1_inb t) (fun t => k0_off2_inb t) (fun t => (zoffs t).1.1) (fun t => (zoffs t).1.2) _ rfl)
  isplitl [HZ]; · iexact HZ
  iintro HZ
  sl_exec
  iapply (zif_wp c (fun e => g e == 0#32) G fd _ hG 1 (body_wp.sl.v71 c a0 f0) ((zero_word _).trans (Iff.of_eq (congrArg (fun w : BitVec 32 => (w == 0#32) = true) (hgp 1 (by decide) inb_S5_S1_1 (Shape.Idx.first (show 0 < S1.numel by decide)))))) k0_off3 k0_off4
    (fun t => k0_off3_inb t) (fun t => k0_off4_inb t) (fun t => (zoffs t).2.1.1) (fun t => (zoffs t).2.1.2) _ rfl)
  isplitl [HZ]; · iexact HZ
  iintro HZ
  sl_exec
  iapply (zif_wp c (fun e => g e == 0#32) G fd _ hG 2 (body_wp.sl.v75 c a0 f0) ((zero_word _).trans (Iff.of_eq (congrArg (fun w : BitVec 32 => (w == 0#32) = true) (hgp 2 (by decide) inb_S5_S1_2 (Shape.Idx.first (show 0 < S1.numel by decide)))))) k0_off5 k0_off6
    (fun t => k0_off5_inb t) (fun t => k0_off6_inb t) (fun t => (zoffs t).2.2.1.1) (fun t => (zoffs t).2.2.1.2) _ rfl)
  isplitl [HZ]; · iexact HZ
  iintro HZ
  sl_exec
  iapply (zif_wp c (fun e => g e == 0#32) G fd _ hG 3 (body_wp.sl.v79 c a0 f0) ((zero_word _).trans (Iff.of_eq (congrArg (fun w : BitVec 32 => (w == 0#32) = true) (hgp 3 (by decide) inb_S5_S1_3 (Shape.Idx.first (show 0 < S1.numel by decide)))))) k0_off7 k0_off8
    (fun t => k0_off7_inb t) (fun t => k0_off8_inb t) (fun t => (zoffs t).2.2.2.1.1) (fun t => (zoffs t).2.2.2.1.2) _ rfl)
  isplitl [HZ]; · iexact HZ
  iintro HZ
  sl_exec
  iapply (zif_wp c (fun e => g e == 0#32) G fd _ hG 4 (body_wp.sl.v83 c a0 f0) ((zero_word _).trans (Iff.of_eq (congrArg (fun w : BitVec 32 => (w == 0#32) = true) (hgp 4 (by decide) inb_S5_S1_4 (Shape.Idx.first (show 0 < S1.numel by decide)))))) k0_off9 k0_off10
    (fun t => k0_off9_inb t) (fun t => k0_off10_inb t) (fun t => (zoffs t).2.2.2.2.1) (fun t => (zoffs t).2.2.2.2.2) _ rfl)
  isplitl [HZ]; · iexact HZ
  iintro HZ
  sl_exec
  have hT : ∀ (n : ℕ) (hn : n < 5) (inb : ∀ x, (![n] : Fin 1 → ℕ) x + S1.size x ≤ S5.size x) (x : S1.Idx),
      Scalar.shrui (Scalar.addi (Scalar.shrui (Scalar.addi (View.readAt (Elt F) a0.view (Rect.unit (s := S5) ![n] S1.size inb).toLoadRect f0 x : BitVec 32) 15#32) 4#32) 15#32) 4#32 = BitVec.ofNat 32 (ntOf g ⟨n, hn⟩) := by
    intro n hn inb x
    rw [hgp n hn]
    exact tile_word _ (tiles_le g hsum _)
  have hN0 : body_wp.sl.v10 c a0 f0 = BitVec.ofNat 32 (ntOf g 0) := hT 0 (by decide) _ _
  have hN1 : body_wp.sl.v21 c a0 f0 = BitVec.ofNat 32 (ntOf g 1) := hT 1 (by decide) _ _
  have hN2 : body_wp.sl.v32 c a0 f0 = BitVec.ofNat 32 (ntOf g 2) := hT 2 (by decide) _ _
  have hN3 : body_wp.sl.v43 c a0 f0 = BitVec.ofNat 32 (ntOf g 3) := hT 3 (by decide) _ _
  have hN4 : body_wp.sl.v54 c a0 f0 = BitVec.ofNat 32 (ntOf g 4) := hT 4 (by decide) _ _
  have hE1 : body_wp.sl.v13 c a0 f0 = BitVec.ofNat 32 (ttOf g 1) := by
    show Scalar.addi 0#32 (body_wp.sl.v10 c a0 f0) = _
    rw [hN0]; exact (add_word 0 _).trans (by rw [Nat.zero_add]; rfl)
  have hE2 : body_wp.sl.v24 c a0 f0 = BitVec.ofNat 32 (ttOf g 2) := by
    show Scalar.addi (body_wp.sl.v13 c a0 f0) (body_wp.sl.v21 c a0 f0) = _
    rw [hE1, hN1]; exact add_word _ _
  have hE3 : body_wp.sl.v35 c a0 f0 = BitVec.ofNat 32 (ttOf g 3) := by
    show Scalar.addi (body_wp.sl.v24 c a0 f0) (body_wp.sl.v32 c a0 f0) = _
    rw [hE2, hN2]; exact add_word _ _
  have hE4 : body_wp.sl.v46 c a0 f0 = BitVec.ofNat 32 (ttOf g 4) := by
    show Scalar.addi (body_wp.sl.v35 c a0 f0) (body_wp.sl.v43 c a0 f0) = _
    rw [hE3, hN3]; exact add_word _ _
  have hh : ∀ (a : Memref sig .tc .smem S24 .f32) (f : BufOf (F := F) c a), hv c a f = fun k : Fin 24 => View.readAt (Elt F) a.view (Rect.unit (s := S24) ![k.val] S1.size (fun x => by have := k.isLt; fin_cases x; show k.val + 1 ≤ 24; omega)).toLoadRect f (Shape.Idx.first (show 0 < S1.numel by decide)) :=
    fun a f => funext fun k => (cell24 c a f k.val k.isLt _ _).symm
  have eX : body_wp.sl.r_65 c a1 f1 = gX (hv c a1 f1) := by rw [hh]; rfl
  have eY : body_wp.sl.r_79 c a2 f2 = gY (hv c a2 f2) := by rw [hh]; rfl
  rw [eX, eY]
  iapply (t6_loop c a0 h0 a1 h1 a2 h2 a3 h3 a6 h6 a7 h7 a8 h8 a9 h9 (gX (hv c a1 f1)) (gY (hv c a2 f2)) _ 0#32 (ntOf g) (ttOf g) fx f3 G fd hP _ _)
  isplitl [Hv HX1 Hxs Hl He Hn HS H3 HD HO]
  · iapply (inv6_start c a3 (ntOf g) (ttOf g) fx f3 G fd)
    isplitl [Hv]
    · exact (Transfers.Flight_mono EC (c : Thread nD τ) (xfly_start c fx f))
    isplitl [HX1]; · (unfold XFree; iexact HX1)
    isplitl [Hxs]; · iexact Hxs
    isplitl [Hl]; · iexists _; iexact Hl
    isplitl [He]
    · rw [← num_writes c etM.view.junk inb_S5_S1_0 inb_S5_S1_1 inb_S5_S1_2 inb_S5_S1_3 inb_S5_S1_4 0#32 _ _ _ _ (ttOf g) rfl hE1 hE2 hE3 hE4]
      iexact He
    isplitl [Hn]
    · rw [← num_writes c etM.view.junk inb_S5_S1_0 inb_S5_S1_1 inb_S5_S1_2 inb_S5_S1_3 inb_S5_S1_4 _ _ _ _ _ (ntOf g) hN0 hN1 hN2 hN3 hN4]
      iexact Hn
    isplitl [HS]; · iexact HS
    isplitl [H3]; · iexact H3
    isplitl [HD]; · iexact HD
    iexists _; iexact HO
  iintro %acc' HI
  ihave HI := (inv6_end c a3 (ntOf g) (ttOf g) fx f3 G fd hnz acc') $$ HI
  icases HI with ⟨HX0, HX1, Hxs, Hl, He, Hn, ⟨%X0, %X1, %X2, %X3, F0, F1, F2, F3, HPP⟩, H3, ⟨%W', HO⟩⟩
  sl_exec
  have w0 : body_wp.sl.r c a0 f0 = g 0 := hgp 0 (by decide) _ _
  have w1 : body_wp.sl.r_3 c a0 f0 = g 1 := hgp 1 (by decide) _ _
  have w2 : body_wp.sl.r_6 c a0 f0 = g 2 := hgp 2 (by decide) _ _
  have w3 : body_wp.sl.r_9 c a0 f0 = g 3 := hgp 3 (by decide) _ _
  have w4 : body_wp.sl.r_12 c a0 f0 = g 4 := hgp 4 (by decide) _ _
  have htr8 : (k0_t8_loop (body_wp.sl.r c a0 f0) (body_wp.sl.r_3 c a0 f0) (body_wp.sl.r_6 c a0 f0) (body_wp.sl.r_9 c a0 f0) (body_wp.sl.r_12 c a0 f0)).trips = 24 * cz (fun e => g e == 0#32) 5 := by
    rw [w0, w1, w2, w3, w4]; exact (t8_trips g).1
  have htr9 : (k0_t9_loop (body_wp.sl.r c a0 f0) (body_wp.sl.r_3 c a0 f0) (body_wp.sl.r_6 c a0 f0) (body_wp.sl.r_9 c a0 f0) (body_wp.sl.r_12 c a0 f0)).trips = 0 := by
    rw [w0, w1, w2, w3, w4]; exact (t8_trips g).2
  rw [show (SemArray.squeeze (SemArray.slice cc0_scratch7 (Rect.unit (s := S4) ![0] S1.size inb_S4_S1_0)) S_ squeezes_S1_S_).sem = osemK 0 from rfl]
  iapply (Transfers.wp_waitLocal EC Variants.none (c : Thread nD τ) none () (N := NB) rfl) $$ [F0 HO]
  · isplitl [F0] <;> iassumption
  iintro ⟨⟨X0, HS0⟩, F0, HO⟩
  sl_exec
  rw [show (SemArray.squeeze (SemArray.slice cc0_scratch7 (Rect.unit (s := S4) ![1] S1.size inb_S4_S1_1)) S_ squeezes_S1_S_).sem = osemK 1 from rfl]
  iapply (Transfers.wp_waitLocal EC Variants.none (c : Thread nD τ) none () (N := NB) rfl) $$ [F1 HO]
  · isplitl [F1] <;> iassumption
  iintro ⟨⟨X1, HS1⟩, F1, HO⟩
  sl_exec
  rw [show (SemArray.squeeze (SemArray.slice cc0_scratch7 (Rect.unit (s := S4) ![2] S1.size inb_S4_S1_2)) S_ squeezes_S1_S_).sem = osemK 2 from rfl]
  iapply (Transfers.wp_waitLocal EC Variants.none (c : Thread nD τ) none () (N := NB) rfl) $$ [F2 HO]
  · isplitl [F2] <;> iassumption
  iintro ⟨⟨X2, HS2⟩, F2, HO⟩
  sl_exec
  rw [show (SemArray.squeeze (SemArray.slice cc0_scratch7 (Rect.unit (s := S4) ![3] S1.size inb_S4_S1_3)) S_ squeezes_S1_S_).sem = osemK 3 from rfl]
  iapply (Transfers.wp_waitLocal EC Variants.none (c : Thread nD τ) none () (N := NB) rfl) $$ [F3 HO]
  · isplitl [F3] <;> iassumption
  iintro ⟨⟨X3, HS3⟩, F3, HO⟩
  sl_exec
  ihave HZ := (zlast c (fun e => g e == 0#32) G fd _) $$ HZ
  icases HZ with ⟨HB, HZ⟩
  iapply (zdrain_wp c (fun e => g e == 0#32) G _ _ _ htr8 _ rfl)
  isplitl [HB]; · iexact HB
  isplitl [HO]; · iexists _; iexact HO
  iintro ⟨HB, ⟨%W2, HO⟩⟩
  imod (zend c (fun e => g e == 0#32) G _) $$ [HB HZ] with ⟨Hs, Hz, HD0⟩
  · isplitl [HB]; · iexact HB
    iexact HZ
  sl_exec
  sl_step
  iapply HK
  isplitl [H0]; · iexact H0
  isplitl [H1]; · iexact H1
  isplitl [H2]; · iexact H2
  isplitl [H3]; · iexact H3
  isplitl [H6]
  · iexists _
    isplitl [H6]; · iexact H6
    ipureintro
    intro i
    refine (read_cell (S := S1) rfl a6.view a6.view.junk ![0] S1.size (fun a => by fin_cases a; rfl) inb_S1_S1_0 (k0_pay15 (body_wp.sl.r_65 c a1 f1)) [] i).trans ?_
    rw [if_pos (fun a => by fin_cases a; have : (i 0).val < 1 := (i 0).isLt; show (i 0).val = 0; omega), eX]
  isplitl [H7]
  · iexists _
    isplitl [H7]; · iexact H7
    ipureintro
    intro i
    refine (read_cell (S := S1) rfl a7.view a7.view.junk ![0] S1.size (fun a => by fin_cases a; rfl) inb_S1_S1_0 (k0_pay15 (body_wp.sl.r_79 c a2 f2)) [] i).trans ?_
    rw [if_pos (fun a => by fin_cases a; have : (i 0).val < 1 := (i 0).isLt; show (i 0).val = 0; omega), eY]
  isplitl [H8]
  · iexists _
    isplitl [H8]; · iexact H8
    ipureintro
    intro k
    refine (hist_read c a8 _ _ _ _ _ _ _ _ _ _ _ _ _ _ _ _ _ _ _ _ _ _ _ _ _ _ _ _ _ _ _ _ _ _ _ _ _ _ _ _ _ _ _ _ _ _ _ k).trans ?_
    rw [hh]
    fin_cases k <;> rfl
  isplitl [H9]
  · iexists _
    isplitl [H9]; · iexact H9
    ipureintro
    intro k
    refine (hist_read c a9 _ _ _ _ _ _ _ _ _ _ _ _ _ _ _ _ _ _ _ _ _ _ _ _ _ _ _ _ _ _ _ _ _ _ _ _ _ _ _ _ _ _ _ _ _ _ _ k).trans ?_
    rw [hh]
    fin_cases k <;> rfl
  isplitr [Hs]
  swap
  · iexact Hs
  isplitl [He]; · iexists _; iexact He
  isplitl [Hn]; · iexists _; iexact Hn
  isplitl [Hz]; · iexists _; iexact Hz
  isplitl [Hl]; · iexact Hl
  isplitl [HX0]; · (unfold XFree; iexact HX0)
  isplitl [HX1]; · (unfold XFree; iexact HX1)
  isplitl [Hxs]; · (rw [← chunks_start]; iexact Hxs)
  isplitl [HS0 F0 HS1 F1 HS2 F2 HS3 F3]
  · unfold SlotFree
    isplitl [HS0 F0]
    · isplitl [F0] <;> iassumption
    isplitl [HS1 F1]
    · isplitl [F1] <;> iassumption
    isplitl [HS2 F2]
    · isplitl [F2] <;> iassumption
    isplitl [F3] <;> iassumption
  isplitl [HPP X0 X1 X2 X3 HD0]
  · rw [blocks_join c (ntOf g) (fun e => g e == 0#32) hz G]
    isplitl [HD0]; · iexact HD0
    iapply HPP
    isplitl [X0]; · iexact X0
    isplitl [X1]; · iexact X1
    isplitl [X2]; · iexact X2
    iexact X3
  iexists _; iexact HO

end Cert.Kernel.Pf

end
-- ==== Proof.Pieces.lean ====
/- The kernel's buffers cut into the pieces its body works on, and joined again. -/
module

public import proofs.«01_k».proof.Proof.Body
public import Idealize.ShloMosaic.Lib.Ring.FamCut
public import Idealize.ShloMosaic.Lib.ViewIndex

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem disj_slot (s s' : Fin 4) (h : s ≠ s') : Disjoint (slotK s).view.set (slotK s').view.set := by
  have h1 := Fin.val_ne_of_ne h
  have := View.disjoint_slice (v := stM.view) (Rect.unit_disjoint (s := S4x512x1536) (inb := inbSt s) (inb' := inbSt s') 0
    (show s.val + 1 ≤ s'.val ∨ s'.val + 1 ≤ s.val by omega))
  rw [show (slotK s).view.set = _ from View.set_reshape _ _, show (slotK s').view.set = _ from View.set_reshape _ _]
  exact this
theorem disj_xbs (s s' : Fin 2) (h : s ≠ s') : Disjoint (xbs s).view.set (xbs s').view.set := by
  have h1 := Fin.val_ne_of_ne h
  have := View.disjoint_slice (v := xbM.view) (Rect.unit_disjoint (s := S2x256x2816) (inb := inbXb s) (inb' := inbXb s') 0
    (show s.val + 1 ≤ s'.val ∨ s'.val + 1 ≤ s.val by omega))
  rw [show (xbs s).view.set = _ from View.set_reshape _ _, show (xbs s').view.set = _ from View.set_reshape _ _]
  exact this
theorem disj_xsl (s s' : Fin 12) (h : s ≠ s') : Disjoint (xsl s).view.set (xsl s').view.set := by
  have h1 := Fin.val_ne_of_ne h
  have := View.disjoint_slice (v := xM.view) (Rect.unit_disjoint (s := S12x256x2816) (inb := inbXh s) (inb' := inbXh s') 0
    (show s.val + 1 ≤ s'.val ∨ s'.val + 1 ≤ s.val by omega))
  rw [show (xsl s).view.set = _ from View.set_reshape _ _, show (xsl s').view.set = _ from View.set_reshape _ _]
  exact this
theorem disj_dw (b b' : Blk) (h : b ≠ b') : Disjoint (dwK b).view.set (dwK b').view.set := by
  obtain ⟨e, q, k⟩ := b
  obtain ⟨e', q', k'⟩ := b'
  rw [show (dwK (e, q, k)).view.set = _ from View.set_reshape _ _, show (dwK (e', q', k')).view.set = _ from View.set_reshape _ _]
  by_cases h1 : e = e'
  · by_cases h2 : q = q'
    · have h3 : k.val ≠ k'.val := fun h3 => h (by rw [h1, h2, Fin.ext h3])
      exact View.disjoint_slice (v := dwM.view) (Rect.unit_disjoint (s := S5x6144x3072) (inb := inbBlk (e, q, k)) (inb' := inbBlk (e', q', k')) 2
        (show 1536 * k.val + 1536 ≤ 1536 * k'.val ∨ 1536 * k'.val + 1536 ≤ 1536 * k.val by omega))
    · have h3 := Fin.val_ne_of_ne h2
      exact View.disjoint_slice (v := dwM.view) (Rect.unit_disjoint (s := S5x6144x3072) (inb := inbBlk (e, q, k)) (inb' := inbBlk (e', q', k')) 1
        (show 512 * q.val + 512 ≤ 512 * q'.val ∨ 512 * q'.val + 512 ≤ 512 * q.val by omega))
  · have h3 := Fin.val_ne_of_ne h1
    exact View.disjoint_slice (v := dwM.view) (Rect.unit_disjoint (s := S5x6144x3072) (inb := inbBlk (e, q, k)) (inb' := inbBlk (e', q', k')) 0
      (show e.val + 1 ≤ e'.val ∨ e'.val + 1 ≤ e.val by omega))

/-- The elements of a block of the result. -/
abbrev dwSet (c : Dev nD) (b : Blk) : Finset (Idx ((c : Thread nD τ).loc main_v0_0)) := (dwK b).view.set

/-- Contents of the result that hold a given block in each block, and old contents elsewhere. -/
theorem glue (c : Dev nD) (fd : BufOf (F := F) c dwM) (v : Blk → FVec F S512x1536 .f32) :
    ∃ G : BufOf (F := F) c dwM, (∀ b, (dwK b).view.read (Elt F) G = v b) ∧ ∀ i, (∀ b : Blk, i ∉ dwSet c b) → G i = fd i := by
  classical
  let put (b : Blk) : BufOf (F := F) c dwM := (dwK b).view.write (Elt F) fd (v b) Finset.univ
  refine ⟨fun i => if h : ∃ b : Blk, i ∈ dwSet c b then put h.choose i else fd i, fun b => ?_, fun i hi => ?_⟩
  · have hp : (dwK b).view.read (Elt F) (put b) = v b := View.read_write_univ ..
    rw [← hp]
    funext x
    rw [View.read_apply, View.read_apply]
    congr 1
    have hm : (dwK b).view.emb x ∈ dwSet c b := View.emb_mem_set _ x
    have hx : ∃ b' : Blk, (dwK b).view.emb x ∈ dwSet c b' := ⟨b, hm⟩
    have hb : hx.choose = b := by
      by_contra hne
      exact (Finset.disjoint_left (s := dwSet c hx.choose) (t := dwSet c b)).mp (disj_dw hx.choose b hne) hx.choose_spec hm
    exact (dif_pos hx).trans (by rw [hb])
  · show (if h : ∃ b : Blk, i ∈ dwSet c b then put h.choose i else fd i) = fd i
    rw [dif_neg (fun ⟨b, hb⟩ => hi b hb)]

theorem own_whole (c : Dev nD) (b : Ref sig .tc) (f : BufOf (F := F) c (Memref.whole b)) :
    (own (F := F) c (Memref.whole b) f : sProp 𝕄) = (((c : Thread nD τ).loc b) ↦{fullShare} f) := by
  show (_ ↦[(View.whole b).set]{fullShare} f : sProp 𝕄) = _
  rw [View.set_whole]

theorem ex_whole (c : Dev nD) (b : Ref sig .tc) :
    (iprop(∃ f, own (F := F) c (Memref.whole b) f) : sProp 𝕄) = iprop(∃ f : Buf (Elt F) ((c : Thread nD τ).loc b), (((c : Thread nD τ).loc b) ↦{fullShare} f)) := by
  congr 1; funext f; exact own_whole c b f

/-- The elements of a slot of the output ring, of a slot of the words' ring, of a chunk of the words. -/
abbrev slSet (c : Dev nD) (s : Fin 4) : Finset (Idx ((c : Thread nD τ).loc cc0_scratch3)) := (slotK s).view.set
abbrev xbSet (c : Dev nD) (s : Fin 2) : Finset (Idx ((c : Thread nD τ).loc cc0_scratch5)) := (xbs s).view.set
abbrev xsSet (c : Dev nD) (s : Fin 12) : Finset (Idx ((c : Thread nD τ).loc main_arg4)) := (xsl s).view.set

/-- What the pieces leave of their buffers. -/
def Rests (c : Dev nD) (fx : BufOf (F := F) c xM) (fd : BufOf (F := F) c dwM) : sProp 𝕄 :=
  iprop((∃ f : Buf (Elt F) ((c : Thread nD τ).loc cc0_scratch3), (c : Thread nD τ).loc cc0_scratch3 ↦[Ring.restOf (slSet c)]{fullShare} f)
    ∗ (∃ f : Buf (Elt F) ((c : Thread nD τ).loc cc0_scratch5), (c : Thread nD τ).loc cc0_scratch5 ↦[Ring.restOf (xbSet c)]{fullShare} f)
    ∗ ((c : Thread nD τ).loc main_arg4 ↦[Ring.restOf (xsSet c)]{fullShare} fx)
    ∗ ((c : Thread nD τ).loc main_v0_0 ↦[Ring.restOf (dwSet c)]{fullShare} fd))

/-- The buffers whole and the semaphores at zero, as the launch hands them. -/
def Wholes (c : Dev nD) (fx : BufOf (F := F) c xM) (fd : BufOf (F := F) c dwM) : sProp 𝕄 :=
  iprop(((∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
      ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
    ∗ (semVal ((c : Thread nD τ), SemLoc.dma (xsem 0)) 0 ∗ semVal ((c : Thread nD τ), SemLoc.dma (xsem 1)) 0
      ∗ semVal ((c : Thread nD τ), SemLoc.dma (osemK 0)) 0 ∗ semVal ((c : Thread nD τ), SemLoc.dma (osemK 1)) 0
      ∗ semVal ((c : Thread nD τ), SemLoc.dma (osemK 2)) 0 ∗ semVal ((c : Thread nD τ), SemLoc.dma (osemK 3)) 0)
    ∗ (((c : Thread nD τ).loc main_arg4) ↦{fullShare} fx) ∗ (((c : Thread nD τ).loc main_v0_0) ↦{fullShare} fd))

theorem sl_four (c : Dev nD) (Φ : Fin 4 → sProp 𝕄) : (bigSep Finset.univ Φ : sProp 𝕄) = iprop(Φ 0 ∗ Φ 1 ∗ Φ 2 ∗ Φ 3) :=
  bigSep_univ_eq_bigSepL [(0 : Fin 4), 1, 2, 3] (by decide) (by decide) Φ
theorem sl_two (c : Dev nD) (Φ : Fin 2 → sProp 𝕄) : (bigSep Finset.univ Φ : sProp 𝕄) = iprop(Φ 0 ∗ Φ 1) :=
  bigSep_univ_eq_bigSepL [(0 : Fin 2), 1] (by decide) (by decide) Φ

theorem body_in (c : Dev nD) (fx : BufOf (F := F) c xM) (fd : BufOf (F := F) c dwM) :
    iprop(Wholes c fx fd ∗ (∃ W, owes (c : Thread nD τ) 0 W)) ⊢ (iprop(BodyIn c fx fd ∗ Rests c fx fd) : sProp 𝕄) := by
  unfold Wholes BodyIn Rests XFree SlotFree
  rw [show (iprop(∃ f, own (F := F) c etM f) : sProp 𝕄) = _ from ex_whole c cc0_scratch0, show (iprop(∃ f, own (F := F) c ntM f) : sProp 𝕄) = _ from ex_whole c cc0_scratch1, show (iprop(∃ f, own (F := F) c zM f) : sProp 𝕄) = _ from ex_whole c cc0_scratch4, show (iprop(∃ f, own (F := F) c ltM f) : sProp 𝕄) = _ from ex_whole c cc0_scratch2]
  iintro ⟨⟨⟨H2, H3, H4, H5, H0, H1⟩, ⟨X0, X1, O0, O1, O2, O3⟩, Hx, Hd⟩, HO⟩
  ihave H3 := (Ring.fam_split_ex (slSet c) disj_slot) $$ H3
  ihave H5 := (Ring.fam_split_ex (xbSet c) disj_xbs) $$ H5
  ihave Hx := (Ring.fam_split (xsSet c) disj_xsl fx) $$ Hx
  ihave Hd := (Ring.fam_split (dwSet c) disj_dw fd) $$ Hd
  rw [sl_four c, sl_two c]
  icases H3 with ⟨⟨S0, S1, S2, S3⟩, HR3⟩
  icases H5 with ⟨⟨B0, B1⟩, HR5⟩
  icases Hx with ⟨Hx, HRx⟩
  icases Hd with ⟨Hd, HRd⟩
  isplitr [HR3 HR5 HRx HRd]
  · isplitl [H0]; · iexact H0
    isplitl [H1]; · iexact H1
    isplitl [H4]; · iexact H4
    isplitl [H2]; · iexact H2
    isplitl [X0 B0]
    · isplitl [X0]; · iexact X0
      iexact B0
    isplitl [X1 B1]
    · isplitl [X1]; · iexact X1
      iexact B1
    isplitl [Hx]; · iexact Hx
    isplitr [Hd HO]
    · isplitl [O0 S0]
      · isplitl [O0]; · iexact O0
        iexact S0
      isplitl [O1 S1]
      · isplitl [O1]; · iexact O1
        iexact S1
      isplitl [O2 S2]
      · isplitl [O2]; · iexact O2
        iexact S2
      isplitl [O3]; · iexact O3
      iexact S3
    isplitl [Hd]; · iexact Hd
    iexact HO
  · isplitl [HR3]; · iexact HR3
    isplitl [HR5]; · iexact HR5
    isplitl [HRx]; · iexact HRx
    iexact HRd

theorem rest_join {c : Dev nD} {b : Ref sig .tc} {B : Type} [Fintype B] [DecidableEq B] (I : B → Finset (Idx ((c : Thread nD τ).loc b)))
    (hd : ∀ x y, x ≠ y → Disjoint (I x) (I y)) (f : Buf (Elt F) ((c : Thread nD τ).loc b)) :
    (iprop((bigSep Finset.univ fun x => (c : Thread nD τ).loc b ↦[I x]{fullShare} f) ∗ ((c : Thread nD τ).loc b ↦[Ring.restOf I]{fullShare} f)) : sProp 𝕄)
      ⊢ (((c : Thread nD τ).loc b) ↦{fullShare} f) := by
  rw [← pointsTo_biUnion Finset.univ I (fun b _ b' _ h => hd b b' h)]
  exact (pointsTo_split_subset (Finset.subset_univ _)).2

theorem body_out (c : Dev nD) (fx : BufOf (F := F) c xM) (fd G : BufOf (F := F) c dwM) (hG : ∀ i, (∀ b : Blk, i ∉ dwSet c b) → G i = fd i) :
    (iprop(BodyOut c fx G ∗ Rests c fx fd) : sProp 𝕄) ⊢ iprop(Wholes c fx G ∗ (∃ W, owes (c : Thread nD τ) 0 W)) := by
  unfold Wholes BodyOut BodyIn Rests XFree SlotFree
  rw [show ((c : Thread nD τ).loc main_v0_0 ↦[Ring.restOf (dwSet c)]{fullShare} fd : sProp 𝕄) = ((c : Thread nD τ).loc main_v0_0 ↦[Ring.restOf (dwSet c)]{fullShare} G) from
    pointsTo_congr fun i hi => (hG i fun b hb => (Finset.mem_sdiff.mp hi).2 (Finset.mem_biUnion.mpr ⟨b, Finset.mem_univ b, hb⟩)).symm]
  rw [show (iprop(∃ f, own (F := F) c etM f) : sProp 𝕄) = _ from ex_whole c cc0_scratch0, show (iprop(∃ f, own (F := F) c ntM f) : sProp 𝕄) = _ from ex_whole c cc0_scratch1, show (iprop(∃ f, own (F := F) c zM f) : sProp 𝕄) = _ from ex_whole c cc0_scratch4, show (iprop(∃ f, own (F := F) c ltM f) : sProp 𝕄) = _ from ex_whole c cc0_scratch2]
  iintro ⟨⟨H0, H1, H4, H2, ⟨X0, B0⟩, ⟨X1, B1⟩, Hx, ⟨⟨O0, S0⟩, ⟨O1, S1⟩, ⟨O2, S2⟩, ⟨O3, S3⟩⟩, Hd, HO⟩, ⟨%r3, HR3⟩, ⟨%r5, HR5⟩, HRx, HRd⟩
  ihave Hx := (rest_join (F := F) (xsSet c) disj_xsl fx) $$ [Hx HRx]
  · isplitl [Hx]; · iexact Hx
    iexact HRx
  ihave Hd := (rest_join (F := F) (dwSet c) disj_dw G) $$ [Hd HRd]
  · isplitl [Hd]; · iexact Hd
    iexact HRd
  ihave H3 := (Ring.fam_join (slSet c) disj_slot r3) $$ [S0 S1 S2 S3 HR3]
  · rw [sl_four c]
    isplitr [HR3]
    · isplitl [S0]; · iexact S0
      isplitl [S1]; · iexact S1
      isplitl [S2]; · iexact S2
      iexact S3
    iexists r3; iexact HR3
  ihave H5 := (Ring.fam_join (xbSet c) disj_xbs r5) $$ [B0 B1 HR5]
  · rw [sl_two c]
    isplitr [HR5]
    · isplitl [B0]; · iexact B0
      iexact B1
    iexists r5; iexact HR5
  isplitr [HO]
  · isplitl [H0 H1 H2 H3 H4 H5]
    · isplitl [H2]; · iexact H2
      isplitl [H3]; · iexact H3
      isplitl [H4]; · iexact H4
      isplitl [H5]; · iexact H5
      isplitl [H0]; · iexact H0
      iexact H1
    isplitl [X0 X1 O0 O1 O2 O3]
    · isplitl [X0]; · iexact X0
      isplitl [X1]; · iexact X1
      isplitl [O0]; · iexact O0
      isplitl [O1]; · iexact O1
      isplitl [O2]; · iexact O2
      iexact O3
    isplitl [Hx]; · iexact Hx
    iexact Hd
  · iexact HO

end Cert.Kernel.Pf

end
-- ==== Proof.Frame.lean ====
/- The kernel's run: what it leaves in every buffer. -/
module

public import proofs.«01_k».proof.Proof.Pieces

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The body's own semaphores and buffers -/

abbrev osem0 : Fin 7 → SemLoc sig := fun j => (![SemLoc.dma 8, SemLoc.dma 9, SemLoc.dma 10, SemLoc.dma 11, SemLoc.dma 12, SemLoc.dma 13, SemLoc.dma 14] : Fin 7 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (xsem 0)) 0 ∗ semVal ((c : Thread nD τ), SemLoc.dma (xsem 1)) 0
          ∗ semVal ((c : Thread nD τ), SemLoc.dma (osemK 0)) 0 ∗ semVal ((c : Thread nD τ), SemLoc.dma (osemK 1)) 0
          ∗ semVal ((c : Thread nD τ), SemLoc.dma (osemK 2)) 0 ∗ semVal ((c : Thread nD τ), SemLoc.dma (osemK 3)) 0
          ∗ semVal ((c : Thread nD τ), SemLoc.dma 14) 0) := by
  rw [Pipeline.ownSems0_eq_of_list c osem0 [0, 1, 2, 3, 4, 5, 6] (by decide) (by decide)]; rfl
def H0 : Finset (Ref sig .tc) := {main_arg4}
theorem H0_sub : H0 ⊆ Pipeline.restRefs sig spec0 := by decide
def R0 : Finset (Ref sig .tc) := {main_v0_0}
theorem R0_sub : R0 ⊆ Pipeline.restRefs sig spec0 \ H0 := by decide
theorem pts_H0 (c : Dev nD) (W : (b : Ref sig .tc) → Buf (Elt F) ((c : Thread nD τ).loc b)) :
    (bigSep H0 (fun b => ((c : Thread nD τ).loc b) ↦{fullShare} W b) : sProp 𝕄) = (((c : Thread nD τ).loc main_arg4) ↦{fullShare} W main_arg4) := by
  unfold H0; exact bigSep_singleton ..
theorem pts_R0 (c : Dev nD) (W : (b : Ref sig .tc) → Buf (Elt F) ((c : Thread nD τ).loc b)) :
    (Pipeline.routed R0 c W : sProp 𝕄) = (((c : Thread nD τ).loc main_v0_0) ↦{fullShare} W main_v0_0) := by
  unfold Pipeline.routed R0; exact bigSep_singleton ..

/-- The launch's invariant, with contents `G` in the result. -/
theorem phi_eq (c : Dev nD) (G : (c : Dev nD) → (b : Ref sig .tc) → Buf (Elt F) ((c : Thread nD τ).loc b)) :
    (Pipeline.ΦDRG osem0 spec0 H0 R0 (V m) G c : sProp 𝕄)
      ⊣⊢ iprop(Wholes c (V m c main_arg4) (G c main_v0_0) ∗ (∃ r, prngReg c r) ∗ semVal ((c : Thread nD τ), SemLoc.dma 14) 0) := by
  rw [Pipeline.ΦDRG_eq, scopedRest0_eq, ownSems00_eq, pts_H0, pts_R0]
  unfold Wholes
  constructor
  · iintro ⟨HS, Hg, ⟨X0, X1, O0, O1, O2, O3, Z⟩, Hx, Hd⟩
    isplitl [HS X0 X1 O0 O1 O2 O3 Hx Hd]
    · isplitl [HS]; · iexact HS
      isplitl [X0 X1 O0 O1 O2 O3]
      · isplitl [X0]; · iexact X0
        isplitl [X1]; · iexact X1
        isplitl [O0]; · iexact O0
        isplitl [O1]; · iexact O1
        isplitl [O2]; · iexact O2
        iexact O3
      isplitl [Hx]; · iexact Hx
      iexact Hd
    isplitl [Hg]; · iexact Hg
    iexact Z
  · iintro ⟨⟨HS, ⟨X0, X1, O0, O1, O2, O3⟩, Hx, Hd⟩, Hg, Z⟩
    isplitl [HS]; · iexact HS
    isplitl [Hg]; · iexact Hg
    isplitl [X0 X1 O0 O1 O2 O3 Z]
    · isplitl [X0]; · iexact X0
      isplitl [X1]; · iexact X1
      isplitl [O0]; · iexact O0
      isplitl [O1]; · iexact O1
      isplitl [O2]; · iexact O2
      isplitl [O3]; · iexact O3
      iexact Z
    isplitl [Hx]; · iexact Hx
    iexact Hd

/-! ## What the run leaves -/

/-- The group sizes, the two histories, and the second operand's words where the body reads them. -/
def gm (c : Dev nD) (e : Fin 5) : BitVec 32 := iblk m c 0 t0_0 (ix5 e)
def hxm (c : Dev nD) (k : Fin 24) : F .f32 := iblk m c 1 t0_0 (ix24 k)
def hym (c : Dev nD) (k : Fin 24) : F .f32 := iblk m c 2 t0_0 (ix24 k)
def f3m (c : Dev nD) : BufOf (F := F) c (st0_3 t0_0) :=
  (st0_3 t0_0).view.write (Elt F) (m ((st0_3 t0_0).view.loc (c : Thread nD τ))) (iblk m c 3 t0_0) Finset.univ
/-- Each block of the product. -/
def blkM (c : Dev nD) (b : Blk) : FVec F S512x1536 .f32 :=
  blkV c (st0_3 t0_0) (k0_pay17 (gX (hxm m c)) (gY (hym m c))) (ltq c (V m c main_arg4) b.2.1) (f3m m c) (ntOf (gm m c) b.1) (ttOf (gm m c) b.1) b.2.2
/-- The product as the run leaves it. -/
def Gd (c : Dev nD) : BufOf (F := F) c dwM := (glue c (V m c main_v0_0) (blkM m c)).choose
theorem Gd_read (c : Dev nD) (b : Blk) : (dwK b).view.read (Elt F) (Gd m c) = blkM m c b := (glue c (V m c main_v0_0) (blkM m c)).choose_spec.1 b
theorem Gd_rest (c : Dev nD) (i) (h : ∀ b : Blk, i ∉ dwSet c b) : Gd m c i = V m c main_v0_0 i := (glue c (V m c main_v0_0) (blkM m c)).choose_spec.2 i h
/-- Every buffer as the run leaves it, the product's in place. -/
def Gm (c : Dev nD) (b : Ref sig .tc) : Buf (Elt F) ((c : Thread nD τ).loc b) := Function.update (V m c) main_v0_0 (Gd m c) b
theorem Gm_dw (c : Dev nD) : Gm m c main_v0_0 = Gd m c := Function.update_self ..

theorem readAt_read (c : Dev nD) (a3 : Memref sig .tc .vmem S1408x3072 .i32) (fr fr' : BufOf (F := F) c a3) (h : a3.view.read (Elt F) fr = a3.view.read (Elt F) fr')
    (r : LoadRect S1408x3072) : View.readAt (Elt F) a3.view r fr = View.readAt (Elt F) a3.view r fr' := by
  funext x; show a3.view.read (Elt F) fr _ = a3.view.read (Elt F) fr' _; rw [h]
theorem blkV_read (c : Dev nD) (a3 : Memref sig .tc .vmem S1408x3072 .i32) (gg : F .f32) (fl : BufOf (F := F) c ltM) (fr fr' : BufOf (F := F) c a3)
    (h : a3.view.read (Elt F) fr = a3.view.read (Elt F) fr') (n t : ℕ) (k : Fin 2) : blkV c a3 gg fl fr n t k = blkV c a3 gg fl fr' n t k := by
  unfold blkV
  split
  · split
    iterate 6
      · unfold blkOf
        rw [readAt_read c a3 fr fr' h]
    · rfl
  · rfl

/-- What the body leaves in a window's buffer. -/
def aft (c : Dev nD) : (w : Fin cfg0.W) → (X : (cfg0.win w).block.Idx → Elt F (cfg0.win w).elt) → Prop
  | 0 => fun _ => True
  | 1 => fun _ => True
  | 2 => fun _ => True
  | 3 => fun _ => True
  | 4 => fun X => ∀ i : S1.Idx, X i = k0_pay15 (gX (hxm m c))
  | 5 => fun X => ∀ i : S1.Idx, X i = k0_pay15 (gY (hym m c))
  | 6 => fun X => ∀ k : Fin 23, X (ix24 k.succ) = hxm m c k.castSucc
  | 7 => fun X => ∀ k : Fin 23, X (ix24 k.succ) = hym m c k.castSucc
  | ⟨_ + 8, h⟩ => absurd h (Nat.not_lt.2 (Nat.le_add_left _ _))

/-- The invariant before the point and after it. -/
def phiAt (c : Dev nD) : ℕ → sProp 𝕄
  | 0 => Pipeline.ΦDRG osem0 spec0 H0 R0 (V m) (V m) c
  | _ + 1 => Pipeline.ΦDRG osem0 spec0 H0 R0 (V m) (Gm m) c

/-- The proof data of the run. -/
def rdat (c : Dev nD) : RDat τ (Elt F) Unit ℕ (Pipeline.UD sig nD τ) ℕ cfg0 c where
  A w := V m c (Pipeline.arrRef spec0 w)
  after w _ _ X := aft m c w X
  Φ t := phiAt m c t.val
  q _ := fullShare
  owed _ := 0

theorem defs₀_row (t : Fin cfg0.N) :
    (defs₀ (F := F)) .tc cfg0.body (cfg0.bodyArgs t (cfg0.slots t)) = bodyAt0 t := by
  unfold defs₀; rw [Defs.onTc_tc]

theorem finds0 (c : Dev nD) (X) (h : (rdat m c).Finds 0 t0_0 X) : X = iblk m c 0 t0_0 := by
  obtain ⟨d, rfl⟩ := ((rdat m c).finds_of_fetch (fetch0_0 t0_0) X).mp h
  unfold RDat.fetched RDat.blockOf iblk; rfl
theorem finds1 (c : Dev nD) (X) (h : (rdat m c).Finds 1 t0_0 X) : X = iblk m c 1 t0_0 := by
  obtain ⟨d, rfl⟩ := ((rdat m c).finds_of_fetch (fetch0_1 t0_0) X).mp h
  unfold RDat.fetched RDat.blockOf iblk; rfl
theorem finds2 (c : Dev nD) (X) (h : (rdat m c).Finds 2 t0_0 X) : X = iblk m c 2 t0_0 := by
  obtain ⟨d, rfl⟩ := ((rdat m c).finds_of_fetch (fetch0_2 t0_0) X).mp h
  unfold RDat.fetched RDat.blockOf iblk; rfl
theorem finds3 (c : Dev nD) (X) (h : (rdat m c).Finds 3 t0_0 X) : X = iblk m c 3 t0_0 := by
  obtain ⟨d, rfl⟩ := ((rdat m c).finds_of_fetch (fetch0_3 t0_0) X).mp h
  unfold RDat.fetched RDat.blockOf iblk; rfl

/-! ## Each window's block is its array -/

theorem read_arg0 (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide) (fun a => by fin_cases a <;> decide) f
theorem read_arg1 (c : Dev nD) (f : Buf (Elt F) ((c : Thread nD τ).loc main_arg1)) : (win0_1.blk t0_0).view.read (Elt F) f = f :=
  Memref.read_access_unit_zero (Elt F) main_arg1
    (show (fun a => (win0_1.index t0_0) a * main_arg1.ty.shape.size a) = fun _ => 0 from funext fun a => by fin_cases a <;> decide) (fun a => by fin_cases a <;> decide) f
theorem read_arg2 (c : Dev nD) (f : Buf (Elt F) ((c : Thread nD τ).loc main_arg2)) : (win0_2.blk t0_0).view.read (Elt F) f = f :=
  Memref.read_access_unit_zero (Elt F) main_arg2
    (show (fun a => (win0_2.index t0_0) a * main_arg2.ty.shape.size a) = fun _ => 0 from funext fun a => by fin_cases a <;> decide) (fun a => by fin_cases a <;> decide) f
theorem read_arg3 (c : Dev nD) (f : Buf (Elt F) ((c : Thread nD τ).loc main_arg3)) : (win0_3.blk t0_0).view.read (Elt F) f = f :=
  Memref.read_access_unit_zero (Elt F) main_arg3
    (show (fun a => (win0_3.index t0_0) a * main_arg3.ty.shape.size a) = fun _ => 0 from funext fun a => by fin_cases a <;> decide) (fun a => by fin_cases a <;> decide) f
theorem iblk_0 (c : Dev nD) : iblk m c 0 t0_0 = m ((c : Thread nD τ).loc main_arg0) := read_arg0 c _
theorem iblk_1 (c : Dev nD) : iblk m c 1 t0_0 = m ((c : Thread nD τ).loc main_arg1) := read_arg1 c _
theorem iblk_2 (c : Dev nD) : iblk m c 2 t0_0 = m ((c : Thread nD τ).loc main_arg2) := read_arg2 c _
theorem iblk_3 (c : Dev nD) : iblk m c 3 t0_0 = m ((c : Thread nD τ).loc main_arg3) := read_arg3 c _

/-! ## The body's obligation -/

theorem phi_first (c : Dev nD) : (rdat m c).Φ (Fin.castSucc t0_0) = Pipeline.ΦDRG osem0 spec0 H0 R0 (V m) (V m) c := by
  show phiAt m c 0 = _; rfl
theorem phi_last (c : Dev nD) : (rdat m c).Φ (Fin.succ t0_0) = Pipeline.ΦDRG osem0 spec0 H0 R0 (V m) (Gm m) c := by
  show phiAt m c (0 + 1) = _; rfl

set_option maxHeartbeats 1600000 in
theorem body_obligation (c : Dev nD) (hsum : Tokens (gm m c)) :
    (rdat m c).BodyObligation (defs₀ (F := F)) Variants.none () Set.univ := by
  intro t Y hY
  obtain rfl := fin_N0 t
  rw [bigSep_W0, bigSep_W0, defs₀_row]
  have e0 := finds0 m c _ (hY 0)
  have e1 := finds1 m c _ (hY 1)
  have e2 := finds2 m c _ (hY 2)
  have e3 := finds3 m c _ (hY 3)
  rw [phi_first, phi_last]
  unfold RDat.owesAt Pipeline.owesWithin
  rw [show (rdat m c).owed (Fin.castSucc t0_0) = 0 from rfl, show (rdat m c).owed (Fin.succ t0_0) = 0 from rfl]
  unfold owns
  iintro ⟨HΦ, ⟨%W, -, HW⟩, ⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%f7, %r7, H7⟩⟩
  ihave HΦ := (phi_eq m c (V m)).1 $$ HΦ
  icases HΦ with ⟨Hw, Hg, Hz⟩
  ihave Hb := (body_in c (V m c main_arg4) (V m c main_v0_0)) $$ [Hw HW]
  · isplitl [Hw]; · iexact Hw
    iexists W; iexact HW
  icases Hb with ⟨Hb, HR⟩
  have q1 : hv c (st0_1 t0_0) f1 = hxm m c := by
    funext k; show (st0_1 t0_0).view.read (Elt F) f1 (ix24 k) = _; rw [r1, e1]; rfl
  have q2 : hv c (st0_2 t0_0) f2 = hym m c := by
    funext k; show (st0_2 t0_0).view.read (Elt F) f2 (ix24 k) = _; rw [r2, e2]; rfl
  have q3 : (st0_3 t0_0).view.read (Elt F) f3 = (st0_3 t0_0).view.read (Elt F) (f3m m c) := by
    rw [r3, e3]; exact (View.read_write_univ ..).symm
  iapply (body_wp c (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0) (st0_6 t0_0) (hstage0_6 0) (st0_7 t0_0) (hstage0_7 0)
    f0 f1 f2 f3 f4 f5 f6 f7 (V m c main_arg4) (V m c main_v0_0) (Gd m c) (gm m c) (fun e => by rw [r0, e0]; rfl) hsum
    (fun b => by rw [q1, q2, Gd_read, blkV_read c _ _ _ f3 (f3m m c) q3]; rfl))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hb]; · iexact Hb
  isplitl [Hz]; · iexact Hz
  rw [q1, q2]
  iintro ⟨H0, H1, H2, H3, ⟨%g4, H4, %p4⟩, ⟨%g5, H5, %p5⟩, ⟨%g6, H6, %p6⟩, ⟨%g7, H7, %p7⟩, Hb, Hz⟩
  ihave Hw := (body_out c (V m c main_arg4) (V m c main_v0_0) (Gd m c) (Gd_rest m c)) $$ [Hb HR]
  · isplitl [Hb]; · iexact Hb
    iexact HR
  icases Hw with ⟨Hw, ⟨%W', HW⟩⟩
  isplitl [Hw Hg Hz]
  · iapply (phi_eq m c (Gm m)).2
    rw [Gm_dw]
    isplitl [Hw]; · iexact Hw
    isplitl [Hg]; · iexact Hg
    iexact Hz
  isplitl [HW]
  · iexists W'; isplitr
    · ipureintro; exact fun _ _ => Or.inl trivial
    iexact HW
  isplitl [H0]
  · iexists (Y 0); isplitr
    · ipureintro; trivial
    iexists f0; isplitr
    · ipureintro; exact r0
    iexact H0
  isplitl [H1]
  · iexists (Y 1); isplitr
    · ipureintro; trivial
    iexists f1; isplitr
    · ipureintro; exact r1
    iexact H1
  isplitl [H2]
  · iexists (Y 2); isplitr
    · ipureintro; trivial
    iexists f2; isplitr
    · ipureintro; exact r2
    iexact H2
  isplitl [H3]
  · iexists (Y 3); isplitr
    · ipureintro; trivial
    iexists f3; isplitr
    · ipureintro; exact r3
    iexact H3
  isplitl [H4]
  · iexists ((st0_4 t0_0).view.read (Elt F) g4); isplitr
    · ipureintro; exact p4
    iexists g4; isplitr
    · ipureintro; rfl
    iexact H4
  isplitl [H5]
  · iexists ((st0_5 t0_0).view.read (Elt F) g5); isplitr
    · ipureintro; exact p5
    iexists g5; isplitr
    · ipureintro; rfl
    iexact H5
  isplitl [H6]
  · iexists ((st0_6 t0_0).view.read (Elt F) g6); isplitr
    · ipureintro; exact p6
    iexists g6; isplitr
    · ipureintro; rfl
    iexact H6
  · iexists ((st0_7 t0_0).view.read (Elt F) g7); isplitr
    · ipureintro; exact p7
    iexists g7; isplitr
    · ipureintro; rfl
    iexact H7

/-! ## The run -/

set_option backward.isDefEq.respectTransparency.types false in
theorem run_main (hsum : ∀ c, Tokens (gm m c)) :
    θ_run defs (onTc (τ := τ) (main (F := F))) (s₀ m ρ) (fun r => RDat.FramePostRG cfg0 (rdat m) R0 (V m) (Gm m) r ∧ r.2.sem = fun _ => 0) :=
  Pipeline.RDat.θ_run_frame_dmaRG (Q' := _) cfgs (0 : Fin 1) launch0 osem0 defs₀ Variants.none (rdat m) ownSemFacts0 H0 R0 H0_sub R0_sub m ρ main
    (hbody := fun c => body_obligation m c (hsum c)) (hshare := fun c w => by show (if _ then fullShare else fullShare) = fullShare; split <;> rfl)
    (howed := fun _ _ => rfl) (V := V m) (hmain := hmainD m Variants.none) (hA := fun _ _ => rfl) (G := Gm m)
    (hin := fun _ => .rfl) (hout := fun c => by show phiAt m c grid0.N ⊢ _; rw [N_0]; exact .rfl)

end Cert.Kernel.Pf

end
-- ==== Proof.Run.lean ====
/- The kernel's run, read at each argument and result. -/
module

public import proofs.«01_k».proof.Proof.Frame
public import Idealize.ShloMosaic.Lib.Pipeline.ArrRel
public import Idealize.ShloMosaic.Lib.Pipeline.ValueKit.Geometry

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]
variable (m : (ℓ : Loc nD τ sig) → Buf (Elt F) ℓ) (ρ : Dev nD → PrngReg)

/-- A result that goes back whole at the one point holds what the body left in its staging buffer. -/
theorem left_of_arrAt (c : Dev nD) {w : Fin cfg0.W} {G : Buf (Elt F) ((cfg0.win w).arr.view.loc (c.tc : Thread nD τ))}
    (h : RDat.ArrAt (rdat m c) w cfg0.N G) (hw : (cfg0.win w).WholeAt t0_0) :
    ∃ X, aft m c w X ∧ ∀ j : (cfg0.win w).shape.Idx,
      G ((cfg0.win w).arr.view.emb j) = _root_.cast (congrArg (Elt F) (cfg0.win w).arr.view.elt_eq.symm) (X fun a => ⟨j a, hw.lt_size j a⟩) := by
  obtain ⟨X, ⟨Y, _, hX⟩, hG⟩ := RDat.ArrAt.emb_eq_of_wholeAt h hw
  exact ⟨X, hX, hG⟩

/-- What the run leaves: the arguments as they were, the product, the two tensor scales, and the histories moved on by one. -/
structure Left (m : (ℓ : Loc nD τ sig) → Buf (Elt F) ℓ) (r : PUnit × MemSt nD τ sig (Elt F)) (c : Dev nD) : Prop where
  a0 : r.2.mem ((c.tc : Thread nD τ).loc main_arg0) = m ((c.tc : Thread nD τ).loc main_arg0)
  a1 : r.2.mem ((c.tc : Thread nD τ).loc main_arg1) = m ((c.tc : Thread nD τ).loc main_arg1)
  a2 : r.2.mem ((c.tc : Thread nD τ).loc main_arg2) = m ((c.tc : Thread nD τ).loc main_arg2)
  a3 : r.2.mem ((c.tc : Thread nD τ).loc main_arg3) = m ((c.tc : Thread nD τ).loc main_arg3)
  a4 : r.2.mem ((c.tc : Thread nD τ).loc main_arg4) = m ((c.tc : Thread nD τ).loc main_arg4)
  dw : r.2.mem ((c.tc : Thread nD τ).loc main_v0_0) = Gd m c
  gx : ∀ i : S1.Idx, (r.2.mem ((c.tc : Thread nD τ).loc main_v0_1) : S1.Idx → F .f32) i = k0_pay15 (gX (hxm m c))
  gy : ∀ i : S1.Idx, (r.2.mem ((c.tc : Thread nD τ).loc main_v0_2) : S1.Idx → F .f32) i = k0_pay15 (gY (hym m c))
  hx : ∀ k : Fin 23, (r.2.mem ((c.tc : Thread nD τ).loc main_v0_3) : S24.Idx → F .f32) (ix24 k.succ) = hxm m c k.castSucc
  hy : ∀ k : Fin 23, (r.2.mem ((c.tc : Thread nD τ).loc main_v0_4) : S24.Idx → F .f32) (ix24 k.succ) = hym m c k.castSucc

theorem left_of_post (r : PUnit × MemSt nD τ sig (Elt F)) (h : RDat.FramePostRG cfg0 (rdat m) R0 (V m) (Gm m) r) (c : Dev nD) : Left m r c where
  a0 := h.1.arr_in c 0 rfl
  a1 := h.1.arr_in c 1 rfl
  a2 := h.1.arr_in c 2 rfl
  a3 := h.1.arr_in c 3 rfl
  a4 := (h.1 c).2 main_arg4 (Finset.mem_sdiff.mpr ⟨Pipeline.mem_restRefs_of main_arg4 (by decide) (by decide), by decide⟩)
  dw := (h.2 c main_v0_0 (by decide)).trans (Gm_dw m c)
  gx := fun i => by
    obtain ⟨X, hX, hG⟩ := left_of_arrAt m c ((h.1 c).1 4) (by decide +kernel)
    exact (hG i).trans (hX _)
  gy := fun i => by
    obtain ⟨X, hX, hG⟩ := left_of_arrAt m c ((h.1 c).1 5) (by decide +kernel)
    exact (hG i).trans (hX _)
  hx := fun k => by
    obtain ⟨X, hX, hG⟩ := left_of_arrAt m c ((h.1 c).1 6) (by decide +kernel)
    exact (hG (ix24 k.succ)).trans (hX k)
  hy := fun k => by
    obtain ⟨X, hX, hG⟩ := left_of_arrAt m c ((h.1 c).1 7) (by decide +kernel)
    exact (hG (ix24 k.succ)).trans (hX k)

/-- The kernel's run, from group sizes that are together one token or more and no more than 1536. -/
theorem run_left (hsum : ∀ c, Tokens (gm m c)) :
    θ_run defs (onTc (τ := τ) (main (F := F))) ⟨m, fun _ => 0, ρ⟩ (fun r => (∀ c, Left m r c) ∧ r.2.sem = fun _ => 0) :=
  (θ_run defs _ _).mono (fun r h => ⟨left_of_post m r h.1, h.2⟩) (run_main m ρ hsum)

end Cert.Kernel.Pf

end
-- ==== Proof.Pre.lean ====
/- What the precondition says of the group sizes. -/
module

public import proofs.«01_k».proof.Pre_tokens_routed
public import proofs.«01_k».proof.Proof.Gen.Pre_tokens_routed
public import Idealize.ShloMosaic.Lib.Pipeline.Value

@[expose] public section

noncomputable section

namespace Cert.Pre_tokens_routed.Pf

open Cert.Pre_tokens_routed Cert.Pre_tokens_routed.Gen
open Idealize.ShloMosaic

variable {F : FTy → Type} [FloatOps F]

/-- Index `e` of the group sizes. -/
def ix (e : Fin 5) : S5.Idx := fun a => ⟨e.val, by have : a = 0 := Subsingleton.elim _ _; subst this; exact e.isLt⟩

theorem and_bits {a b : BitVec 1} (h : a &&& b = 1#1) : a = 1#1 ∧ b = 1#1 := by
  revert h; revert a b; decide

theorem slice_at (off : Fin 1 → ℕ) (e : Fin 5) (ho : off 0 = e.val) (h : S5.Slices off S1) (h' : S1.ShapeCasts S_) (v : IVec S5 32) (i : S_.Idx) :
    shapeCast S_ (extractStridedSlice S1 off v h) h' i = v (ix e) := by
  unfold shapeCast
  refine extractStridedSlice_apply off v h _ (ix e) fun a => ?_
  obtain rfl : a = 0 := Subsingleton.elim _ _
  have hj := (Shape.reshapeEquiv h' i ((0 : Fin 1).cast h.1.symm)).isLt
  have hj' : (Shape.reshapeEquiv h' i ((0 : Fin 1).cast h.1.symm)).val < 1 := hj
  refine (show (ix e 0).val = e.val from rfl).trans ?_
  rw [ho]
  exact (fun (n : ℕ) (hn : n < 1) => (by omega : e.val = e.val + n)) _ hj'

/-- A word between `lo` and 1536, read signed, is that number. -/
theorem small {v lo : BitVec 32} (hl : lo.toNat ≤ 1) (h1 : IntOp.cmpi .sge v lo = 1#1) (h2 : IntOp.cmpi .sle v 1536#32 = 1#1) : lo.toNat ≤ v.toNat ∧ v.toNat ≤ 1536 := by
  have b1 : lo.sle v = true := by
    unfold IntOp.cmpi at h1; revert h1; cases hh : lo.sle v <;> simp [hh]
  have b2 : v.sle 1536#32 = true := by
    unfold IntOp.cmpi at h2; revert h2; cases hh : v.sle 1536#32 <;> simp [hh]
  rw [BitVec.sle_iff_toInt_le] at b1 b2
  rw [show (1536#32).toInt = 1536 from rfl] at b2
  simp only [BitVec.toInt_eq_toNat_cond] at b1 b2
  have := v.isLt
  split_ifs at b1 b2 <;> omega

theorem routed (g : IVec S5 32) (hx hy : FVec F S24 .f32) (y : IVec S1408x3072 32) (x : IVec S12x256x2816 32)
    (h : fn (F := F) g hx hy y x = fun _ => 1#1) :
    1 ≤ (∑ e, (g (ix e)).toNat) ∧ (∑ e, (g (ix e)).toNat) ≤ 1536 := by
  have h0 := congrFun h (fun a => a.elim0)
  have key : ∀ a b c d e : BitVec 32,
      (((((((((((IntOp.cmpi .sge (a + b + c + d + e) 1#32 &&& IntOp.cmpi .sle (a + b + c + d + e) 1536#32) &&& IntOp.cmpi .sge a 0#32) &&& IntOp.cmpi .sge b 0#32) &&& IntOp.cmpi .sge c 0#32)
        &&& IntOp.cmpi .sge d 0#32) &&& IntOp.cmpi .sge e 0#32) &&& IntOp.cmpi .sle a 1536#32) &&& IntOp.cmpi .sle b 1536#32) &&& IntOp.cmpi .sle c 1536#32)
        &&& IntOp.cmpi .sle d 1536#32) &&& IntOp.cmpi .sle e 1536#32) = 1#1 →
      1 ≤ a.toNat + b.toNat + c.toNat + d.toNat + e.toNat ∧ a.toNat + b.toNat + c.toNat + d.toNat + e.toNat ≤ 1536 := by
    intro a b c d e h
    obtain ⟨h, e2⟩ := and_bits h
    obtain ⟨h, d2⟩ := and_bits h
    obtain ⟨h, c2⟩ := and_bits h
    obtain ⟨h, b2⟩ := and_bits h
    obtain ⟨h, a2⟩ := and_bits h
    obtain ⟨h, e1⟩ := and_bits h
    obtain ⟨h, d1⟩ := and_bits h
    obtain ⟨h, c1⟩ := and_bits h
    obtain ⟨h, b1⟩ := and_bits h
    obtain ⟨h, a1⟩ := and_bits h
    have ha := (small (by decide) a1 a2).2
    have hb := (small (by decide) b1 b2).2
    have hc := (small (by decide) c1 c2).2
    have hd := (small (by decide) d1 d2).2
    have he := (small (by decide) e1 e2).2
    obtain ⟨t1, t2⟩ := and_bits h
    have ht := small (by decide) t1 t2
    simp only [BitVec.toNat_add, BitVec.toNat_ofNat] at ht
    omega
  have := key (g (ix 0)) (g (ix 1)) (g (ix 2)) (g (ix 3)) (g (ix 4)) (by
    unfold fn fn_part1 fn_part2 at h0
    simp only [andi, cmpi, addi, constantI, slice_at ![0] 0 rfl, slice_at ![1] 1 rfl, slice_at ![2] 2 rfl, slice_at ![3] 3 rfl, slice_at ![4] 4 rfl] at h0
    exact h0)
  rw [Fin.sum_univ_five]; exact this

end Cert.Pre_tokens_routed.Pf

end
-- ==== Proof.Bridge.lean ====
/- The idealized kernel has the kernel's own text: the two programs are one. -/
module

public import proofs.«01_k».proof.Proof.Gen.Kernel
public import proofs.«01_k».proof.Proof.Gen.KernelIdeal

@[expose] public section

set_option maxRecDepth 16384
set_option maxHeartbeats 8000000

noncomputable section

namespace Cert.Bridge

open Idealize.ShloMosaic Idealize.SL Idealize.SL.Sem

variable {F : FTy → Type} [FloatOps F]

theorem body_eq : (Cert.KernelIdeal.defs₀ (F := F)) = (Cert.Kernel.defs₀ (F := F)) := by
  unfold Cert.KernelIdeal.defs₀ Cert.Kernel.defs₀
  refine congrArg Defs.onTc (funext fun l => ?_)
  funext x
  fin_cases l
  rfl

theorem defs_eq : (Cert.KernelIdeal.defs (F := F)) = (Cert.Kernel.defs (F := F)) := by
  unfold Cert.KernelIdeal.defs Cert.Kernel.defs
  exact congrArg (Pipeline.defs (Cert.Kernel.pcfgs (F := F))) body_eq

theorem main_eq : (Cert.KernelIdeal.main (F := F)) = (Cert.Kernel.main (F := F)) := rfl

/-- A run of the kernel is a run of the idealized kernel. -/
theorem run_eq (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.Kernel.defs (F := F)) (onTc (τ := Cert.Kernel.τ) (Cert.Kernel.main (F := F))) ⟨m, fun _ => 0, ρ⟩ Q) :
    θ_run (Cert.KernelIdeal.defs (F := F)) (onTc (τ := Cert.KernelIdeal.τ) (Cert.KernelIdeal.main (F := F))) ⟨m, fun _ => 0, ρ⟩ Q := by
  rw [defs_eq, main_eq]; exact h

end Cert.Bridge

end
-- ==== Proof.Frames.lean ====
/- Each program runs, leaves its arguments as they were, and ends with every semaphore at zero. -/
module

public import proofs.«01_k».proof.Defs
public import proofs.«01_k».proof.Proof.Run
public import proofs.«01_k».proof.Proof.Pre
public import proofs.«01_k».proof.Proof.Bridge
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL Idealize.SL.Sem
open Cert.Kernel Cert.Kernel.Gen Cert.Kernel.Pf

variable {F : FTy → Type} [FloatOps F]
variable (m : (ℓ : Loc nD τ sig) → Buf (Elt F) ℓ) (ρ : Dev nD → PrngReg)

/-- The precondition of a memory's arguments. -/
def Routed : Prop := ∀ c : Dev nD,
  Cert.Pre_tokens_routed.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) = fun _ => 1#1

theorem gm_eq (c : Dev nD) (e : Fin 5) : gm m c e = (m ((c.tc : Thread nD τ).loc main_arg0) : S5.Idx → BitVec 32) (ix5 e) := by
  unfold gm; rw [iblk_0]

theorem hsum (h : Routed m) (c : Dev nD) : Tokens (gm m c) := by
  unfold Tokens; rw [Finset.sum_congr rfl fun e _ => by rw [gm_eq]]; exact Cert.Pre_tokens_routed.Pf.routed _ _ _ _ _ (h c)

theorem run (h : Routed m) :
    θ_run (defs (F := F)) (onTc (τ := τ) (main (F := F))) ⟨m, fun _ => 0, ρ⟩ (fun r => (∀ c, Left m r c) ∧ r.2.sem = fun _ => 0) :=
  run_left m ρ (hsum m h)

theorem run_ideal (h : Routed m) :
    θ_run (Cert.KernelIdeal.defs (F := F)) (onTc (τ := Cert.KernelIdeal.τ) (Cert.KernelIdeal.main (F := F))) ⟨m, fun _ => 0, ρ⟩
      (fun r => (∀ c, Left m r c) ∧ r.2.sem = fun _ => 0) :=
  Cert.Bridge.run_eq m ρ _ (run m ρ h)

theorem frame_kernel : Cert.quiescent_Kernel := fun m g h =>
  (θ_run _ _ _).mono (fun _ hr => ⟨fun c => ⟨(hr.1 c).a0, (hr.1 c).a1, (hr.1 c).a2, (hr.1 c).a3, (hr.1 c).a4⟩, hr.2⟩) (run (F := Bits) m g h)

theorem frame_kernelIdeal : Cert.quiescent_KernelIdeal := fun m g h =>
  (θ_run _ _ _).mono (fun _ hr => ⟨fun c => ⟨(hr.1 c).a0, (hr.1 c).a1, (hr.1 c).a2, (hr.1 c).a3, (hr.1 c).a4⟩, hr.2⟩) (run_ideal (F := Ideal) m g h)

theorem frame_reference : Cert.quiescent_ReferenceIdeal := fun m g _ =>
  (θ_run _ _ _).mono (fun r h => ⟨fun c => (h c).2.2.2.2.2, sem_eq_zero_of_no_sems (by decide) r.2⟩) (Cert.ReferenceIdeal.Value.run (F := Ideal) m g)

end Cert.Proof

end
-- ==== Proof.Val1.lean ====
/- A block of the product, element by element, over the reals. -/
module

public import proofs.«01_k».proof.Proof.Run
public import Idealize.ShloMosaic.Lib.MatmulPlain
public import Idealize.ShloMosaic.Lib.ValueIdx
public import Idealize.ShloMosaic.Lib.BitcastPair
public import Idealize.ShloMosaic.Lib.BitcastFour
public import Idealize.ShloMosaic.Lib.Pipeline.Value
public import Idealize.ShloMosaic.PureOps.Ideal

@[expose] public section

set_option maxRecDepth 16384

noncomputable section

namespace Cert.Kernel.Pf

open Cert.Kernel Cert.Kernel.Gen
open Idealize.ShloMosaic Idealize.ShloMosaic.ValueIdx

/-- The bf16 value of a word's half: the low half for the even row, the high half for the odd one. -/
def half (w : BitVec 32) (p : ℕ) : Ideal .bf16 := FloatOps.ofBits .bf16 (w.extractLsb' (16 * (p % 2)) 16)

theorem words_at {A B n : ℕ} (x : (⟨2, ![A, n]⟩ : Shape).Idx → BitVec 32) (h : (⟨2, ![A, n]⟩ : Shape).Bitcasts 32 ⟨2, ![B, n]⟩ 16)
    (i : Fin B) (j : Fin n) (hi : i.val / 2 < A) :
    bitcast ⟨2, ![B, n]⟩ 16 x h (ix2 i j) = (x (ix2 ⟨i.val / 2, hi⟩ j)).extractLsb' (16 * (i.val % 2)) 16 := by
  rw [bitcast_32_16]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

theorem pay_at {K r : ℕ} (d : DotDims ⟨2, ![512, K]⟩ ⟨2, ![K, 1536]⟩ S512x1536) (hd : d = DotDims.plain 512 K 1536)
    (hL : (⟨2, ![256, K]⟩ : Shape).Bitcasts 32 ⟨2, ![512, K]⟩ 16) (hR : (⟨2, ![r, 1536]⟩ : Shape).Bitcasts 32 ⟨2, ![K, 1536]⟩ 16) (hr : K = 2 * r)
    (gg : Ideal .f32) (a : (⟨2, ![256, K]⟩ : Shape).Idx → BitVec 32) (b : (⟨2, ![r, 1536]⟩ : Shape).Idx → BitVec 32)
    (hs : S512x1536.ShapeCasts S1x512x1536) (hs' : S1x512x1536.ShapeCasts S512x1536) (i : Fin 512) (j : Fin 1536) :
    shapeCast S512x1536 (shapeCast S1x512x1536 (mulf (matmul d none (bitcastToFloat (F := Ideal) .bf16 (bitcast ⟨2, ![512, K]⟩ 16 a hL))
        (bitcastToFloat (F := Ideal) .bf16 (bitcast ⟨2, ![K, 1536]⟩ 16 b hR)) (constant S512x1536 .f32 0x00000000#32)) (broadcast S512x1536 gg)) hs) hs' (ix2 i j)
      = (∑ k : Fin K, (half (a (ix2 ⟨i.val / 2, by omega⟩ k)) i.val * half (b (ix2 ⟨k.val / 2, by omega⟩ j)) k.val : EReal)) * gg := by
  rw [shapeCast_shapeCast]
  subst hd
  have e : matmul (DotDims.plain 512 K 1536) none (bitcastToFloat (F := Ideal) .bf16 (bitcast ⟨2, ![512, K]⟩ 16 a hL))
        (bitcastToFloat (F := Ideal) .bf16 (bitcast ⟨2, ![K, 1536]⟩ 16 b hR)) (constant S512x1536 .f32 0x00000000#32) (ix2 i j)
      = (∑ k : Fin K, (half (a (ix2 ⟨i.val / 2, by omega⟩ k)) i.val * half (b (ix2 ⟨k.val / 2, by omega⟩ j)) k.val : EReal)) := by
    refine (Ideal.matmul_plain_apply none _ _ _ i j).trans ?_
    refine (congrArg (· + _) (show (constant (F := Ideal) S512x1536 .f32 0x00000000#32 (ix2 i j) : EReal) = 0 from ?_)).trans ((zero_add _).trans ?_)
    · exact Ideal.ofBits_zero_f32
    · refine Finset.sum_congr rfl fun k _ => ?_
      unfold bitcastToFloat
      rw [words_at a hL i k (by omega), words_at b hR k j (by omega)]; rfl
  exact congrArg (· * gg) e

end Cert.Kernel.Pf

end
-- ==== Proof.Val2.lean ====
/- The reference's product, element by element, over the reals. -/
module

public import proofs.«01_k».proof.Proof.Val1
public import proofs.«01_k».proof.Proof.Gen.ReferenceIdeal.Run
public import Idealize.ShloMosaic.Lib.Pointwise
public import Idealize.ShloMosaic.Lib.Pointwise.Contract
public import Idealize.ShloMosaic.Lib.BitcastConvert
public import Idealize.ShloMosaic.Lib.Routing.OpsOne

@[expose] public section

set_option maxRecDepth 16384

noncomputable section

namespace Cert.ReferenceIdeal.Pf

open Cert.ReferenceIdeal Cert.ReferenceIdeal.Gen
open Idealize.ShloMosaic Idealize.ShloMosaic.TcCoe Idealize.ShloMosaic.ValueIdx

/-- The bf16 value of a word's half: the low half for the even row, the high half for the odd one. -/
abbrev half (w : BitVec 32) (p : ℕ) : Ideal .bf16 := Cert.Kernel.Pf.half w p

theorem x_word (a : Fin 12) (b : Fin 256) (r : Fin 2816) (p : Fin 2) :
    splits_S12x256x2816_w32_S12x256x2816x2_w16.drop (Idealize.ShloMosaic.ix4 a b r p) = Idealize.ShloMosaic.ix3 a b r := by
  funext a; fin_cases a <;> rfl

theorem y_word (a : Fin 1408) (b : Fin 3072) (p : Fin 2) :
    splits_S1408x3072_w32_S1408x3072x2_w16.drop (Idealize.ShloMosaic.ix3 a b p) = Idealize.ShloMosaic.ix2 a b := by
  funext a; fin_cases a <;> rfl

theorem dw_at (k : IVec S5x2816 1) (x : IVec S12x256x2816 32) (y : IVec S1408x3072 32) (e : Fin 5) (i : Fin 6144) (j : Fin 3072) :
    Host.dotGeneral (F := Ideal) dot_S5x2816x6144_S2816x3072_S5x6144x3072_1_0_02_1_n_n (some .fp32)
      (select (broadcastInDim S5x2816x6144 ![0, 1, 2] bcast_S5x2816x1_S5x2816x6144_0_1_2 (broadcastInDim S5x2816x1 ![0, 1] bcast_S5x2816_S5x2816x1_0_1 k))
        (broadcastInDim S5x2816x6144 ![0, 1, 2] bcast_S1x2816x6144_S5x2816x6144_0_1_2 (extf .f32 (broadcastInDim S1x2816x6144 ![1, 2] bcast_S2816x6144_S1x2816x6144_1_2
          (shapeCast S2816x6144 (transpose S2816x12x256x2 [2, 0, 1, 3] (bitcastToFloat .bf16 (Host.bitcastConvertNarrow S12x256x2816x2 16 x splits_S12x256x2816_w32_S12x256x2816x2_w16)) transposes_S12x256x2816x2_S2816x12x256x2_2_0_1_3) shapeCasts_S2816x12x256x2_S2816x6144)) bitsLt_bf16_f32))
        (broadcastInDim S5x2816x6144 ![] bcast_S_S5x2816x6144 (id (constant S_ .f32 0x00000000#32))))
      (extf .f32 (shapeCast S2816x3072 (transpose S1408x2x3072 [0, 2, 1] (bitcastToFloat .bf16 (Host.bitcastConvertNarrow S1408x3072x2 16 y splits_S1408x3072_w32_S1408x3072x2_w16)) transposes_S1408x3072x2_S1408x2x3072_0_2_1) shapeCasts_S1408x2x3072_S2816x3072) bitsLt_bf16_f32)
      (Idealize.ShloMosaic.ix3 e i j)
      = ∑ r : Fin 2816, (if k (Idealize.ShloMosaic.ix2 e r) = 1#1 then half (x (Idealize.ShloMosaic.ix3 ⟨i.val / 512, by omega⟩ ⟨i.val / 2 % 256, by omega⟩ r)) i.val else (0 : EReal))
          * half (y (Idealize.ShloMosaic.ix2 ⟨r.val / 2, by omega⟩ j)) r.val := by
  pointwise
  refine Finset.sum_congr rfl fun r _ => ?_
  rw [x_word, y_word]
  have hz : (id (constant (F := Ideal) S_ FTy.f32 0#32) Idealize.ShloMosaic.ix0 : EReal) = 0 := Ideal.ofBits_zero_f32
  refine congrArg₂ (· * ·) ?_ ?_
  · show (if k (Idealize.ShloMosaic.ix2 e r) = 1#1 then _ else _ : EReal) = _
    split
    · show Ideal.ofBits .bf16 _ = Ideal.ofBits .bf16 _
      rw [Nat.mul_comm (i.val % 2) 16]
    · exact hz
  · show Ideal.ofBits .bf16 _ = Ideal.ofBits .bf16 _
    rw [Nat.mul_comm (r.val % 2) 16]

end Cert.ReferenceIdeal.Pf

end
-- ==== Proof.Val3.lean ====
/- The two tensor scales over the reals: the kernel's chain of maxima and the reference's reduction. -/
module

public import proofs.«01_k».proof.Proof.Run
public import proofs.«01_k».proof.Proof.Gen.ReferenceIdeal.Run
public import Idealize.ShloMosaic.PureOps.Ideal
public import Idealize.ShloMosaic.PureOps.Ideal.Laws
public import Idealize.ShloMosaic.PureOps.Reduce
public import Idealize.ShloMosaic.Lib.ValueIdx

@[expose] public section

set_option maxRecDepth 16384

noncomputable section

namespace Cert.Kernel.Pf

open Cert.Kernel Cert.Kernel.Gen
open Idealize.ShloMosaic Idealize.ShloMosaic.ValueIdx

theorem neg_inf : Ideal.ofBits .f32 0xFF800000#32 = ⊥ := by simp [Ideal.ofBits, Ideal.ieee]

/-- The largest entry of a vector that holds one value is that value. -/
theorem max_const (a : Ideal .f32) (j : S1.Idx) :
    multiReduction (F := Ideal) .maximumf [1, 2] S1 (fun _ : S1x8x128.Idx => a) 0xFF800000#32 reduces_S1x8x128_S1 (.inl rfl) rfl j = a := by
  refine (multiReduction_maximumf_eq_fold _ _ _ _ _ j).trans ?_
  show Finset.fold max (Ideal.ofBits .f32 0xFF800000#32) (fun _ => a) _ = (a : EReal)
  rw [neg_inf]
  refine le_antisymm (Finset.fold_max_le _ |>.2 ⟨bot_le, fun _ _ => le_rfl⟩) (Finset.le_fold_max _ |>.2 (.inr ⟨ix3 (n0 := 1) (n1 := 8) (n2 := 128) 0 0 0, ?_, le_rfl⟩))
  refine Finset.mem_filter.2 ⟨Finset.mem_univ _, funext fun a => Fin.ext ?_⟩
  have h1 := ((reduces_S1x8x128_S1).drop (ix3 0 0 0) a).isLt
  have h2 := (j a).isLt
  have : S1.size a = 1 := by fin_cases a; rfl
  omega

theorem pay15_const (a : Ideal .f32) : k0_pay15 (F := Ideal) (fun _ => a) = a := max_const a _
theorem pay17_const (a b : Ideal .f32) : k0_pay17 (F := Ideal) (fun _ => a) (fun _ => b) = (a * b : EReal) := max_const (a * b : EReal) _

/-- The largest entry of a history. -/
def top (h : Fin 24 → Ideal .f32) : Ideal .f32 := (Finset.univ : Finset (Fin 24)).fold max (⊥ : EReal) h

theorem top_eq (h : Fin 24 → Ideal .f32) (x : EReal) (h1 : ∀ k, (h k : EReal) ≤ x) (h2 : ∀ y : EReal, (∀ k, (h k : EReal) ≤ y) → x ≤ y) : x = top h :=
  le_antisymm (h2 _ fun k => Finset.le_fold_max _ |>.2 (.inr ⟨k, Finset.mem_univ _, le_rfl⟩)) (Finset.fold_max_le _ |>.2 ⟨bot_le, fun k _ => h1 k⟩)

/-- A tensor scale. -/
def scale (h : Fin 24 → Ideal .f32) : Ideal .f32 := Ideal.div (top h) (Ideal.ofBits .f32 0x45280000#32)

/-- The running maximum of a sequence. -/
def chain (f : ℕ → EReal) : ℕ → EReal
  | 0 => f 0
  | n + 1 => max (chain f n) (f (n + 1))

theorem le_chain (f : ℕ → EReal) (n : ℕ) : ∀ k ≤ n, f k ≤ chain f n := by
  induction n with
  | zero => intro k hk; obtain rfl : k = 0 := by omega
            exact le_rfl
  | succ n ih =>
    intro k hk
    rcases Nat.lt_or_ge n k with h | h
    · obtain rfl : k = n + 1 := by omega
      exact le_max_right _ _
    · exact (ih k h).trans (le_max_left _ _)

theorem chain_le (f : ℕ → EReal) (y : EReal) (h : ∀ k, f k ≤ y) (n : ℕ) : chain f n ≤ y := by
  induction n with
  | zero => exact h 0
  | succ n ih => exact max_le ih (h _)

/-- The chain of maxima over a history is its largest entry. -/
theorem chain_top (h : Fin 24 → Ideal .f32) : chain (fun k => h (Fin.ofNat 24 k)) 23 = top h :=
  top_eq h _ (fun k => (le_of_eq (congrArg h (Fin.ext (Nat.mod_eq_of_lt k.isLt).symm))).trans
    (le_chain (fun k => h (Fin.ofNat 24 k)) 23 k.val (by omega))) fun y hy => chain_le _ y (fun k => hy _) 23

theorem gX_eq (h : Fin 24 → Ideal .f32) : gX h = fun _ => scale h :=
  funext fun i => congrArg (Ideal.div · _) (chain_top h)
theorem gY_eq (h : Fin 24 → Ideal .f32) : gY h = fun _ => scale h :=
  funext fun i => congrArg (Ideal.div · _) (chain_top h)

end Cert.Kernel.Pf

namespace Cert.ReferenceIdeal.Pf

open Cert.ReferenceIdeal Cert.ReferenceIdeal.Gen
open Idealize.ShloMosaic Idealize.ShloMosaic.ValueIdx

theorem scale_eq (h : FVec Ideal S24 .f32) (j : S_.Idx) :
    Host.divf (F := Ideal) (Host.reduce FloatOps.maximumf h (constant S_ .f32 0xFF800000#32) reducesTo_S24_S_d0 h_S_) (constant S_ .f32 0x45280000#32) j
      = Cert.Kernel.Pf.scale fun k => h (Cert.Kernel.Pf.ix24 k) := by
  refine congrArg (Ideal.div · _) ?_
  refine (Host.reduce_eq_fold _ _ _ _ _ j).trans (Cert.Kernel.Pf.top_eq _ _ (fun k => ?_) fun y hy => ?_)
  · exact Finset.le_fold_max _ |>.2 (.inr ⟨Cert.Kernel.Pf.ix24 k, Finset.mem_filter.2 ⟨Finset.mem_univ _, funext fun a => a.elim0⟩, le_rfl⟩)
  · refine Finset.fold_max_le _ |>.2 ⟨(le_of_eq Cert.Kernel.Pf.neg_inf).trans bot_le, fun i _ => ?_⟩
    exact (le_of_eq (congrArg h (by funext a; fin_cases a; rfl))).trans (hy (i 0))

end Cert.ReferenceIdeal.Pf

end
-- ==== Proof.Val4.lean ====
/- Which rows the reference gives to each expert: the kernel's whole tiles of 256 rows. -/
module

public import proofs.«01_k».proof.Proof.Val2
public import proofs.«01_k».proof.Proof.Val3
public import Idealize.ShloMosaic.Lib.WordCmp

@[expose] public section

set_option maxRecDepth 16384

noncomputable section

namespace Cert.ReferenceIdeal.Pf

open Cert.ReferenceIdeal Cert.ReferenceIdeal.Gen
open Idealize.ShloMosaic Idealize.ShloMosaic.TcCoe
open Cert.Kernel.Pf (tiles ntOf ttOf)

/-- The index of cell `e` of a vector of five. -/
abbrev at5 (e : Fin 5) : S5.Idx := Cert.Kernel.Pf.ix5 e

/-- Each expert's rows, rounded up to a multiple of 256. -/
def pads (g : IVec S5 32) : IVec S5 32 := (muli (select (andi (cmpi .ne (signi (addi g (broadcastInDim S5 ![] bcast_S_S5 (constantI S_ 32 255#32)))) (broadcastInDim S5 ![] bcast_S_S5 (signi (id (constantI S_ 32 256#32))))) (cmpi .ne (Host.remsi (addi g (broadcastInDim S5 ![] bcast_S_S5 (constantI S_ 32 255#32))) (broadcastInDim S5 ![] bcast_S_S5 (id (constantI S_ 32 256#32)))) (broadcastInDim S5 ![] bcast_S_S5 (constantI S_ 32 0#32)))) (subi (Host.divsi (addi g (broadcastInDim S5 ![] bcast_S_S5 (constantI S_ 32 255#32))) (broadcastInDim S5 ![] bcast_S_S5 (id (constantI S_ 32 256#32)))) (broadcastInDim S5 ![] bcast_S_S5 (constantI S_ 32 1#32))) (Host.divsi (addi g (broadcastInDim S5 ![] bcast_S_S5 (constantI S_ 32 255#32))) (broadcastInDim S5 ![] bcast_S_S5 (id (constantI S_ 32 256#32))))) (broadcastInDim S5 ![] bcast_S_S5 (constantI S_ 32 256#32)))
/-- Where each expert's padded rows end. -/
def ends (g : IVec S5 32) : IVec S5 32 := (Host.reduceWindow IntOp.addi ![5] ![1] ![4] ![0] (pads g) (broadcastInDim S_ ![] bcast_S_S_ (constantI S_ 32 0#32)) reduceWindows_S5_S5_w5s1p4_0 h_S_)
/-- Whether a row is one of an expert's. -/
def mine (g : IVec S5 32) : IVec S5x2816 1 := (andi (cmpi .sge (broadcastInDim S5x2816 ![0, 1] bcast_S1x2816_S5x2816_0_1 (broadcastInDim S1x2816 ![1] bcast_S2816_S1x2816_1 (iotaInDim S2816 32 0))) (broadcastInDim S5x2816 ![0, 1] bcast_S5x1_S5x2816_0_1 (broadcastInDim S5x1 ![0] bcast_S5_S5x1_0 (subi (ends g) (pads g))))) (cmpi .slt (broadcastInDim S5x2816 ![0, 1] bcast_S1x2816_S5x2816_0_1 (broadcastInDim S1x2816 ![1] bcast_S2816_S1x2816_1 (iotaInDim S2816 32 0))) (broadcastInDim S5x2816 ![0, 1] bcast_S5x1_S5x2816_0_1 (broadcastInDim S5x1 ![0] bcast_S5_S5x1_0 (ends g)))))

set_option maxRecDepth 16384 in
theorem res_eq (m : (ℓ : Loc nD τ sig) → Buf (Elt Ideal) ℓ) (c : Dev nD) : Cert.ReferenceIdeal.Value.res_main_v36 m c =
    mulf (Host.dotGeneral dot_S5x2816x6144_S2816x3072_S5x6144x3072_1_0_02_1_n_n (some .fp32) (select (broadcastInDim S5x2816x6144 ![0, 1, 2] bcast_S5x2816x1_S5x2816x6144_0_1_2 (broadcastInDim S5x2816x1 ![0, 1] bcast_S5x2816_S5x2816x1_0_1 (mine (m ((c.tc : Thread nD τ).loc main_arg0))))) (broadcastInDim S5x2816x6144 ![0, 1, 2] bcast_S1x2816x6144_S5x2816x6144_0_1_2 (extf .f32 (broadcastInDim S1x2816x6144 ![1, 2] bcast_S2816x6144_S1x2816x6144_1_2 (shapeCast _ (transpose S2816x12x256x2 [2, 0, 1, 3] (bitcastToFloat (F := Ideal) .bf16 (Host.bitcastConvertNarrow S12x256x2816x2 16 (m ((c.tc : Thread nD τ).loc main_arg4)) splits_S12x256x2816_w32_S12x256x2816x2_w16)) transposes_S12x256x2816x2_S2816x12x256x2_2_0_1_3) shapeCasts_S2816x12x256x2_S2816x6144)) bitsLt_bf16_f32)) (broadcastInDim S5x2816x6144 ![] bcast_S_S5x2816x6144 (id (constant S_ .f32 0x00000000#32)))) (extf .f32 (shapeCast _ (transpose S1408x2x3072 [0, 2, 1] (bitcastToFloat (F := Ideal) .bf16 (Host.bitcastConvertNarrow S1408x3072x2 16 (m ((c.tc : Thread nD τ).loc main_arg3)) splits_S1408x3072_w32_S1408x3072x2_w16)) transposes_S1408x3072x2_S1408x2x3072_0_2_1) shapeCasts_S1408x2x3072_S2816x3072) bitsLt_bf16_f32)) (broadcastInDim S5x6144x3072 ![] bcast_S_S5x6144x3072 (mulf (Host.divf (Host.reduce FloatOps.maximumf (m ((c.tc : Thread nD τ).loc main_arg1)) (constant S_ .f32 0xFF800000#32) reducesTo_S24_S_d0 h_S_) (constant S_ .f32 0x45280000#32)) (Host.divf (Host.reduce FloatOps.maximumf (m ((c.tc : Thread nD τ).loc main_arg2)) (constant S_ .f32 0xFF800000#32) reducesTo_S24_S_d0 h_S_) (constant S_ .f32 0x45280000#32)))) := rfl

/-- The sign of a word. -/
def sgn (x : BitVec 32) : BitVec 32 := if x = 0 then 0 else if x.msb then -1 else 1

/-- The rounding of one size, as the host does it. -/
def pad1 (w : BitVec 32) : BitVec 32 :=
  IntOp.muli (Scalar.select (IntOp.andi (IntOp.cmpi .ne (sgn (IntOp.addi w 255#32)) (sgn 256#32))
      (IntOp.cmpi .ne (IntOp.remsi .host (IntOp.addi w 255#32) 256#32) 0#32))
    (IntOp.subi (IntOp.divsi .host (IntOp.addi w 255#32) 256#32) 1#32) (IntOp.divsi .host (IntOp.addi w 255#32) 256#32)) 256#32

theorem pad1_small : ∀ n : Fin 1537, pad1 (BitVec.ofNat 32 n.val) = BitVec.ofNat 32 (256 * tiles n.val) := by decide +kernel

theorem pads_at (g : IVec S5 32) (i : S5.Idx) (h : (g i).toNat ≤ 1536) : pads g i = BitVec.ofNat 32 (256 * tiles (g i).toNat) := by
  have e : pads g i = pad1 (g i) := rfl
  rw [e]
  have := pad1_small ⟨(g i).toNat, by omega⟩
  rwa [show BitVec.ofNat 32 (g i).toNat = g i from by rw [BitVec.ofNat_toNat, BitVec.setWidth_eq]] at this

/-- The running sum of five counts of tiles, as rows. -/
theorem prefix_rows (a : Fin 5 → ℕ) (e : Fin 5) :
    ((((if (0 : Fin 5) ≤ e then BitVec.ofNat 32 (256 * a 0) else 0) + (if (1 : Fin 5) ≤ e then BitVec.ofNat 32 (256 * a 1) else 0))
        + (if (2 : Fin 5) ≤ e then BitVec.ofNat 32 (256 * a 2) else 0)) + (if (3 : Fin 5) ≤ e then BitVec.ofNat 32 (256 * a 3) else 0))
        + (if (4 : Fin 5) ≤ e then BitVec.ofNat 32 (256 * a 4) else 0)
      = BitVec.ofNat 32 (256 * ((![0, a 0, a 0 + a 1, a 0 + a 1 + a 2, a 0 + a 1 + a 2 + a 3] : Fin 5 → ℕ) e + a e)) := by
  have z : (0 : BitVec 32) = BitVec.ofNat 32 0 := rfl
  fin_cases e <;>
    simp only [Fin.isValue, Fin.mk_one, Fin.reduceFinMk, Fin.reduceLE, Fin.zero_eta, le_refl, if_true, if_false, reduceIte, z, ← BitVec.ofNat_add] <;>
    refine congrArg (BitVec.ofNat 32) ?_
  · show _ = 256 * (0 + a 0); omega
  · show _ = 256 * (a 0 + a 1); omega
  · show _ = 256 * (a 0 + a 1 + a 2); omega
  · show _ = 256 * (a 0 + a 1 + a 2 + a 3); omega
  · show _ = 256 * (a 0 + a 1 + a 2 + a 3 + a 4); omega

theorem ends_at (g : IVec S5 32) (h : ∀ i, (g i).toNat ≤ 1536) (e : Fin 5) :
    ends g (at5 e) = BitVec.ofNat 32 (256 * (ttOf (fun e => g (at5 e)) e + ntOf (fun e => g (at5 e)) e)) := by
  have s := Routing.cumsum_vec (N := 5) (Nm1 := 4) rfl (pads g) (broadcastInDim S_ ![] bcast_S_S_ (constantI S_ 32 0#32)) rfl reduceWindows_S5_S5_w5s1p4_0 h_S_ e
  have hi : ∀ e : Fin 5, (ValueIdx.ix1 e : S5.Idx) = at5 e := fun e => by funext a; fin_cases a; rfl
  simp only [hi] at s
  refine (show ends g (at5 e) = _ from s).trans ?_
  have hp : ∀ k : Fin 5, pads g (at5 k) = BitVec.ofNat 32 (256 * ntOf (fun e => g (at5 e)) k) := fun k => pads_at g _ (h _)
  simp only [hp, Fin.sum_univ_five]
  exact prefix_rows _ e

/-- An expert's rows are its whole tiles. -/
theorem mine_iff (g : IVec S5 32) (h : ∀ i, (g i).toNat ≤ 1536) (e : Fin 5) (hle : ttOf (fun e => g (at5 e)) e + ntOf (fun e => g (at5 e)) e ≤ 11) (r : Fin 2816) :
    mine g (Idealize.ShloMosaic.ix2 e r) = 1#1
      ↔ 256 * ttOf (fun e => g (at5 e)) e ≤ r.val ∧ r.val < 256 * (ttOf (fun e => g (at5 e)) e + ntOf (fun e => g (at5 e)) e) := by
  have he : (ends g : S5.Idx → BitVec 32) (at5 e) = _ := ends_at g h e
  have hp : pads g (at5 e) = BitVec.ofNat 32 (256 * ntOf (fun e => g (at5 e)) e) := pads_at g _ (h _)
  have hm : mine g (Idealize.ShloMosaic.ix2 e r)
      = IntOp.andi (IntOp.cmpi .sge (BitVec.ofNat 32 r.val) (IntOp.subi (ends g (at5 e)) (pads g (at5 e)))) (IntOp.cmpi .slt (BitVec.ofNat 32 r.val) (ends g (at5 e))) := by
    have hi : ∀ e : Fin 5, (Idealize.ShloMosaic.ix1 e : S5.Idx) = at5 e := fun e => by funext a; fin_cases a; rfl
    rw [← hi]
    unfold mine
    pointwise
  rw [hm, he, hp]
  generalize ttOf (fun e => g (at5 e)) e = t at *
  generalize ntOf (fun e => g (at5 e)) e = n at *
  have hs : IntOp.subi (BitVec.ofNat 32 (256 * (t + n))) (BitVec.ofNat 32 (256 * n)) = BitVec.ofNat 32 (256 * t) := by
    show BitVec.ofNat 32 (256 * (t + n)) - BitVec.ofNat 32 (256 * n) = _
    rw [show 256 * (t + n) = 256 * t + 256 * n by omega, BitVec.ofNat_add, BitVec.add_sub_cancel]
  have hr := r.isLt
  rw [hs, WordCmp.cmpi_sge_ofNat (by omega) (by omega), WordCmp.cmpi_slt_ofNat (by omega) (by omega)]
  by_cases h1 : 256 * t ≤ r.val <;> by_cases h2 : r.val < 256 * (t + n) <;> simp [h1, h2] <;> decide

/-- A sum over all rows of which only an expert's count is the sum over that expert's rows. -/
theorem sum_rows (t n K : ℕ) (hK : K = 256 * n) (hle : t + n ≤ 11) (p : Fin 2816 → Prop) [DecidablePred p]
    (hp : ∀ r, p r ↔ 256 * t ≤ r.val ∧ r.val < 256 * (t + n)) (x y : Fin 2816 → EReal) :
    ∑ r, (if p r then x r else 0) * y r = ∑ k : Fin K, x ⟨256 * t + k.val, by omega⟩ * y ⟨256 * t + k.val, by omega⟩ := by
  symm
  refine Finset.sum_of_injOn (fun k : Fin K => (⟨256 * t + k.val, by omega⟩ : Fin 2816)) ?_ (fun _ _ => Finset.mem_coe.2 (Finset.mem_univ _)) ?_ ?_
  · intro a _ b _ h
    exact Fin.ext (by have := Fin.mk.inj h; omega)
  · intro r _ hr
    rw [if_neg, zero_mul]
    intro hh
    have := (hp r).1 hh
    exact hr ⟨⟨r.val - 256 * t, by omega⟩, Finset.mem_coe.2 (Finset.mem_univ _), Fin.ext (by show 256 * t + (r.val - 256 * t) = r.val; omega)⟩
  · intro k _
    rw [if_pos]
    exact (hp _).2 ⟨by show 256 * t ≤ 256 * t + k.val; omega, by show 256 * t + k.val < _; omega⟩

end Cert.ReferenceIdeal.Pf

end
-- ==== Proof.Val5.lean ====
/- The kernel's product, element by element, over the reals. -/
module

public import proofs.«01_k».proof.Proof.Val1
public import proofs.«01_k».proof.Proof.Val3

@[expose] public section

set_option maxRecDepth 16384

noncomputable section

namespace Cert.Kernel.Pf

open Cert.Kernel Cert.Kernel.Gen
open Idealize.ShloMosaic Idealize.ShloMosaic.TcCoe Idealize.ShloMosaic.ValueIdx

theorem half_add (w : BitVec 32) (a k : ℕ) : half w (256 * a + k) = half w k := by
  unfold half
  rw [show (256 * a + k) % 2 = k % 2 by omega]

/-- A block of the product, from the words its two operands are read from. -/
theorem blkOf_at {K r n t : ℕ} (c : Dev nD) (a3 : Memref sig .tc .vmem S1408x3072 .i32) (gg : Ideal .f32)
    (pay : Vec Ideal ⟨2, ![256, K]⟩ .i32 → Vec Ideal ⟨2, ![r, 1536]⟩ .i32 → FVec Ideal S1x512x1536 .f32) (k : Fin 2)
    (iL : ∀ a, (![0, 256 * t] : Fin 2 → ℕ) a + (⟨2, ![256, K]⟩ : Shape).size a ≤ S256x2816.size a)
    (iR : ∀ a, (![128 * t, 1536 * k.val] : Fin 2 → ℕ) a + (⟨2, ![r, 1536]⟩ : Shape).size a ≤ S1408x3072.size a)
    (fl : BufOf (F := Ideal) c ltM) (fr : BufOf (F := Ideal) c a3) (hK : K = 256 * n) (hr : K = 2 * r) (hle : t + n ≤ 11) (i : Fin 512) (j : Fin 1536)
    (hpay : ∀ (a : (⟨2, ![256, K]⟩ : Shape).Idx → BitVec 32) (b : (⟨2, ![r, 1536]⟩ : Shape).Idx → BitVec 32),
      shapeCast S512x1536 (pay a b) shapeCasts_S1x512x1536_S512x1536 (ix2 i j)
        = (∑ k : Fin K, (half (a (ix2 ⟨i.val / 2, by omega⟩ k)) i.val * half (b (ix2 ⟨k.val / 2, by omega⟩ j)) k.val : EReal)) * gg) :
    blkOf c a3 pay ![0, 256 * t] ![128 * t, 1536 * k.val] iL iR fl fr (ix2 i j)
      = (∑ κ : Fin K, (half (ltM.view.read (Elt Ideal) fl (ix2 ⟨i.val / 2, by omega⟩ ⟨256 * t + κ.val, by omega⟩)) i.val
          * half (a3.view.read (Elt Ideal) fr (ix2 ⟨(256 * t + κ.val) / 2, by omega⟩ ⟨1536 * k.val + j.val, by omega⟩)) (256 * t + κ.val) : EReal)) * gg := by
  refine (hpay _ _).trans (congrArg (· * gg) (Finset.sum_congr rfl fun κ _ => ?_))
  rw [half_add]
  refine congrArg₂ (fun x y : BitVec 32 => (half x i.val * half y κ.val : EReal)) ?_ ?_
  · refine congrArg (ltM.view.read (Elt Ideal) fl) (funext fun a => Fin.ext ?_)
    match a with
    | ⟨0, _⟩ => show 0 + 1 * (i.val / 2) = i.val / 2; omega
    | ⟨1, _⟩ => show 256 * t + 1 * κ.val = 256 * t + κ.val; omega
  · refine congrArg (a3.view.read (Elt Ideal) fr) (funext fun a => Fin.ext ?_)
    match a with
    | ⟨0, _⟩ => show 128 * t + 1 * (κ.val / 2) = (256 * t + κ.val) / 2; omega
    | ⟨1, _⟩ => show 1536 * k.val + 1 * j.val = 1536 * k.val + j.val; omega

/-- The kernel's six widths, and none. -/
theorem blkV_at (c : Dev nD) (a3 : Memref sig .tc .vmem S1408x3072 .i32) (gg : Ideal .f32) (fl : BufOf (F := Ideal) c ltM) (fr : BufOf (F := Ideal) c a3)
    (n t : ℕ) (k : Fin 2) (hn : n ≤ 6) (hle : t + n ≤ 11) (i : Fin 512) (j : Fin 1536) :
    blkV c a3 gg fl fr n t k (ix2 i j)
      = (∑ κ : Fin (256 * n), (half (ltM.view.read (Elt Ideal) fl (ix2 ⟨i.val / 2, by omega⟩ ⟨256 * t + κ.val, by omega⟩)) i.val
          * half (a3.view.read (Elt Ideal) fr (ix2 ⟨(256 * t + κ.val) / 2, by omega⟩ ⟨1536 * k.val + j.val, by omega⟩)) (256 * t + κ.val) : EReal)) * gg := by
  have h7 : n = 0 ∨ n = 1 ∨ n = 2 ∨ n = 3 ∨ n = 4 ∨ n = 5 ∨ n = 6 := by omega
  unfold blkV
  rw [dif_pos hle]
  rcases h7 with rfl | rfl | rfl | rfl | rfl | rfl | rfl
  · show (Ideal.ofBits .f32 0#32 : EReal) = (∑ κ : Fin 0, _) * gg
    rw [Ideal.ofBits_zero_f32, Finset.univ_eq_empty, Finset.sum_empty, zero_mul]
  · exact blkOf_at c a3 gg _ k _ _ fl fr rfl rfl hle i j fun a b => pay_at (K := 256) (r := 128) _ rfl _ _ rfl gg a b _ _ i j
  · exact blkOf_at c a3 gg _ k _ _ fl fr rfl rfl hle i j fun a b => pay_at (K := 512) (r := 256) _ rfl _ _ rfl gg a b _ _ i j
  · exact blkOf_at c a3 gg _ k _ _ fl fr rfl rfl hle i j fun a b => pay_at (K := 768) (r := 384) _ rfl _ _ rfl gg a b _ _ i j
  · exact blkOf_at c a3 gg _ k _ _ fl fr rfl rfl hle i j fun a b => pay_at (K := 1024) (r := 512) _ rfl _ _ rfl gg a b _ _ i j
  · exact blkOf_at c a3 gg _ k _ _ fl fr rfl rfl hle i j fun a b => pay_at (K := 1280) (r := 640) _ rfl _ _ rfl gg a b _ _ i j
  · exact blkOf_at c a3 gg _ k _ _ fl fr rfl rfl hle i j fun a b => pay_at (K := 1536) (r := 768) _ rfl _ _ rfl gg a b _ _ i j

/-- The words of a chunk. -/
theorem ltq_at (c : Dev nD) (fx : BufOf (F := Ideal) c xM) (q : Fin 12) (a : Fin 256) (b : Fin 2816) :
    ltM.view.read (Elt Ideal) (ltq c fx q) (ix2 a b) = (fx (ix3 q a b : S12x256x2816.Idx) : BitVec 32) := by
  show ltq c fx q (ix2 a b) = _
  unfold ltq k0_pay18
  refine (congrFun (shapeCast_self _ _) _).trans ((shapeCast_dropUnit_apply ![256, 2816] _ _ (ix2 a b)).trans ?_)
  refine congrArg (xM.view.read (Elt Ideal) fx) (funext fun d => Fin.ext ?_)
  match d with
  | ⟨0, _⟩ => show q.val + 1 * 0 = q.val; omega
  | ⟨1, _⟩ => show 0 + 1 * a.val = a.val; omega
  | ⟨2, _⟩ => show 0 + 1 * b.val = b.val; omega

variable (m : (ℓ : Loc nD τ sig) → Buf (Elt Ideal) ℓ)

/-- An element of the product is its block's. -/
theorem Gd_at (c : Dev nD) (e : Fin 5) (q : Fin 12) (h : Fin 2) (i : Fin 512) (j : Fin 1536) :
    Gd m c (ix3 e ⟨512 * q.val + i.val, by omega⟩ ⟨1536 * h.val + j.val, by omega⟩ : S5x6144x3072.Idx) = blkM m c (e, q, h) (ix2 i j) := by
  rw [← Gd_read m c (e, q, h)]
  refine Eq.symm ((congrFun (Memref.read_squeeze_slice (Val := Elt Ideal) dwM (Rect.unit (s := S5x6144x3072) (blkOff (e, q, h)) S1x512x1536.size (inbBlk (e, q, h))) (fun _ => rfl)
    squeezes_S1x512x1536_S512x1536 shapeCasts_S1x512x1536_S512x1536 (Gd m c)) (ix2 i j)).trans ((shapeCast_dropUnit_apply ![512, 1536] _ _ (ix2 i j)).trans ?_))
  refine congrArg (dwM.view.read (Elt Ideal) (Gd m c)) (funext fun d => Fin.ext ?_)
  match d with
  | ⟨0, _⟩ => show e.val + 1 * 0 = e.val; omega
  | ⟨1, _⟩ => show 512 * q.val + 1 * i.val = 512 * q.val + i.val; omega
  | ⟨2, _⟩ => show 1536 * h.val + 1 * j.val = 1536 * h.val + j.val; omega

theorem f3m_read (c : Dev nD) : (st0_3 t0_0).view.read (Elt Ideal) (f3m m c) = m ((c : Thread nD τ).loc main_arg3) := by
  unfold f3m
  rw [View.read_write_univ, iblk_3]

/-- An element of the kernel's product: its expert's rows, times the two scales. -/
theorem dw_at (c : Dev nD) (hsum : Tokens (gm m c)) (e : Fin 5) (i : Fin 6144) (j : Fin 3072) (hle : ttOf (gm m c) e + ntOf (gm m c) e ≤ 11) :
    Gd m c (ix3 e i j : S5x6144x3072.Idx)
      = (∑ κ : Fin (256 * ntOf (gm m c) e),
          (half (m ((c : Thread nD τ).loc main_arg4) (ix3 ⟨i.val / 512, by omega⟩ ⟨i.val / 2 % 256, by omega⟩ ⟨256 * ttOf (gm m c) e + κ.val, by omega⟩ : S12x256x2816.Idx)) i.val
            * half (m ((c : Thread nD τ).loc main_arg3) (ix2 ⟨(256 * ttOf (gm m c) e + κ.val) / 2, by omega⟩ j : S1408x3072.Idx)) (256 * ttOf (gm m c) e + κ.val) : EReal))
        * (scale (hxm m c) * scale (hym m c) : EReal) := by
  have hq : i.val / 512 < 12 := by omega
  have hh : j.val / 1536 < 2 := by omega
  have g := Gd_at m c e ⟨i.val / 512, hq⟩ ⟨j.val / 1536, hh⟩ ⟨i.val % 512, by omega⟩ ⟨j.val % 1536, by omega⟩
  have ei : (⟨512 * (i.val / 512) + i.val % 512, by omega⟩ : Fin 6144) = i := Fin.ext (Nat.div_add_mod _ _)
  have ej : (⟨1536 * (j.val / 1536) + j.val % 1536, by omega⟩ : Fin 3072) = j := Fin.ext (Nat.div_add_mod _ _)
  rw [ei, ej] at g
  rw [g]
  unfold blkM
  refine (blkV_at c (st0_3 t0_0) _ _ _ _ _ _ (le6_of _ hsum e) hle _ _).trans ?_
  rw [gX_eq, gY_eq, pay17_const]
  refine congrArg (· * _) (Finset.sum_congr rfl fun κ _ => ?_)
  rw [ltq_at, f3m_read]
  have hp : half (V m c main_arg4 (ix3 ⟨i.val / 512, hq⟩ ⟨i.val % 512 / 2, by omega⟩ ⟨256 * ttOf (gm m c) e + κ.val, by omega⟩ : S12x256x2816.Idx)) (i.val % 512)
      = half (m ((c : Thread nD τ).loc main_arg4) (ix3 ⟨i.val / 512, by omega⟩ ⟨i.val / 2 % 256, by omega⟩ ⟨256 * ttOf (gm m c) e + κ.val, by omega⟩ : S12x256x2816.Idx)) i.val := by
    unfold half
    rw [show i.val % 512 % 2 = i.val % 2 by omega, show (⟨i.val % 512 / 2, by omega⟩ : Fin 256) = ⟨i.val / 2 % 256, by omega⟩ from Fin.ext (by show i.val % 512 / 2 = i.val / 2 % 256; omega)]
  refine congrArg₂ (fun x y : EReal => x * y) hp ?_
  exact congrArg (fun J => half (m ((c : Thread nD τ).loc main_arg3) (ix2 _ J : S1408x3072.Idx)) _) ej

end Cert.Kernel.Pf

end
-- ==== Proof.Val6.lean ====
/- The kernel's results are the reference's, over the reals. -/
module

public import proofs.«01_k».proof.Proof.Val4
public import proofs.«01_k».proof.Proof.Val5
public import proofs.«01_k».proof.Proof.Frames
public import proofs.«01_k».proof.Proof.Gen.On_all_but_new_entry

@[expose] public section

set_option maxRecDepth 16384

noncomputable section

namespace Cert.ReferenceIdeal.Pf

open Cert.ReferenceIdeal Cert.ReferenceIdeal.Gen
open Idealize.ShloMosaic Idealize.ShloMosaic.TcCoe
open Cert.Kernel.Pf (tiles ntOf ttOf scale ix24)

variable (m : (ℓ : Loc nD τ sig) → Buf (Elt Ideal) ℓ)

/-- An element of the reference's product. -/
theorem ref_dw (c : Dev nD) (g : Fin 5 → BitVec 32) (hg : ∀ e, g e = (m ((c.tc : Thread nD τ).loc main_arg0) : S5.Idx → BitVec 32) (at5 e))
    (h : ∀ e, (g e).toNat ≤ 1536) (e : Fin 5) (i : Fin 6144) (j : Fin 3072) (hle : ttOf g e + ntOf g e ≤ 11) :
    Cert.ReferenceIdeal.Value.res_main_v36 m c (ValueIdx.ix3 e i j : S5x6144x3072.Idx)
      = (∑ κ : Fin (256 * ntOf g e),
          (half ((m ((c.tc : Thread nD τ).loc main_arg4) : S12x256x2816.Idx → BitVec 32) (ValueIdx.ix3 ⟨i.val / 512, by omega⟩ ⟨i.val / 2 % 256, by omega⟩ ⟨256 * ttOf g e + κ.val, by omega⟩)) i.val
            * half ((m ((c.tc : Thread nD τ).loc main_arg3) : S1408x3072.Idx → BitVec 32) (ValueIdx.ix2 ⟨(256 * ttOf g e + κ.val) / 2, by omega⟩ j)) (256 * ttOf g e + κ.val) : EReal))
        * (scale (fun k => (m ((c.tc : Thread nD τ).loc main_arg1) : S24.Idx → Ideal .f32) (ix24 k)) * scale (fun k => (m ((c.tc : Thread nD τ).loc main_arg2) : S24.Idx → Ideal .f32) (ix24 k)) : EReal) := by
  obtain rfl : g = fun e => (m ((c.tc : Thread nD τ).loc main_arg0) : S5.Idx → BitVec 32) (at5 e) := funext hg
  have hi : ∀ i, ((m ((c.tc : Thread nD τ).loc main_arg0) : S5.Idx → BitVec 32) i).toNat ≤ 1536 := fun i => by
    rw [Cert.Kernel.Pf.ix5_surj i]; exact h (i 0)
  have i3 : (ValueIdx.ix3 e i j : S5x6144x3072.Idx) = Idealize.ShloMosaic.ix3 e i j := by funext a; fin_cases a <;> rfl
  rw [res_eq, i3]
  refine congrArg₂ (fun x y : EReal => x * y) ((dw_at _ _ _ e i j).trans ?_) ?_
  · refine (sum_rows (ttOf _ e) (ntOf _ e) _ rfl hle _ (fun r => mine_iff _ hi e hle r) _ _).trans (Finset.sum_congr rfl fun κ _ => ?_)
    have j3 : ∀ (a : Fin 12) (b : Fin 256) (r : Fin 2816), (Idealize.ShloMosaic.ix3 a b r : S12x256x2816.Idx) = ValueIdx.ix3 a b r := fun a b r => by funext d; fin_cases d <;> rfl
    have j2 : ∀ (a : Fin 1408) (b : Fin 3072), (Idealize.ShloMosaic.ix2 a b : S1408x3072.Idx) = ValueIdx.ix2 a b := fun a b => by funext d; fin_cases d <;> rfl
    rw [j3, j2]
  · exact congrArg₂ (fun x y : EReal => x * y) (scale_eq _ _) (scale_eq _ _)

/-- Past its new entry a history is the old one. -/
theorem hist_at (h : FVec Ideal S24 .f32) (k : Fin 23) :
    concatenate S24 0 [⟨S1, (broadcastInDim S1 ![] bcast_S_S1 (constant (F := Ideal) S_ .f32 0x00000000#32))⟩, ⟨S23, (extractStridedSlice S23 ![0] h slices_S24_S23_0)⟩] concatenates_S1_S23_S24_d0 (ix24 k.succ)
      = h (ix24 k.castSucc) := by
  rw [concatenate_pair_apply, dif_neg (by show ¬ (k.val + 1 < 1); omega)]
  refine congrArg h (funext fun a => Fin.ext ?_)
  fin_cases a
  show 0 + (k.val + 1 - 1) = k.val
  omega

/-- A scale in its one cell. -/
theorem cell_at (h : FVec Ideal S24 .f32) (i : S1.Idx) :
    shapeCast S1 (Host.divf (F := Ideal) (Host.reduce FloatOps.maximumf h (constant S_ .f32 0xFF800000#32) reducesTo_S24_S_d0 h_S_) (constant S_ .f32 0x45280000#32)) shapeCasts_S_S1 i
      = scale fun k => h (ix24 k) := scale_eq h _

end Cert.ReferenceIdeal.Pf

namespace Cert.Proof

open Idealize.ShloMosaic Idealize.ShloMosaic.TcCoe Idealize.SL Idealize.SL.Sem
open Cert.Kernel Cert.Kernel.Gen Cert.Kernel.Pf

theorem mask_pos (i : S24.Idx) (h : cmpi (s := S24) .sgt (iotaInDim S24 32 0) (fun _ => 0#32) i = 1#1) : ∃ k : Fin 23, i = ix24 k.succ := by
  have hi : i = ix24 (i 0) := by funext a; fin_cases a; rfl
  have h' : IntOp.cmpi .sgt (BitVec.ofNat 32 (i 0).val) 0#32 = 1#1 := h
  have hlt : (i 0).val < 24 := (i 0).isLt
  rw [WordCmp.cmpi_sgt_ofNat (by omega) (by omega)] at h'
  have hp : 0 < (i 0).val := by
    by_contra hn
    rw [decide_eq_false hn] at h'
    exact absurd h' (by decide)
  exact ⟨⟨(i 0).val - 1, by omega⟩, hi.trans (congrArg ix24 (Fin.ext (by show (i 0).val = (i 0).val - 1 + 1; omega)))⟩

/-- A history moved on by one entry. -/
def moved (h : S24.Idx → Ideal .f32) (i : S24.Idx) : Ideal .f32 := h fun a => ⟨(i a).val - 1, by have := (i a).isLt; omega⟩
theorem moved_at (h : S24.Idx → Ideal .f32) (k : Fin 23) : moved h (ix24 k.succ) = h (ix24 k.castSucc) :=
  congrArg h (funext fun a => Fin.ext (by fin_cases a; show k.val + 1 - 1 = k.val; omega))

theorem hxm_eq (m : (ℓ : Loc nD τ sig) → Buf (Elt Ideal) ℓ) (c : Dev nD) : hxm m c = fun k => (m ((c.tc : Thread nD τ).loc main_arg1) : S24.Idx → Ideal .f32) (ix24 k) :=
  funext fun k => by unfold hxm; rw [iblk_1]
theorem hym_eq (m : (ℓ : Loc nD τ sig) → Buf (Elt Ideal) ℓ) (c : Dev nD) : hym m c = fun k => (m ((c.tc : Thread nD τ).loc main_arg2) : S24.Idx → Ideal .f32) (ix24 k) :=
  funext fun k => by unfold hym; rw [iblk_2]

/-- The two products are one. -/
theorem dw_eq (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
    (hs : Tokens (gm m c))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (i : S5x6144x3072.Idx) : Cert.ReferenceIdeal.Value.res_main_v36 m' c i = (Gd m c i : Ideal .f32) := by
  have hi : i = ValueIdx.ix3 (i 0) (i 1) (i 2) := ValueIdx.eq_ix3 i
  rw [hi]
  have hle := le11_of (gm m c) hs (i 0)
  refine (Cert.ReferenceIdeal.Pf.ref_dw m' c (gm m c) (fun e => by rw [h0]; exact gm_eq m c e) (tiles_le _ hs) (i 0) (i 1) (i 2) hle).trans
    (Eq.trans ?_ (Cert.Kernel.Pf.dw_at m c hs (i 0) (i 1) (i 2) hle).symm)
  rw [h1, h2, h3, h4, hxm_eq, hym_eq]

/-- Over the reals, from the same arguments, both programs leave the same results. -/
theorem algebraic : Cert.algebraic_KernelIdeal_ReferenceIdeal_on_all_but_new_entry := by
  intro m g m' g' hpre hargs
  have hR : Routed (F := Ideal) m := hpre
  refine ⟨fun c => Gd m c, fun c _ => scale (hxm m c), fun c _ => scale (hym m c),
    fun c => moved (m ((c.tc : Thread nD τ).loc main_arg1)), fun c => moved (m ((c.tc : Thread nD τ).loc main_arg2)), ?_, ?_⟩
  · refine (θ_run _ _ _).mono (fun r hr c => ?_) (run_ideal (F := Ideal) m g hR)
    have L := hr.1 c
    refine ⟨fun i _ => congrFun L.dw i, fun i _ => (L.gx i).trans ?_, fun i _ => (L.gy i).trans ?_, fun i hi => ?_, fun i hi => ?_, L.a0, L.a1, L.a2, L.a3, L.a4⟩
    · rw [gX_eq, pay15_const]
    · rw [gY_eq, pay15_const]
    · obtain ⟨k, rfl⟩ := mask_pos i hi
      refine (L.hx k).trans (Eq.trans ?_ (moved_at _ k).symm)
      rw [hxm_eq]
    · obtain ⟨k, rfl⟩ := mask_pos i hi
      refine (L.hy k).trans (Eq.trans ?_ (moved_at _ k).symm)
      rw [hym_eq]
  · refine (θ_run _ _ _).mono (fun r hr c => ?_) (Cert.ReferenceIdeal.Value.run (F := Ideal) m' g')
    obtain ⟨r0, r1, r2, r3, r4, ra⟩ := hr c
    obtain ⟨h0, h1, h2, h3, h4⟩ := hargs c
    refine ⟨fun i _ => (congrFun r0 i).trans (dw_eq m m' c (hsum m hR c) h0 h1 h2 h3 h4 i), fun i _ => (congrFun r1 i).trans ?_, fun i _ => (congrFun r2 i).trans ?_,
      fun i hi => ?_, fun i hi => ?_, ra⟩
    · refine (Cert.ReferenceIdeal.Pf.cell_at _ i).trans ?_
      rw [h1]
      exact congrArg scale (hxm_eq m c).symm
    · refine (Cert.ReferenceIdeal.Pf.cell_at _ i).trans ?_
      rw [h2]
      exact congrArg scale (hym_eq m c).symm
    · obtain ⟨k, rfl⟩ := mask_pos i hi
      refine (congrFun r3 _).trans ((Cert.ReferenceIdeal.Pf.hist_at _ k).trans (Eq.trans ?_ (moved_at _ k).symm))
      rw [h1]
    · obtain ⟨k, rfl⟩ := mask_pos i hi
      refine (congrFun r4 _).trans ((Cert.ReferenceIdeal.Pf.hist_at _ k).trans (Eq.trans ?_ (moved_at _ k).symm))
      rw [h2]

end Cert.Proof

end
-- ==== Proof.lean ====
/- The certificate's claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Pre_tokens_routed
public import proofs.«01_k».proof.Proof.Gen.On_all_but_new_entry
public import proofs.«01_k».proof.Proof.Gen.ReferenceIdeal
public import proofs.«01_k».proof.Proof.Gen.ReferenceIdeal.Run
public import proofs.«01_k».proof.Proof.Frames
public import proofs.«01_k».proof.Proof.Val6

@[expose] public section

theorem Cert.Proof.claim : Cert.Claim :=
  ⟨Cert.Kernel.Gen.facts, Cert.KernelIdeal.Gen.facts, Cert.ReferenceIdeal.Gen.facts, Cert.Pre_tokens_routed.Gen.facts, Cert.On_all_but_new_entry.Gen.facts,
    Cert.Proof.frame_kernel, Cert.Proof.frame_kernelIdeal, Cert.Proof.frame_reference, fun m g _ => Cert.Proof.frame_reference m g trivial, trivial,
    Cert.Proof.algebraic⟩

end
